-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_QueryProj (m : (ℓ : Loc Cert.QueryProj.nD Cert.QueryProj.τ Cert.QueryProj.sig) → Buf (Elt Bits) ℓ) : Prop :=
  True

def Pre_QueryProjIdeal (m : (ℓ : Loc Cert.QueryProjIdeal.nD Cert.QueryProjIdeal.τ Cert.QueryProjIdeal.sig) → Buf (Elt Ideal) ℓ) : Prop :=
  True

def Pre_QueryProjRefIdeal (m : (ℓ : Loc Cert.QueryProjRefIdeal.nD Cert.QueryProjRefIdeal.τ Cert.QueryProjRefIdeal.sig) → Buf (Elt Ideal) ℓ) : Prop :=
  True

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleRefIdeal (m : (ℓ : Loc Cert.InProjSampleRefIdeal.nD Cert.InProjSampleRefIdeal.τ Cert.InProjSampleRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvSample (m : (ℓ : Loc Cert.ConvSample.nD Cert.ConvSample.τ Cert.ConvSample.sig) → Buf (Elt Bits) ℓ) : Prop :=
  True

def Pre_ConvSampleIdeal (m : (ℓ : Loc Cert.ConvSampleIdeal.nD Cert.ConvSampleIdeal.τ Cert.ConvSampleIdeal.sig) → Buf (Elt Ideal) ℓ) : Prop :=
  True

def Pre_ConvSampleRefIdeal (m : (ℓ : Loc Cert.ConvSampleRefIdeal.nD Cert.ConvSampleRefIdeal.τ Cert.ConvSampleRefIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleRefIdeal (m : (ℓ : Loc Cert.NormSampleRefIdeal.nD Cert.NormSampleRefIdeal.τ Cert.NormSampleRefIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_finite [hPre_finite : Cert.Pre_finite.Facts] (m : (ℓ : Loc Cert.MobaIdeal.nD Cert.MobaIdeal.τ Cert.MobaIdeal.sig) → Buf (Elt Ideal) ℓ) : Prop :=
  ∀ c : Dev Cert.MobaIdeal.nD,
    (Cert.Pre_finite.fn (F := Ideal) (m ((c.tc : Thread Cert.MobaIdeal.nD Cert.MobaIdeal.τ).loc Cert.MobaIdeal.main_arg0))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_finite [hPre_finite : Cert.Pre_finite.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_finite.fn (F := Ideal) (m ((c.tc : Thread Cert.MobaRefIdeal.nD Cert.MobaRefIdeal.τ).loc Cert.MobaRefIdeal.main_arg0))) = (fun _ => 1#1)

def Pre_Peer (m : (ℓ : Loc Cert.Peer.nD Cert.Peer.τ Cert.Peer.sig) → Buf (Elt Bits) ℓ) : Prop :=
  True

def Pre_PeerIdeal (m : (ℓ : Loc Cert.PeerIdeal.nD Cert.PeerIdeal.τ Cert.PeerIdeal.sig) → Buf (Elt Ideal) ℓ) : Prop :=
  True

def Pre_PeerRefIdeal (m : (ℓ : Loc Cert.PeerRefIdeal.nD Cert.PeerRefIdeal.τ Cert.PeerRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_QueryProj [hQueryProj : Cert.QueryProj.Facts] : Prop :=
  ∀ (m : (ℓ : Loc Cert.QueryProj.nD Cert.QueryProj.τ Cert.QueryProj.sig) → Buf (Elt Bits) ℓ) (g : Dev Cert.QueryProj.nD → PrngReg), Pre_QueryProj m →
    θ_run (Cert.QueryProj.defs (F := Bits)) (onTc (τ := Cert.QueryProj.τ) (Cert.QueryProj.main (F := Bits))) ⟨m, fun _ => 0, g⟩ (fun r => (∀ c : Dev Cert.QueryProj.nD,
      r.2.mem ((c.tc : Thread Cert.QueryProj.nD Cert.QueryProj.τ).loc Cert.QueryProj.main_arg0) = m ((c.tc : Thread Cert.QueryProj.nD Cert.QueryProj.τ).loc Cert.QueryProj.main_arg0)
      ∧ r.2.mem ((c.tc : Thread Cert.QueryProj.nD Cert.QueryProj.τ).loc Cert.QueryProj.main_arg1) = m ((c.tc : Thread Cert.QueryProj.nD Cert.QueryProj.τ).loc Cert.QueryProj.main_arg1))
      ∧ r.2.sem = fun _ => 0)

def quiescent_QueryProjIdeal [hQueryProjIdeal : Cert.QueryProjIdeal.Facts] : Prop :=
  ∀ (m : (ℓ : Loc Cert.QueryProjIdeal.nD Cert.QueryProjIdeal.τ Cert.QueryProjIdeal.sig) → Buf (Elt Ideal) ℓ) (g : Dev Cert.QueryProjIdeal.nD → PrngReg), Pre_QueryProjIdeal m →
    θ_run (Cert.QueryProjIdeal.defs (F := Ideal)) (onTc (τ := Cert.QueryProjIdeal.τ) (Cert.QueryProjIdeal.main (F := Ideal))) ⟨m, fun _ => 0, g⟩ (fun r => (∀ c : Dev Cert.QueryProjIdeal.nD,
      r.2.mem ((c.tc : Thread Cert.QueryProjIdeal.nD Cert.QueryProjIdeal.τ).loc Cert.QueryProjIdeal.main_arg0) = m ((c.tc : Thread Cert.QueryProjIdeal.nD Cert.QueryProjIdeal.τ).loc Cert.QueryProjIdeal.main_arg0)
      ∧ r.2.mem ((c.tc : Thread Cert.QueryProjIdeal.nD Cert.QueryProjIdeal.τ).loc Cert.QueryProjIdeal.main_arg1) = m ((c.tc : Thread Cert.QueryProjIdeal.nD Cert.QueryProjIdeal.τ).loc Cert.QueryProjIdeal.main_arg1))
      ∧ r.2.sem = fun _ => 0)

def quiescent_QueryProjRefIdeal [hQueryProjRefIdeal : Cert.QueryProjRefIdeal.Facts] : Prop :=
  ∀ (m : (ℓ : Loc Cert.QueryProjRefIdeal.nD Cert.QueryProjRefIdeal.τ Cert.QueryProjRefIdeal.sig) → Buf (Elt Ideal) ℓ) (g : Dev Cert.QueryProjRefIdeal.nD → PrngReg), Pre_QueryProjRefIdeal m →
    θ_run (Cert.QueryProjRefIdeal.defs (F := Ideal)) (onTc (τ := Cert.QueryProjRefIdeal.τ) (Cert.QueryProjRefIdeal.main (F := Ideal))) ⟨m, fun _ => 0, g⟩ (fun r => (∀ c : Dev Cert.QueryProjRefIdeal.nD,
      r.2.mem ((c.tc : Thread Cert.QueryProjRefIdeal.nD Cert.QueryProjRefIdeal.τ).loc Cert.QueryProjRefIdeal.main_arg0) = m ((c.tc : Thread Cert.QueryProjRefIdeal.nD Cert.QueryProjRefIdeal.τ).loc Cert.QueryProjRefIdeal.main_arg0)
      ∧ r.2.mem ((c.tc : Thread Cert.QueryProjRefIdeal.nD Cert.QueryProjRefIdeal.τ).loc Cert.QueryProjRefIdeal.main_arg1) = m ((c.tc : Thread Cert.QueryProjRefIdeal.nD Cert.QueryProjRefIdeal.τ).loc Cert.QueryProjRefIdeal.main_arg1))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1))
      ∧ r.2.sem = fun _ => 0)

def quiescent_InProjSampleRefIdeal [hInProjSampleRefIdeal : Cert.InProjSampleRefIdeal.Facts] : Prop :=
  ∀ (m : (ℓ : Loc Cert.InProjSampleRefIdeal.nD Cert.InProjSampleRefIdeal.τ Cert.InProjSampleRefIdeal.sig) → Buf (Elt Ideal) ℓ) (g : Dev Cert.InProjSampleRefIdeal.nD → PrngReg), Pre_InProjSampleRefIdeal m →
    θ_run (Cert.InProjSampleRefIdeal.defs (F := Ideal)) (onTc (τ := Cert.InProjSampleRefIdeal.τ) (Cert.InProjSampleRefIdeal.main (F := Ideal))) ⟨m, fun _ => 0, g⟩ (fun r => (∀ c : Dev Cert.InProjSampleRefIdeal.nD,
      r.2.mem ((c.tc : Thread Cert.InProjSampleRefIdeal.nD Cert.InProjSampleRefIdeal.τ).loc Cert.InProjSampleRefIdeal.main_arg0) = m ((c.tc : Thread Cert.InProjSampleRefIdeal.nD Cert.InProjSampleRefIdeal.τ).loc Cert.InProjSampleRefIdeal.main_arg0)
      ∧ r.2.mem ((c.tc : Thread Cert.InProjSampleRefIdeal.nD Cert.InProjSampleRefIdeal.τ).loc Cert.InProjSampleRefIdeal.main_arg1) = m ((c.tc : Thread Cert.InProjSampleRefIdeal.nD Cert.InProjSampleRefIdeal.τ).loc Cert.InProjSampleRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_ConvSample [hConvSample : Cert.ConvSample.Facts] : Prop :=
  ∀ (m : (ℓ : Loc Cert.ConvSample.nD Cert.ConvSample.τ Cert.ConvSample.sig) → Buf (Elt Bits) ℓ) (g : Dev Cert.ConvSample.nD → PrngReg), Pre_ConvSample m →
    θ_run (Cert.ConvSample.defs (F := Bits)) (onTc (τ := Cert.ConvSample.τ) (Cert.ConvSample.main (F := Bits))) ⟨m, fun _ => 0, g⟩ (fun r => (∀ c : Dev Cert.ConvSample.nD,
      r.2.mem ((c.tc : Thread Cert.ConvSample.nD Cert.ConvSample.τ).loc Cert.ConvSample.main_arg0) = m ((c.tc : Thread Cert.ConvSample.nD Cert.ConvSample.τ).loc Cert.ConvSample.main_arg0)
      ∧ r.2.mem ((c.tc : Thread Cert.ConvSample.nD Cert.ConvSample.τ).loc Cert.ConvSample.main_arg1) = m ((c.tc : Thread Cert.ConvSample.nD Cert.ConvSample.τ).loc Cert.ConvSample.main_arg1)
      ∧ r.2.mem ((c.tc : Thread Cert.ConvSample.nD Cert.ConvSample.τ).loc Cert.ConvSample.main_arg2) = m ((c.tc : Thread Cert.ConvSample.nD Cert.ConvSample.τ).loc Cert.ConvSample.main_arg2))
      ∧ r.2.sem = fun _ => 0)

def quiescent_ConvSampleIdeal [hConvSampleIdeal : Cert.ConvSampleIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg), Pre_ConvSampleIdeal m →
    θ_run (Cert.ConvSampleIdeal.defs (F := Ideal)) (onTc (τ := Cert.ConvSampleIdeal.τ) (Cert.ConvSampleIdeal.main (F := Ideal))) ⟨m, fun _ => 0, g⟩ (fun r => (∀ c : Dev Cert.ConvSampleIdeal.nD,
      r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
      ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
      ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2))
      ∧ r.2.sem = fun _ => 0)

def quiescent_ConvSampleRefIdeal [hConvSampleRefIdeal : Cert.ConvSampleRefIdeal.Facts] : Prop :=
  ∀ (m : (ℓ : Loc Cert.ConvSampleRefIdeal.nD Cert.ConvSampleRefIdeal.τ Cert.ConvSampleRefIdeal.sig) → Buf (Elt Ideal) ℓ) (g : Dev Cert.ConvSampleRefIdeal.nD → PrngReg), Pre_ConvSampleRefIdeal m →
    θ_run (Cert.ConvSampleRefIdeal.defs (F := Ideal)) (onTc (τ := Cert.ConvSampleRefIdeal.τ) (Cert.ConvSampleRefIdeal.main (F := Ideal))) ⟨m, fun _ => 0, g⟩ (fun r => (∀ c : Dev Cert.ConvSampleRefIdeal.nD,
      r.2.mem ((c.tc : Thread Cert.ConvSampleRefIdeal.nD Cert.ConvSampleRefIdeal.τ).loc Cert.ConvSampleRefIdeal.main_arg0) = m ((c.tc : Thread Cert.ConvSampleRefIdeal.nD Cert.ConvSampleRefIdeal.τ).loc Cert.ConvSampleRefIdeal.main_arg0)
      ∧ r.2.mem ((c.tc : Thread Cert.ConvSampleRefIdeal.nD Cert.ConvSampleRefIdeal.τ).loc Cert.ConvSampleRefIdeal.main_arg1) = m ((c.tc : Thread Cert.ConvSampleRefIdeal.nD Cert.ConvSampleRefIdeal.τ).loc Cert.ConvSampleRefIdeal.main_arg1)
      ∧ r.2.mem ((c.tc : Thread Cert.ConvSampleRefIdeal.nD Cert.ConvSampleRefIdeal.τ).loc Cert.ConvSampleRefIdeal.main_arg2) = m ((c.tc : Thread Cert.ConvSampleRefIdeal.nD Cert.ConvSampleRefIdeal.τ).loc Cert.ConvSampleRefIdeal.main_arg2))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1)
      ∧ r.2.mem ((c.tc : Thread Cert.NormSample.nD Cert.NormSample.τ).loc Cert.NormSample.main_arg2) = m ((c.tc : Thread Cert.NormSample.nD Cert.NormSample.τ).loc Cert.NormSample.main_arg2)
      ∧ r.2.mem ((c.tc : Thread Cert.NormSample.nD Cert.NormSample.τ).loc Cert.NormSample.main_arg3) = m ((c.tc : Thread Cert.NormSample.nD Cert.NormSample.τ).loc Cert.NormSample.main_arg3))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1)
      ∧ r.2.mem ((c.tc : Thread Cert.NormSampleIdeal.nD Cert.NormSampleIdeal.τ).loc Cert.NormSampleIdeal.main_arg2) = m ((c.tc : Thread Cert.NormSampleIdeal.nD Cert.NormSampleIdeal.τ).loc Cert.NormSampleIdeal.main_arg2)
      ∧ r.2.mem ((c.tc : Thread Cert.NormSampleIdeal.nD Cert.NormSampleIdeal.τ).loc Cert.NormSampleIdeal.main_arg3) = m ((c.tc : Thread Cert.NormSampleIdeal.nD Cert.NormSampleIdeal.τ).loc Cert.NormSampleIdeal.main_arg3))
      ∧ r.2.sem = fun _ => 0)

def quiescent_NormSampleRefIdeal [hNormSampleRefIdeal : Cert.NormSampleRefIdeal.Facts] : Prop :=
  ∀ (m : (ℓ : Loc Cert.NormSampleRefIdeal.nD Cert.NormSampleRefIdeal.τ Cert.NormSampleRefIdeal.sig) → Buf (Elt Ideal) ℓ) (g : Dev Cert.NormSampleRefIdeal.nD → PrngReg), Pre_NormSampleRefIdeal m →
    θ_run (Cert.NormSampleRefIdeal.defs (F := Ideal)) (onTc (τ := Cert.NormSampleRefIdeal.τ) (Cert.NormSampleRefIdeal.main (F := Ideal))) ⟨m, fun _ => 0, g⟩ (fun r => (∀ c : Dev Cert.NormSampleRefIdeal.nD,
      r.2.mem ((c.tc : Thread Cert.NormSampleRefIdeal.nD Cert.NormSampleRefIdeal.τ).loc Cert.NormSampleRefIdeal.main_arg0) = m ((c.tc : Thread Cert.NormSampleRefIdeal.nD Cert.NormSampleRefIdeal.τ).loc Cert.NormSampleRefIdeal.main_arg0)
      ∧ r.2.mem ((c.tc : Thread Cert.NormSampleRefIdeal.nD Cert.NormSampleRefIdeal.τ).loc Cert.NormSampleRefIdeal.main_arg1) = m ((c.tc : Thread Cert.NormSampleRefIdeal.nD Cert.NormSampleRefIdeal.τ).loc Cert.NormSampleRefIdeal.main_arg1)
      ∧ r.2.mem ((c.tc : Thread Cert.NormSampleRefIdeal.nD Cert.NormSampleRefIdeal.τ).loc Cert.NormSampleRefIdeal.main_arg2) = m ((c.tc : Thread Cert.NormSampleRefIdeal.nD Cert.NormSampleRefIdeal.τ).loc Cert.NormSampleRefIdeal.main_arg2)
      ∧ r.2.mem ((c.tc : Thread Cert.NormSampleRefIdeal.nD Cert.NormSampleRefIdeal.τ).loc Cert.NormSampleRefIdeal.main_arg3) = m ((c.tc : Thread Cert.NormSampleRefIdeal.nD Cert.NormSampleRefIdeal.τ).loc Cert.NormSampleRefIdeal.main_arg3))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ r.2.sem = fun _ => 0)

def quiescent_MobaIdeal_pre_finite [hMobaIdeal : Cert.MobaIdeal.Facts] [hPre_finite : Cert.Pre_finite.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_finite m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0))
      ∧ r.2.sem = fun _ => 0)

def quiescent_MobaRefIdeal_pre_finite [hMobaRefIdeal : Cert.MobaRefIdeal.Facts] [hPre_finite : Cert.Pre_finite.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_finite m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0))
      ∧ r.2.sem = fun _ => 0)

def quiescent_Peer [hPeer : Cert.Peer.Facts] : Prop :=
  ∀ (m : (ℓ : Loc Cert.Peer.nD Cert.Peer.τ Cert.Peer.sig) → Buf (Elt Bits) ℓ) (g : Dev Cert.Peer.nD → PrngReg), Pre_Peer m →
    θ_run (Cert.Peer.defs (F := Bits)) (onTc (τ := Cert.Peer.τ) (Cert.Peer.main (F := Bits))) ⟨m, fun _ => 0, g⟩ (fun r => (∀ c : Dev Cert.Peer.nD,
      r.2.mem ((c.tc : Thread Cert.Peer.nD Cert.Peer.τ).loc Cert.Peer.main_arg0) = m ((c.tc : Thread Cert.Peer.nD Cert.Peer.τ).loc Cert.Peer.main_arg0)
      ∧ r.2.mem ((c.tc : Thread Cert.Peer.nD Cert.Peer.τ).loc Cert.Peer.main_arg1) = m ((c.tc : Thread Cert.Peer.nD Cert.Peer.τ).loc Cert.Peer.main_arg1)
      ∧ r.2.mem ((c.tc : Thread Cert.Peer.nD Cert.Peer.τ).loc Cert.Peer.main_arg2) = m ((c.tc : Thread Cert.Peer.nD Cert.Peer.τ).loc Cert.Peer.main_arg2)
      ∧ r.2.mem ((c.tc : Thread Cert.Peer.nD Cert.Peer.τ).loc Cert.Peer.main_arg3) = m ((c.tc : Thread Cert.Peer.nD Cert.Peer.τ).loc Cert.Peer.main_arg3)
      ∧ r.2.mem ((c.tc : Thread Cert.Peer.nD Cert.Peer.τ).loc Cert.Peer.main_arg4) = m ((c.tc : Thread Cert.Peer.nD Cert.Peer.τ).loc Cert.Peer.main_arg4)
      ∧ r.2.mem ((c.tc : Thread Cert.Peer.nD Cert.Peer.τ).loc Cert.Peer.main_arg5) = m ((c.tc : Thread Cert.Peer.nD Cert.Peer.τ).loc Cert.Peer.main_arg5)
      ∧ r.2.mem ((c.tc : Thread Cert.Peer.nD Cert.Peer.τ).loc Cert.Peer.main_arg6) = m ((c.tc : Thread Cert.Peer.nD Cert.Peer.τ).loc Cert.Peer.main_arg6))
      ∧ r.2.sem = fun _ => 0)

def quiescent_PeerIdeal [hPeerIdeal : Cert.PeerIdeal.Facts] : Prop :=
  ∀ (m : (ℓ : Loc Cert.PeerIdeal.nD Cert.PeerIdeal.τ Cert.PeerIdeal.sig) → Buf (Elt Ideal) ℓ) (g : Dev Cert.PeerIdeal.nD → PrngReg), Pre_PeerIdeal m →
    θ_run (Cert.PeerIdeal.defs (F := Ideal)) (onTc (τ := Cert.PeerIdeal.τ) (Cert.PeerIdeal.main (F := Ideal))) ⟨m, fun _ => 0, g⟩ (fun r => (∀ c : Dev Cert.PeerIdeal.nD,
      r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
      ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
      ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2)
      ∧ r.2.mem ((c.tc : Thread Cert.PeerIdeal.nD Cert.PeerIdeal.τ).loc Cert.PeerIdeal.main_arg3) = m ((c.tc : Thread Cert.PeerIdeal.nD Cert.PeerIdeal.τ).loc Cert.PeerIdeal.main_arg3)
      ∧ r.2.mem ((c.tc : Thread Cert.PeerIdeal.nD Cert.PeerIdeal.τ).loc Cert.PeerIdeal.main_arg4) = m ((c.tc : Thread Cert.PeerIdeal.nD Cert.PeerIdeal.τ).loc Cert.PeerIdeal.main_arg4)
      ∧ r.2.mem ((c.tc : Thread Cert.PeerIdeal.nD Cert.PeerIdeal.τ).loc Cert.PeerIdeal.main_arg5) = m ((c.tc : Thread Cert.PeerIdeal.nD Cert.PeerIdeal.τ).loc Cert.PeerIdeal.main_arg5)
      ∧ r.2.mem ((c.tc : Thread Cert.PeerIdeal.nD Cert.PeerIdeal.τ).loc Cert.PeerIdeal.main_arg6) = m ((c.tc : Thread Cert.PeerIdeal.nD Cert.PeerIdeal.τ).loc Cert.PeerIdeal.main_arg6))
      ∧ r.2.sem = fun _ => 0)

def quiescent_PeerRefIdeal [hPeerRefIdeal : Cert.PeerRefIdeal.Facts] : Prop :=
  ∀ (m : (ℓ : Loc Cert.PeerRefIdeal.nD Cert.PeerRefIdeal.τ Cert.PeerRefIdeal.sig) → Buf (Elt Ideal) ℓ) (g : Dev Cert.PeerRefIdeal.nD → PrngReg), Pre_PeerRefIdeal m →
    θ_run (Cert.PeerRefIdeal.defs (F := Ideal)) (onTc (τ := Cert.PeerRefIdeal.τ) (Cert.PeerRefIdeal.main (F := Ideal))) ⟨m, fun _ => 0, g⟩ (fun r => (∀ c : Dev Cert.PeerRefIdeal.nD,
      r.2.mem ((c.tc : Thread Cert.PeerRefIdeal.nD Cert.PeerRefIdeal.τ).loc Cert.PeerRefIdeal.main_arg0) = m ((c.tc : Thread Cert.PeerRefIdeal.nD Cert.PeerRefIdeal.τ).loc Cert.PeerRefIdeal.main_arg0)
      ∧ r.2.mem ((c.tc : Thread Cert.PeerRefIdeal.nD Cert.PeerRefIdeal.τ).loc Cert.PeerRefIdeal.main_arg1) = m ((c.tc : Thread Cert.PeerRefIdeal.nD Cert.PeerRefIdeal.τ).loc Cert.PeerRefIdeal.main_arg1)
      ∧ r.2.mem ((c.tc : Thread Cert.PeerRefIdeal.nD Cert.PeerRefIdeal.τ).loc Cert.PeerRefIdeal.main_arg2) = m ((c.tc : Thread Cert.PeerRefIdeal.nD Cert.PeerRefIdeal.τ).loc Cert.PeerRefIdeal.main_arg2)
      ∧ r.2.mem ((c.tc : Thread Cert.PeerRefIdeal.nD Cert.PeerRefIdeal.τ).loc Cert.PeerRefIdeal.main_arg3) = m ((c.tc : Thread Cert.PeerRefIdeal.nD Cert.PeerRefIdeal.τ).loc Cert.PeerRefIdeal.main_arg3)
      ∧ r.2.mem ((c.tc : Thread Cert.PeerRefIdeal.nD Cert.PeerRefIdeal.τ).loc Cert.PeerRefIdeal.main_arg4) = m ((c.tc : Thread Cert.PeerRefIdeal.nD Cert.PeerRefIdeal.τ).loc Cert.PeerRefIdeal.main_arg4)
      ∧ r.2.mem ((c.tc : Thread Cert.PeerRefIdeal.nD Cert.PeerRefIdeal.τ).loc Cert.PeerRefIdeal.main_arg5) = m ((c.tc : Thread Cert.PeerRefIdeal.nD Cert.PeerRefIdeal.τ).loc Cert.PeerRefIdeal.main_arg5)
      ∧ r.2.mem ((c.tc : Thread Cert.PeerRefIdeal.nD Cert.PeerRefIdeal.τ).loc Cert.PeerRefIdeal.main_arg6) = m ((c.tc : Thread Cert.PeerRefIdeal.nD Cert.PeerRefIdeal.τ).loc Cert.PeerRefIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_QueryProj_QueryProjIdeal : Prop :=
  True

def algebraic_QueryProjIdeal_QueryProjRefIdeal [hQueryProjIdeal : Cert.QueryProjIdeal.Facts] [hQueryProjRefIdeal : Cert.QueryProjRefIdeal.Facts] : Prop :=
  ∀ (m : (ℓ : Loc Cert.QueryProjIdeal.nD Cert.QueryProjIdeal.τ Cert.QueryProjIdeal.sig) → Buf (Elt Ideal) ℓ) (g : Dev Cert.QueryProjIdeal.nD → PrngReg)
    (m' : (ℓ : Loc Cert.QueryProjRefIdeal.nD Cert.QueryProjRefIdeal.τ Cert.QueryProjRefIdeal.sig) → Buf (Elt Ideal) ℓ) (g' : Dev Cert.QueryProjRefIdeal.nD → PrngReg), Pre_QueryProjIdeal m →
    (∀ c : Dev Cert.QueryProjIdeal.nD,
      m' ((c.tc : Thread Cert.QueryProjRefIdeal.nD Cert.QueryProjRefIdeal.τ).loc Cert.QueryProjRefIdeal.main_arg0) = m ((c.tc : Thread Cert.QueryProjIdeal.nD Cert.QueryProjIdeal.τ).loc Cert.QueryProjIdeal.main_arg0)
      ∧ m' ((c.tc : Thread Cert.QueryProjRefIdeal.nD Cert.QueryProjRefIdeal.τ).loc Cert.QueryProjRefIdeal.main_arg1) = m ((c.tc : Thread Cert.QueryProjIdeal.nD Cert.QueryProjIdeal.τ).loc Cert.QueryProjIdeal.main_arg1)) →
    ∃ (v0 : (c : Dev Cert.QueryProjIdeal.nD) → Buf (Elt Ideal) ((c.tc : Thread Cert.QueryProjIdeal.nD Cert.QueryProjIdeal.τ).loc Cert.QueryProjIdeal.main_v0)),
      θ_run (Cert.QueryProjIdeal.defs (F := Ideal)) (onTc (τ := Cert.QueryProjIdeal.τ) (Cert.QueryProjIdeal.main (F := Ideal))) ⟨m, fun _ => 0, g⟩ (fun r => ∀ c : Dev Cert.QueryProjIdeal.nD,
          r.2.mem ((c.tc : Thread Cert.QueryProjIdeal.nD Cert.QueryProjIdeal.τ).loc Cert.QueryProjIdeal.main_v0) = v0 c
          ∧ r.2.mem ((c.tc : Thread Cert.QueryProjIdeal.nD Cert.QueryProjIdeal.τ).loc Cert.QueryProjIdeal.main_arg0) = m ((c.tc : Thread Cert.QueryProjIdeal.nD Cert.QueryProjIdeal.τ).loc Cert.QueryProjIdeal.main_arg0)
          ∧ r.2.mem ((c.tc : Thread Cert.QueryProjIdeal.nD Cert.QueryProjIdeal.τ).loc Cert.QueryProjIdeal.main_arg1) = m ((c.tc : Thread Cert.QueryProjIdeal.nD Cert.QueryProjIdeal.τ).loc Cert.QueryProjIdeal.main_arg1))
      ∧ θ_run (Cert.QueryProjRefIdeal.defs (F := Ideal)) (onTc (τ := Cert.QueryProjRefIdeal.τ) (Cert.QueryProjRefIdeal.main (F := Ideal))) ⟨m', fun _ => 0, g'⟩ (fun r => ∀ c : Dev Cert.QueryProjRefIdeal.nD,
          r.2.mem ((c.tc : Thread Cert.QueryProjRefIdeal.nD Cert.QueryProjRefIdeal.τ).loc Cert.QueryProjRefIdeal.main_v1) = v0 c
          ∧ r.2.mem ((c.tc : Thread Cert.QueryProjRefIdeal.nD Cert.QueryProjRefIdeal.τ).loc Cert.QueryProjRefIdeal.main_arg0) = m' ((c.tc : Thread Cert.QueryProjRefIdeal.nD Cert.QueryProjRefIdeal.τ).loc Cert.QueryProjRefIdeal.main_arg0)
          ∧ r.2.mem ((c.tc : Thread Cert.QueryProjRefIdeal.nD Cert.QueryProjRefIdeal.τ).loc Cert.QueryProjRefIdeal.main_arg1) = m' ((c.tc : Thread Cert.QueryProjRefIdeal.nD Cert.QueryProjRefIdeal.τ).loc Cert.QueryProjRefIdeal.main_arg1))

def preserves_InProjSample_InProjSampleIdeal : Prop :=
  True

def algebraic_InProjSampleIdeal_InProjSampleRefIdeal [hInProjSampleIdeal : Cert.InProjSampleIdeal.Facts] [hInProjSampleRefIdeal : Cert.InProjSampleRefIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleRefIdeal.nD Cert.InProjSampleRefIdeal.τ Cert.InProjSampleRefIdeal.sig) → Buf (Elt Ideal) ℓ) (g' : Dev Cert.InProjSampleRefIdeal.nD → PrngReg), Pre_InProjSampleIdeal m →
    (∀ c : Dev Cert.InProjSampleIdeal.nD,
      m' ((c.tc : Thread Cert.InProjSampleRefIdeal.nD Cert.InProjSampleRefIdeal.τ).loc Cert.InProjSampleRefIdeal.main_arg0) = m ((c.tc : Thread Cert.InProjSampleIdeal.nD Cert.InProjSampleIdeal.τ).loc Cert.InProjSampleIdeal.main_arg0)
      ∧ m' ((c.tc : Thread Cert.InProjSampleRefIdeal.nD Cert.InProjSampleRefIdeal.τ).loc Cert.InProjSampleRefIdeal.main_arg1) = m ((c.tc : Thread Cert.InProjSampleIdeal.nD Cert.InProjSampleIdeal.τ).loc Cert.InProjSampleIdeal.main_arg1)) →
    ∃ (v0 : (c : Dev Cert.InProjSampleIdeal.nD) → Buf (Elt Ideal) ((c.tc : Thread Cert.InProjSampleIdeal.nD Cert.InProjSampleIdeal.τ).loc Cert.InProjSampleIdeal.main_v0)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v0) = v0 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1))
      ∧ θ_run (Cert.InProjSampleRefIdeal.defs (F := Ideal)) (onTc (τ := Cert.InProjSampleRefIdeal.τ) (Cert.InProjSampleRefIdeal.main (F := Ideal))) ⟨m', fun _ => 0, g'⟩ (fun r => ∀ c : Dev Cert.InProjSampleRefIdeal.nD,
          r.2.mem ((c.tc : Thread Cert.InProjSampleRefIdeal.nD Cert.InProjSampleRefIdeal.τ).loc Cert.InProjSampleRefIdeal.main_v1) = v0 c
          ∧ r.2.mem ((c.tc : Thread Cert.InProjSampleRefIdeal.nD Cert.InProjSampleRefIdeal.τ).loc Cert.InProjSampleRefIdeal.main_arg0) = m' ((c.tc : Thread Cert.InProjSampleRefIdeal.nD Cert.InProjSampleRefIdeal.τ).loc Cert.InProjSampleRefIdeal.main_arg0)
          ∧ r.2.mem ((c.tc : Thread Cert.InProjSampleRefIdeal.nD Cert.InProjSampleRefIdeal.τ).loc Cert.InProjSampleRefIdeal.main_arg1) = m' ((c.tc : Thread Cert.InProjSampleRefIdeal.nD Cert.InProjSampleRefIdeal.τ).loc Cert.InProjSampleRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v26) = v0 c
          ∧ r.2.mem ((c.tc : Thread Cert.NormRefIdeal.nD Cert.NormRefIdeal.τ).loc Cert.NormRefIdeal.main_v27) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v27) = v0 c
          ∧ r.2.mem ((c.tc : Thread Cert.ConvRefIdeal.nD Cert.ConvRefIdeal.τ).loc Cert.ConvRefIdeal.main_v28) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_ConvSample_ConvSampleIdeal : Prop :=
  True

def algebraic_ConvSampleIdeal_ConvSampleRefIdeal [hConvSampleIdeal : Cert.ConvSampleIdeal.Facts] [hConvSampleRefIdeal : Cert.ConvSampleRefIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg)
    (m' : (ℓ : Loc Cert.ConvSampleRefIdeal.nD Cert.ConvSampleRefIdeal.τ Cert.ConvSampleRefIdeal.sig) → Buf (Elt Ideal) ℓ) (g' : Dev Cert.ConvSampleRefIdeal.nD → PrngReg), Pre_ConvSampleIdeal m →
    (∀ c : Dev Cert.ConvSampleIdeal.nD,
      m' ((c.tc : Thread Cert.ConvSampleRefIdeal.nD Cert.ConvSampleRefIdeal.τ).loc Cert.ConvSampleRefIdeal.main_arg0) = m ((c.tc : Thread Cert.ConvSampleIdeal.nD Cert.ConvSampleIdeal.τ).loc Cert.ConvSampleIdeal.main_arg0)
      ∧ m' ((c.tc : Thread Cert.ConvSampleRefIdeal.nD Cert.ConvSampleRefIdeal.τ).loc Cert.ConvSampleRefIdeal.main_arg1) = m ((c.tc : Thread Cert.ConvSampleIdeal.nD Cert.ConvSampleIdeal.τ).loc Cert.ConvSampleIdeal.main_arg1)
      ∧ m' ((c.tc : Thread Cert.ConvSampleRefIdeal.nD Cert.ConvSampleRefIdeal.τ).loc Cert.ConvSampleRefIdeal.main_arg2) = m ((c.tc : Thread Cert.ConvSampleIdeal.nD Cert.ConvSampleIdeal.τ).loc Cert.ConvSampleIdeal.main_arg2)) →
    ∃ (v0 : (c : Dev Cert.ConvSampleIdeal.nD) → Buf (Elt Ideal) ((c.tc : Thread Cert.ConvSampleIdeal.nD Cert.ConvSampleIdeal.τ).loc Cert.ConvSampleIdeal.main_v0_0)) (v1 : (c : Dev Cert.ConvSampleIdeal.nD) → Buf (Elt Ideal) ((c.tc : Thread Cert.ConvSampleIdeal.nD Cert.ConvSampleIdeal.τ).loc Cert.ConvSampleIdeal.main_v0_1)),
      θ_run (Cert.ConvSampleIdeal.defs (F := Ideal)) (onTc (τ := Cert.ConvSampleIdeal.τ) (Cert.ConvSampleIdeal.main (F := Ideal))) ⟨m, fun _ => 0, g⟩ (fun r => ∀ c : Dev Cert.ConvSampleIdeal.nD,
          r.2.mem ((c.tc : Thread Cert.ConvSampleIdeal.nD Cert.ConvSampleIdeal.τ).loc Cert.ConvSampleIdeal.main_v0_0) = v0 c
          ∧ r.2.mem ((c.tc : Thread Cert.ConvSampleIdeal.nD Cert.ConvSampleIdeal.τ).loc Cert.ConvSampleIdeal.main_v0_1) = v1 c
          ∧ r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
          ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
          ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2))
      ∧ θ_run (Cert.ConvSampleRefIdeal.defs (F := Ideal)) (onTc (τ := Cert.ConvSampleRefIdeal.τ) (Cert.ConvSampleRefIdeal.main (F := Ideal))) ⟨m', fun _ => 0, g'⟩ (fun r => ∀ c : Dev Cert.ConvSampleRefIdeal.nD,
          r.2.mem ((c.tc : Thread Cert.ConvSampleRefIdeal.nD Cert.ConvSampleRefIdeal.τ).loc Cert.ConvSampleRefIdeal.main_v26) = v0 c
          ∧ r.2.mem ((c.tc : Thread Cert.ConvSampleRefIdeal.nD Cert.ConvSampleRefIdeal.τ).loc Cert.ConvSampleRefIdeal.main_v27) = v1 c
          ∧ r.2.mem ((c.tc : Thread Cert.ConvSampleRefIdeal.nD Cert.ConvSampleRefIdeal.τ).loc Cert.ConvSampleRefIdeal.main_arg0) = m' ((c.tc : Thread Cert.ConvSampleRefIdeal.nD Cert.ConvSampleRefIdeal.τ).loc Cert.ConvSampleRefIdeal.main_arg0)
          ∧ r.2.mem ((c.tc : Thread Cert.ConvSampleRefIdeal.nD Cert.ConvSampleRefIdeal.τ).loc Cert.ConvSampleRefIdeal.main_arg1) = m' ((c.tc : Thread Cert.ConvSampleRefIdeal.nD Cert.ConvSampleRefIdeal.τ).loc Cert.ConvSampleRefIdeal.main_arg1)
          ∧ r.2.mem ((c.tc : Thread Cert.ConvSampleRefIdeal.nD Cert.ConvSampleRefIdeal.τ).loc Cert.ConvSampleRefIdeal.main_arg2) = m' ((c.tc : Thread Cert.ConvSampleRefIdeal.nD Cert.ConvSampleRefIdeal.τ).loc Cert.ConvSampleRefIdeal.main_arg2))

def preserves_NormSample_NormSampleIdeal : Prop :=
  True

def algebraic_NormSampleIdeal_NormSampleRefIdeal [hNormSampleIdeal : Cert.NormSampleIdeal.Facts] [hNormSampleRefIdeal : Cert.NormSampleRefIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleRefIdeal.nD Cert.NormSampleRefIdeal.τ Cert.NormSampleRefIdeal.sig) → Buf (Elt Ideal) ℓ) (g' : Dev Cert.NormSampleRefIdeal.nD → PrngReg), Pre_NormSampleIdeal m →
    (∀ c : Dev Cert.NormSampleIdeal.nD,
      m' ((c.tc : Thread Cert.NormSampleRefIdeal.nD Cert.NormSampleRefIdeal.τ).loc Cert.NormSampleRefIdeal.main_arg0) = m ((c.tc : Thread Cert.NormSampleIdeal.nD Cert.NormSampleIdeal.τ).loc Cert.NormSampleIdeal.main_arg0)
      ∧ m' ((c.tc : Thread Cert.NormSampleRefIdeal.nD Cert.NormSampleRefIdeal.τ).loc Cert.NormSampleRefIdeal.main_arg1) = m ((c.tc : Thread Cert.NormSampleIdeal.nD Cert.NormSampleIdeal.τ).loc Cert.NormSampleIdeal.main_arg1)
      ∧ m' ((c.tc : Thread Cert.NormSampleRefIdeal.nD Cert.NormSampleRefIdeal.τ).loc Cert.NormSampleRefIdeal.main_arg2) = m ((c.tc : Thread Cert.NormSampleIdeal.nD Cert.NormSampleIdeal.τ).loc Cert.NormSampleIdeal.main_arg2)
      ∧ m' ((c.tc : Thread Cert.NormSampleRefIdeal.nD Cert.NormSampleRefIdeal.τ).loc Cert.NormSampleRefIdeal.main_arg3) = m ((c.tc : Thread Cert.NormSampleIdeal.nD Cert.NormSampleIdeal.τ).loc Cert.NormSampleIdeal.main_arg3)) →
    ∃ (v0 : (c : Dev Cert.NormSampleIdeal.nD) → Buf (Elt Ideal) ((c.tc : Thread Cert.NormSampleIdeal.nD Cert.NormSampleIdeal.τ).loc Cert.NormSampleIdeal.main_v2_0)) (v1 : (c : Dev Cert.NormSampleIdeal.nD) → Buf (Elt Ideal) ((c.tc : Thread Cert.NormSampleIdeal.nD Cert.NormSampleIdeal.τ).loc Cert.NormSampleIdeal.main_v2_1)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v2_0) = v0 c
          ∧ r.2.mem ((c.tc : Thread Cert.NormSampleIdeal.nD Cert.NormSampleIdeal.τ).loc Cert.NormSampleIdeal.main_v2_1) = v1 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1)
          ∧ r.2.mem ((c.tc : Thread Cert.NormSampleIdeal.nD Cert.NormSampleIdeal.τ).loc Cert.NormSampleIdeal.main_arg2) = m ((c.tc : Thread Cert.NormSampleIdeal.nD Cert.NormSampleIdeal.τ).loc Cert.NormSampleIdeal.main_arg2)
          ∧ r.2.mem ((c.tc : Thread Cert.NormSampleIdeal.nD Cert.NormSampleIdeal.τ).loc Cert.NormSampleIdeal.main_arg3) = m ((c.tc : Thread Cert.NormSampleIdeal.nD Cert.NormSampleIdeal.τ).loc Cert.NormSampleIdeal.main_arg3))
      ∧ θ_run (Cert.NormSampleRefIdeal.defs (F := Ideal)) (onTc (τ := Cert.NormSampleRefIdeal.τ) (Cert.NormSampleRefIdeal.main (F := Ideal))) ⟨m', fun _ => 0, g'⟩ (fun r => ∀ c : Dev Cert.NormSampleRefIdeal.nD,
          r.2.mem ((c.tc : Thread Cert.NormSampleRefIdeal.nD Cert.NormSampleRefIdeal.τ).loc Cert.NormSampleRefIdeal.main_v26) = v0 c
          ∧ r.2.mem ((c.tc : Thread Cert.NormSampleRefIdeal.nD Cert.NormSampleRefIdeal.τ).loc Cert.NormSampleRefIdeal.main_v27) = v1 c
          ∧ r.2.mem ((c.tc : Thread Cert.NormSampleRefIdeal.nD Cert.NormSampleRefIdeal.τ).loc Cert.NormSampleRefIdeal.main_arg0) = m' ((c.tc : Thread Cert.NormSampleRefIdeal.nD Cert.NormSampleRefIdeal.τ).loc Cert.NormSampleRefIdeal.main_arg0)
          ∧ r.2.mem ((c.tc : Thread Cert.NormSampleRefIdeal.nD Cert.NormSampleRefIdeal.τ).loc Cert.NormSampleRefIdeal.main_arg1) = m' ((c.tc : Thread Cert.NormSampleRefIdeal.nD Cert.NormSampleRefIdeal.τ).loc Cert.NormSampleRefIdeal.main_arg1)
          ∧ r.2.mem ((c.tc : Thread Cert.NormSampleRefIdeal.nD Cert.NormSampleRefIdeal.τ).loc Cert.NormSampleRefIdeal.main_arg2) = m' ((c.tc : Thread Cert.NormSampleRefIdeal.nD Cert.NormSampleRefIdeal.τ).loc Cert.NormSampleRefIdeal.main_arg2)
          ∧ r.2.mem ((c.tc : Thread Cert.NormSampleRefIdeal.nD Cert.NormSampleRefIdeal.τ).loc Cert.NormSampleRefIdeal.main_arg3) = m' ((c.tc : Thread Cert.NormSampleRefIdeal.nD Cert.NormSampleRefIdeal.τ).loc Cert.NormSampleRefIdeal.main_arg3))

def preserves_Moba_MobaIdeal : Prop :=
  True

def algebraic_MobaIdeal_MobaRefIdeal_pre_finite [hMobaIdeal : Cert.MobaIdeal.Facts] [hMobaRefIdeal : Cert.MobaRefIdeal.Facts] [hPre_finite : Cert.Pre_finite.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_finite m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)) →
    ∃ (v0 : (c : Dev Cert.MobaIdeal.nD) → Buf (Elt Ideal) ((c.tc : Thread Cert.MobaIdeal.nD Cert.MobaIdeal.τ).loc Cert.MobaIdeal.main_v0)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v0) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v69) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0))

def preserves_Peer_PeerIdeal : Prop :=
  True

def algebraic_PeerIdeal_PeerRefIdeal [hPeerIdeal : Cert.PeerIdeal.Facts] [hPeerRefIdeal : Cert.PeerRefIdeal.Facts] : Prop :=
  ∀ (m : (ℓ : Loc Cert.PeerIdeal.nD Cert.PeerIdeal.τ Cert.PeerIdeal.sig) → Buf (Elt Ideal) ℓ) (g : Dev Cert.PeerIdeal.nD → PrngReg)
    (m' : (ℓ : Loc Cert.PeerRefIdeal.nD Cert.PeerRefIdeal.τ Cert.PeerRefIdeal.sig) → Buf (Elt Ideal) ℓ) (g' : Dev Cert.PeerRefIdeal.nD → PrngReg), Pre_PeerIdeal m →
    (∀ c : Dev Cert.PeerIdeal.nD,
      m' ((c.tc : Thread Cert.PeerRefIdeal.nD Cert.PeerRefIdeal.τ).loc Cert.PeerRefIdeal.main_arg0) = m ((c.tc : Thread Cert.PeerIdeal.nD Cert.PeerIdeal.τ).loc Cert.PeerIdeal.main_arg0)
      ∧ m' ((c.tc : Thread Cert.PeerRefIdeal.nD Cert.PeerRefIdeal.τ).loc Cert.PeerRefIdeal.main_arg1) = m ((c.tc : Thread Cert.PeerIdeal.nD Cert.PeerIdeal.τ).loc Cert.PeerIdeal.main_arg1)
      ∧ m' ((c.tc : Thread Cert.PeerRefIdeal.nD Cert.PeerRefIdeal.τ).loc Cert.PeerRefIdeal.main_arg2) = m ((c.tc : Thread Cert.PeerIdeal.nD Cert.PeerIdeal.τ).loc Cert.PeerIdeal.main_arg2)
      ∧ m' ((c.tc : Thread Cert.PeerRefIdeal.nD Cert.PeerRefIdeal.τ).loc Cert.PeerRefIdeal.main_arg3) = m ((c.tc : Thread Cert.PeerIdeal.nD Cert.PeerIdeal.τ).loc Cert.PeerIdeal.main_arg3)
      ∧ m' ((c.tc : Thread Cert.PeerRefIdeal.nD Cert.PeerRefIdeal.τ).loc Cert.PeerRefIdeal.main_arg4) = m ((c.tc : Thread Cert.PeerIdeal.nD Cert.PeerIdeal.τ).loc Cert.PeerIdeal.main_arg4)
      ∧ m' ((c.tc : Thread Cert.PeerRefIdeal.nD Cert.PeerRefIdeal.τ).loc Cert.PeerRefIdeal.main_arg5) = m ((c.tc : Thread Cert.PeerIdeal.nD Cert.PeerIdeal.τ).loc Cert.PeerIdeal.main_arg5)
      ∧ m' ((c.tc : Thread Cert.PeerRefIdeal.nD Cert.PeerRefIdeal.τ).loc Cert.PeerRefIdeal.main_arg6) = m ((c.tc : Thread Cert.PeerIdeal.nD Cert.PeerIdeal.τ).loc Cert.PeerIdeal.main_arg6)) →
    ∃ (v0 : (c : Dev Cert.PeerIdeal.nD) → Buf (Elt Ideal) ((c.tc : Thread Cert.PeerIdeal.nD Cert.PeerIdeal.τ).loc Cert.PeerIdeal.main_v0)),
      θ_run (Cert.PeerIdeal.defs (F := Ideal)) (onTc (τ := Cert.PeerIdeal.τ) (Cert.PeerIdeal.main (F := Ideal))) ⟨m, fun _ => 0, g⟩ (fun r => ∀ c : Dev Cert.PeerIdeal.nD,
          r.2.mem ((c.tc : Thread Cert.PeerIdeal.nD Cert.PeerIdeal.τ).loc Cert.PeerIdeal.main_v0) = v0 c
          ∧ r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
          ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
          ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2)
          ∧ r.2.mem ((c.tc : Thread Cert.PeerIdeal.nD Cert.PeerIdeal.τ).loc Cert.PeerIdeal.main_arg3) = m ((c.tc : Thread Cert.PeerIdeal.nD Cert.PeerIdeal.τ).loc Cert.PeerIdeal.main_arg3)
          ∧ r.2.mem ((c.tc : Thread Cert.PeerIdeal.nD Cert.PeerIdeal.τ).loc Cert.PeerIdeal.main_arg4) = m ((c.tc : Thread Cert.PeerIdeal.nD Cert.PeerIdeal.τ).loc Cert.PeerIdeal.main_arg4)
          ∧ r.2.mem ((c.tc : Thread Cert.PeerIdeal.nD Cert.PeerIdeal.τ).loc Cert.PeerIdeal.main_arg5) = m ((c.tc : Thread Cert.PeerIdeal.nD Cert.PeerIdeal.τ).loc Cert.PeerIdeal.main_arg5)
          ∧ r.2.mem ((c.tc : Thread Cert.PeerIdeal.nD Cert.PeerIdeal.τ).loc Cert.PeerIdeal.main_arg6) = m ((c.tc : Thread Cert.PeerIdeal.nD Cert.PeerIdeal.τ).loc Cert.PeerIdeal.main_arg6))
      ∧ θ_run (Cert.PeerRefIdeal.defs (F := Ideal)) (onTc (τ := Cert.PeerRefIdeal.τ) (Cert.PeerRefIdeal.main (F := Ideal))) ⟨m', fun _ => 0, g'⟩ (fun r => ∀ c : Dev Cert.PeerRefIdeal.nD,
          r.2.mem ((c.tc : Thread Cert.PeerRefIdeal.nD Cert.PeerRefIdeal.τ).loc Cert.PeerRefIdeal.main_v27) = v0 c
          ∧ r.2.mem ((c.tc : Thread Cert.PeerRefIdeal.nD Cert.PeerRefIdeal.τ).loc Cert.PeerRefIdeal.main_arg0) = m' ((c.tc : Thread Cert.PeerRefIdeal.nD Cert.PeerRefIdeal.τ).loc Cert.PeerRefIdeal.main_arg0)
          ∧ r.2.mem ((c.tc : Thread Cert.PeerRefIdeal.nD Cert.PeerRefIdeal.τ).loc Cert.PeerRefIdeal.main_arg1) = m' ((c.tc : Thread Cert.PeerRefIdeal.nD Cert.PeerRefIdeal.τ).loc Cert.PeerRefIdeal.main_arg1)
          ∧ r.2.mem ((c.tc : Thread Cert.PeerRefIdeal.nD Cert.PeerRefIdeal.τ).loc Cert.PeerRefIdeal.main_arg2) = m' ((c.tc : Thread Cert.PeerRefIdeal.nD Cert.PeerRefIdeal.τ).loc Cert.PeerRefIdeal.main_arg2)
          ∧ r.2.mem ((c.tc : Thread Cert.PeerRefIdeal.nD Cert.PeerRefIdeal.τ).loc Cert.PeerRefIdeal.main_arg3) = m' ((c.tc : Thread Cert.PeerRefIdeal.nD Cert.PeerRefIdeal.τ).loc Cert.PeerRefIdeal.main_arg3)
          ∧ r.2.mem ((c.tc : Thread Cert.PeerRefIdeal.nD Cert.PeerRefIdeal.τ).loc Cert.PeerRefIdeal.main_arg4) = m' ((c.tc : Thread Cert.PeerRefIdeal.nD Cert.PeerRefIdeal.τ).loc Cert.PeerRefIdeal.main_arg4)
          ∧ r.2.mem ((c.tc : Thread Cert.PeerRefIdeal.nD Cert.PeerRefIdeal.τ).loc Cert.PeerRefIdeal.main_arg5) = m' ((c.tc : Thread Cert.PeerRefIdeal.nD Cert.PeerRefIdeal.τ).loc Cert.PeerRefIdeal.main_arg5)
          ∧ r.2.mem ((c.tc : Thread Cert.PeerRefIdeal.nD Cert.PeerRefIdeal.τ).loc Cert.PeerRefIdeal.main_arg6) = m' ((c.tc : Thread Cert.PeerRefIdeal.nD Cert.PeerRefIdeal.τ).loc Cert.PeerRefIdeal.main_arg6))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hQueryProj : Cert.QueryProj.Facts) (hQueryProjIdeal : Cert.QueryProjIdeal.Facts) (hQueryProjRefIdeal : Cert.QueryProjRefIdeal.Facts) (hInProjSample : Cert.InProjSample.Facts) (hInProjSampleIdeal : Cert.InProjSampleIdeal.Facts) (hInProjSampleRefIdeal : Cert.InProjSampleRefIdeal.Facts) (hNorm : Cert.Norm.Facts) (hNormIdeal : Cert.NormIdeal.Facts) (hNormRefIdeal : Cert.NormRefIdeal.Facts) (hConv : Cert.Conv.Facts) (hConvIdeal : Cert.ConvIdeal.Facts) (hConvRefIdeal : Cert.ConvRefIdeal.Facts) (hConvSample : Cert.ConvSample.Facts) (hConvSampleIdeal : Cert.ConvSampleIdeal.Facts) (hConvSampleRefIdeal : Cert.ConvSampleRefIdeal.Facts) (hNormSample : Cert.NormSample.Facts) (hNormSampleIdeal : Cert.NormSampleIdeal.Facts) (hNormSampleRefIdeal : Cert.NormSampleRefIdeal.Facts) (hMoba : Cert.Moba.Facts) (hMobaIdeal : Cert.MobaIdeal.Facts) (hMobaRefIdeal : Cert.MobaRefIdeal.Facts) (hPeer : Cert.Peer.Facts) (hPeerIdeal : Cert.PeerIdeal.Facts) (hPeerRefIdeal : Cert.PeerRefIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_QueryProj (hQueryProj := hQueryProj)
    ∧ quiescent_QueryProjIdeal (hQueryProjIdeal := hQueryProjIdeal)
    ∧ quiescent_QueryProjRefIdeal (hQueryProjRefIdeal := hQueryProjRefIdeal)
    ∧ quiescent_InProjSample (hInProjSample := hInProjSample)
    ∧ quiescent_InProjSampleIdeal (hInProjSampleIdeal := hInProjSampleIdeal)
    ∧ quiescent_InProjSampleRefIdeal (hInProjSampleRefIdeal := hInProjSampleRefIdeal)
    ∧ quiescent_Norm (hNorm := hNorm)
    ∧ quiescent_NormIdeal (hNormIdeal := hNormIdeal)
    ∧ quiescent_NormRefIdeal (hNormRefIdeal := hNormRefIdeal)
    ∧ quiescent_Conv (hConv := hConv)
    ∧ quiescent_ConvIdeal (hConvIdeal := hConvIdeal)
    ∧ quiescent_ConvRefIdeal (hConvRefIdeal := hConvRefIdeal)
    ∧ quiescent_ConvSample (hConvSample := hConvSample)
    ∧ quiescent_ConvSampleIdeal (hConvSampleIdeal := hConvSampleIdeal)
    ∧ quiescent_ConvSampleRefIdeal (hConvSampleRefIdeal := hConvSampleRefIdeal)
    ∧ quiescent_NormSample (hNormSample := hNormSample)
    ∧ quiescent_NormSampleIdeal (hNormSampleIdeal := hNormSampleIdeal)
    ∧ quiescent_NormSampleRefIdeal (hNormSampleRefIdeal := hNormSampleRefIdeal)
    ∧ quiescent_Moba (hMoba := hMoba)
    ∧ quiescent_MobaIdeal (hMobaIdeal := hMobaIdeal)
    ∧ quiescent_MobaIdeal_pre_finite (hMobaIdeal := hMobaIdeal) (hPre_finite := hPre_finite)
    ∧ quiescent_MobaRefIdeal (hMobaRefIdeal := hMobaRefIdeal)
    ∧ quiescent_MobaRefIdeal_pre_finite (hMobaRefIdeal := hMobaRefIdeal) (hPre_finite := hPre_finite)
    ∧ quiescent_Peer (hPeer := hPeer)
    ∧ quiescent_PeerIdeal (hPeerIdeal := hPeerIdeal)
    ∧ quiescent_PeerRefIdeal (hPeerRefIdeal := hPeerRefIdeal)
    ∧ preserves_Kernel_KernelIdeal
    ∧ algebraic_KernelIdeal_ReferenceIdeal (hKernelIdeal := hKernelIdeal) (hReferenceIdeal := hReferenceIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_QueryProj_QueryProjIdeal
    ∧ algebraic_QueryProjIdeal_QueryProjRefIdeal (hQueryProjIdeal := hQueryProjIdeal) (hQueryProjRefIdeal := hQueryProjRefIdeal)
    ∧ preserves_InProjSample_InProjSampleIdeal
    ∧ algebraic_InProjSampleIdeal_InProjSampleRefIdeal (hInProjSampleIdeal := hInProjSampleIdeal) (hInProjSampleRefIdeal := hInProjSampleRefIdeal)
    ∧ preserves_Norm_NormIdeal
    ∧ algebraic_NormIdeal_NormRefIdeal (hNormIdeal := hNormIdeal) (hNormRefIdeal := hNormRefIdeal)
    ∧ preserves_Conv_ConvIdeal
    ∧ algebraic_ConvIdeal_ConvRefIdeal (hConvIdeal := hConvIdeal) (hConvRefIdeal := hConvRefIdeal)
    ∧ preserves_ConvSample_ConvSampleIdeal
    ∧ algebraic_ConvSampleIdeal_ConvSampleRefIdeal (hConvSampleIdeal := hConvSampleIdeal) (hConvSampleRefIdeal := hConvSampleRefIdeal)
    ∧ preserves_NormSample_NormSampleIdeal
    ∧ algebraic_NormSampleIdeal_NormSampleRefIdeal (hNormSampleIdeal := hNormSampleIdeal) (hNormSampleRefIdeal := hNormSampleRefIdeal)
    ∧ preserves_Moba_MobaIdeal
    ∧ algebraic_MobaIdeal_MobaRefIdeal_pre_finite (hMobaIdeal := hMobaIdeal) (hMobaRefIdeal := hMobaRefIdeal) (hPre_finite := hPre_finite)
    ∧ preserves_Peer_PeerIdeal
    ∧ algebraic_PeerIdeal_PeerRefIdeal (hPeerIdeal := hPeerIdeal) (hPeerRefIdeal := hPeerRefIdeal)
-- ==== Pre_finite.lean ====
abbrev S4x2048x10240 : Shape := ⟨3, ![4, 2048, 10240]⟩
abbrev S_ : Shape := ⟨0, ![]⟩

class Facts : Prop where
  bcast_S_S4x2048x10240 : S_.BroadcastsInDim S4x2048x10240 (![] : Fin 0 → Fin S4x2048x10240.rank)

variable [Facts]

def fn {F : FTy → Type} [FloatOps F] (main_arg0 : FVec F S4x2048x10240 .f32) : IVec S4x2048x10240 1 :=
  let main_v0 : FVec F S4x2048x10240 .f32 := Host.absf main_arg0
  let main_cst : FVec F S_ .f32 := constant S_ .f32 0x7F800000#32
  let main_v1 : FVec F S4x2048x10240 .f32 := broadcastInDim S4x2048x10240 ![] bcast_S_S4x2048x10240 main_cst
  let main_v2 : IVec S4x2048x10240 1 := cmpf .olt main_v0 main_v1
  main_v2
-- ==== Kernel.lean ====
abbrev S4x2048x10240 : Shape := ⟨3, ![4, 2048, 10240]⟩
abbrev S4x128 : Shape := ⟨2, ![4, 128]⟩
abbrev S256 : Shape := ⟨1, ![256]⟩
abbrev S1x256 : Shape := ⟨2, ![1, 256]⟩
abbrev S4x2048x2048 : Shape := ⟨3, ![4, 2048, 2048]⟩
abbrev S1x256x512 : Shape := ⟨3, ![1, 256, 512]⟩
abbrev S1x2048x256 : Shape := ⟨3, ![1, 2048, 256]⟩
abbrev S1x128 : Shape := ⟨2, ![1, 128]⟩
abbrev S1 : Shape := ⟨1, ![1]⟩
abbrev S1x1 : Shape := ⟨2, ![1, 1]⟩
abbrev S2048x256 : Shape := ⟨2, ![2048, 256]⟩
abbrev S2048x128 : Shape := ⟨2, ![2048, 128]⟩
abbrev S256x1 : Shape := ⟨2, ![256, 1]⟩
abbrev S1x2048 : Shape := ⟨2, ![1, 2048]⟩
abbrev S256x2048 : Shape := ⟨2, ![256, 2048]⟩
abbrev S1x256x128 : Shape := ⟨3, ![1, 256, 128]⟩
abbrev S256x128 : Shape := ⟨2, ![256, 128]⟩
abbrev S256x256 : Shape := ⟨2, ![256, 256]⟩
abbrev S1x256x256 : Shape := ⟨3, ![1, 256, 256]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x10240, .f32⟩
  | .hbm, ⟨1, _⟩ => ⟨S4x128, .f32⟩
  | .hbm, ⟨2, _⟩ => ⟨S256, .f32⟩
  | .hbm, ⟨3, _⟩ => ⟨S1x256, .f32⟩
  | .hbm, ⟨4, _⟩ => ⟨S4x2048x2048, .bf16⟩
  | .local _ .vmem, ⟨0, _⟩ => ⟨S4x128, .f32⟩
  | .local _ .vmem, ⟨1, _⟩ => ⟨S1x256, .f32⟩
  | .local _ .vmem, ⟨2, _⟩ => ⟨S1x256x512, .f32⟩
  | .local _ .vmem, ⟨3, _⟩ => ⟨S1x256x512, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x256x512, .bf16⟩
  | .local _ .vmem, ⟨9, _⟩ => ⟨S1x256x512, .bf16⟩
  | _, _ => ⟨S4x2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x2048x10240 : Shape := ⟨3, ![4, 2048, 10240]⟩
abbrev S4x128 : Shape := ⟨2, ![4, 128]⟩
abbrev S256 : Shape := ⟨1, ![256]⟩
abbrev S4x2048x2048 : Shape := ⟨3, ![4, 2048, 2048]⟩
abbrev S4x2048x4x2x2x128 : Shape := ⟨6, ![4, 2048, 4, 2, 2, 128]⟩
abbrev S4x2048x1024 : Shape := ⟨3, ![4, 2048, 1024]⟩
abbrev S4x2048x4x2x128 : Shape := ⟨5, ![4, 2048, 4, 2, 128]⟩
abbrev S4x2048x4x256 : Shape := ⟨4, ![4, 2048, 4, 256]⟩
abbrev S1x128 : Shape := ⟨2, ![1, 128]⟩
abbrev S128 : Shape := ⟨1, ![128]⟩
abbrev S_ : Shape := ⟨0, ![]⟩
abbrev S4x4x2x2048x2048x2 : Shape := ⟨6, ![4, 4, 2, 2048, 2048, 2]⟩
abbrev S4x4x2x2x2048x2048 : Shape := ⟨6, ![4, 4, 2, 2, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x4x2x2x2048 : Shape := ⟨5, ![4, 4, 2, 2, 2048]⟩
abbrev S4x4x2x2x2048x1 : Shape := ⟨6, ![4, 4, 2, 2, 2048, 1]⟩
abbrev S4x4x2x1x2048x2048 : Shape := ⟨6, ![4, 4, 2, 1, 2048, 2048]⟩
abbrev S4x4x2x2048x2048 : Shape := ⟨5, ![4, 4, 2, 2048, 2048]⟩
abbrev S4x4x256x2x2048 : Shape := ⟨5, ![4, 4, 256, 2, 2048]⟩
abbrev S4x2048x4x2x256 : Shape := ⟨5, ![4, 2048, 4, 2, 256]⟩
abbrev S4x2048x4x2 : Shape := ⟨4, ![4, 2048, 4, 2]⟩
abbrev S4x2048x4x2x1 : Shape := ⟨5, ![4, 2048, 4, 2, 1]⟩
abbrev S1x1x1x1x256 : Shape := ⟨5, ![1, 1, 1, 1, 256]⟩

abbrev nBuf : Space → Nat
  | .hbm => 88
  | .vmem => 0
  | .smem => 0
  | _ => 0

abbrev bufTy : (tb : Table) → Fin (tcTables nBuf tb) → BufTy
  | .hbm, ⟨0, _⟩ => ⟨S4x2048x10240, .f32⟩
  | .hbm, ⟨1, _⟩ => ⟨S4x128, .f32⟩
  | .hbm, ⟨2, _⟩ => ⟨S256, .f32⟩
  | .hbm, ⟨3, _⟩ => ⟨S4x2048x2048, .f32⟩
  | .hbm, ⟨4, _⟩ => ⟨S4x2048x4x2x2x128, .f32⟩
  | .hbm, ⟨5, _⟩ => ⟨S4x2048x1024, .f32⟩
  | .hbm, ⟨6, _⟩ => ⟨S4x2048x4x2x128, .f32⟩
  | .hbm, ⟨7, _⟩ => ⟨S4x2048x1024, .f32⟩
  | .hbm, ⟨8, _⟩ => ⟨S4x2048x4x256, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x4x2x2048x2048x2, .f32⟩
  | .hbm, ⟨29, _⟩ => ⟨S4x4x2x2x2048x2048, .f32⟩
  | .hbm, ⟨30, _⟩ => ⟨S_, .f32⟩
  | .hbm, ⟨31, _⟩ => ⟨S4x4x2x2x2048x2048, .f32⟩
  | .hbm, ⟨32, _⟩ => ⟨S4x4x2x2x2048x2048, .f32⟩
  | .hbm, ⟨33, _⟩ => ⟨S2048, .i32⟩
  | .hbm, ⟨34, _⟩ => ⟨S1x2048, .i32⟩
  | .hbm, ⟨35, _⟩ => ⟨S2048x1, .i32⟩
  | .hbm, ⟨36, _⟩ => ⟨S2048x2048, .i32⟩
  | .hbm, ⟨37, _⟩ => ⟨S2048x2048, .i32⟩
  | .hbm, ⟨38, _⟩ => ⟨S2048x2048, .i1⟩
  | .hbm, ⟨39, _⟩ => ⟨S_, .f32⟩
  | .hbm, ⟨40, _⟩ => ⟨S_, .f32⟩
  | .hbm, ⟨41, _⟩ => ⟨S4x4x2x2x2048x2048, .i1⟩
  | .hbm, ⟨42, _⟩ => ⟨S4x4x2x2x2048x2048, .f32⟩
  | .hbm, ⟨43, _⟩ => ⟨S4x4x2x2x2048x2048, .f32⟩
  | .hbm, ⟨44, _⟩ => ⟨S_, .f32⟩
  | .hbm, ⟨45, _⟩ => ⟨S4x4x2x2x2048, .f32⟩
  | .hbm, ⟨46, _⟩ => ⟨S_, .f32⟩
  | .hbm, ⟨47, _⟩ => ⟨S4x4x2x2x2048, .f32⟩
  | .hbm, ⟨48, _⟩ => ⟨S4x4x2x2x2048, .f32⟩
  | .hbm, ⟨49, _⟩ => ⟨S4x4x2x2x2048x1, .f32⟩
  | .hbm, ⟨50, _⟩ => ⟨S4x4x2x2x2048x2048, .f32⟩
  | .hbm, ⟨51, _⟩ => ⟨S4x4x2x2x2048x2048, .f32⟩
  | .hbm, ⟨52, _⟩ => ⟨S4x4x2x2x2048x2048, .f32⟩
  | .hbm, ⟨53, _⟩ => ⟨S_, .f32⟩
  | .hbm, ⟨54, _⟩ => ⟨S4x4x2x2x2048, .f32⟩
  | .hbm, ⟨55, _⟩ => ⟨S4x4x2x2x2048x1, .f32⟩
  | .hbm, ⟨56, _⟩ => ⟨S4x4x2x2x2048x2048, .f32⟩
  | .hbm, ⟨57, _⟩ => ⟨S4x4x2x2x2048x2048, .f32⟩
  | .hbm, ⟨58, _⟩ => ⟨S4x4x2x1x2048x2048, .f32⟩
  | .hbm, ⟨59, _⟩ => ⟨S4x4x2x2048x2048, .f32⟩
  | .hbm, ⟨60, _⟩ => ⟨S4x4x2x1x2048x2048, .f32⟩
  | .hbm, ⟨61, _⟩ => ⟨S4x4x2x2048x2048, .f32⟩
  | .hbm, ⟨62, _⟩ => ⟨S4x4x2x2048x2048, .f32⟩
  | .hbm, ⟨63, _⟩ => ⟨S4x4x2x2048x2048, .f32⟩
  | .hbm, ⟨64, _⟩ => ⟨S4x4x2x2048x2048, .f32⟩
  | .hbm, ⟨65, _⟩ => ⟨S4x4x256x2x2048, .f32⟩
  | .hbm, ⟨66, _⟩ => ⟨S4x2048x4x2x256, .f32⟩
  | .hbm, ⟨67, _⟩ => ⟨S4x2048x4x2x256, .f32⟩
  | .hbm, ⟨68, _⟩ => ⟨S_, .f32⟩
  | .hbm, ⟨69, _⟩ => ⟨S4x2048x4x2, .f32⟩
  | .hbm, ⟨70, _⟩ => ⟨S4x2048x4x2x1, .f32⟩
  | .hbm, ⟨71, _⟩ => ⟨S_, .f32⟩
  | .hbm, ⟨72, _⟩ => ⟨S4x2048x4x2x1, .f32⟩
  | .hbm, ⟨73, _⟩ => ⟨S4x2048x4x2x1, .f32⟩
  | .hbm, ⟨74, _⟩ => ⟨S_, .f32⟩
  | .hbm, ⟨75, _⟩ => ⟨S4x2048x4x2x1, .f32⟩
  | .hbm, ⟨76, _⟩ => ⟨S4x2048x4x2x1, .f32⟩
  | .hbm, ⟨77, _⟩ => ⟨S4x2048x4x2x1, .f32⟩
  | .hbm, ⟨78, _⟩ => ⟨S4x2048x4x2x256, .f32⟩
  | .hbm, ⟨79, _⟩ => ⟨S4x2048x4x2x256, .f32⟩
  | .hbm, ⟨80, _⟩ => ⟨S1x1x1x1x256, .f32⟩
  | .hbm, ⟨81, _⟩ => ⟨S4x2048x4x2x256, .f32⟩
  | .hbm, ⟨82, _⟩ => ⟨S4x2048x4x2x256, .f32⟩
  | .hbm, ⟨83, _⟩ => ⟨S_, .f32⟩
  | .hbm, ⟨84, _⟩ => ⟨S4x2048x4x2x256, .f32⟩
  | .hbm, ⟨85, _⟩ => ⟨S4x2048x4x2x256, .f32⟩
  | .hbm, ⟨86, _⟩ => ⟨S4x2048x2048, .f32⟩
  | .hbm, ⟨87, _⟩ => ⟨S4x2048x2048, .bf16⟩
  | _, _ => ⟨S4x2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Merge.lean ====
abbrev S8192x4096 : Shape := ⟨2, ![8192, 4096]⟩
abbrev S4096x12288 : Shape := ⟨2, ![4096, 12288]⟩
abbrev S12288 : Shape := ⟨1, ![12288]⟩
abbrev S8192x2048 : Shape := ⟨2, ![8192, 2048]⟩
abbrev S2048x4096 : Shape := ⟨2, ![2048, 4096]⟩
abbrev S8192x1024 : Shape := ⟨2, ![8192, 1024]⟩
abbrev S1024x4096 : Shape := ⟨2, ![1024, 4096]⟩
abbrev S1x12288 : Shape := ⟨2, ![1, 12288]⟩
abbrev S512x4096 : Shape := ⟨2, ![512, 4096]⟩
abbrev S4096x256 : Shape := ⟨2, ![4096, 256]⟩
abbrev S1x256 : Shape := ⟨2, ![1, 256]⟩
abbrev S512x2048 : Shape := ⟨2, ![512, 2048]⟩
abbrev S512x1024 : Shape := ⟨2, ![512, 1024]⟩
abbrev S2048x256 : Shape := ⟨2, ![2048, 256]⟩
abbrev S1024x256 : Shape := ⟨2, ![1024, 256]⟩
abbrev S512x256 : Shape := ⟨2, ![512, 256]⟩

abbrev nBuf : Space → Nat
  | .hbm => 11
  | .vmem => 28
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .f32⟩
  | .hbm, ⟨2, _⟩ => ⟨S12288, .f32⟩
  | .hbm, ⟨3, _⟩ => ⟨S8192x2048, .bf16⟩
  | .hbm, ⟨4, _⟩ => ⟨S2048x4096, .f32⟩
  | .hbm, ⟨5, _⟩ => ⟨S8192x1024, .bf16⟩
  | .hbm, ⟨6, _⟩ => ⟨S1024x4096, .f32⟩
  | .hbm, ⟨7, _⟩ => ⟨S8192x1024, .bf16⟩
  | .hbm, ⟨8, _⟩ => ⟨S1024x4096, .f32⟩
  | .hbm, ⟨9, _⟩ => ⟨S1x12288, .f32⟩
  | .hbm, ⟨10, _⟩ => ⟨S8192x4096, .bf16⟩
  | .local _ .vmem, ⟨0, _⟩ => ⟨S512x4096, .bf16⟩
  | .local _ .vmem, ⟨1, _⟩ => ⟨S512x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S512x2048, .bf16⟩
  | .local _ .vmem, ⟨15, _⟩ => ⟨S512x2048, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S2048x256, .f32⟩
  | .local _ .vmem, ⟨21, _⟩ => ⟨S2048x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S512x256, .bf16⟩
  | .local _ .vmem, ⟨27, _⟩ => ⟨S512x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S8192x4096 : Shape := ⟨2, ![8192, 4096]⟩
abbrev S4096x12288 : Shape := ⟨2, ![4096, 12288]⟩
abbrev S12288 : Shape := ⟨1, ![12288]⟩
abbrev S8192x2048 : Shape := ⟨2, ![8192, 2048]⟩
abbrev S2048x4096 : Shape := ⟨2, ![2048, 4096]⟩
abbrev S8192x1024 : Shape := ⟨2, ![8192, 1024]⟩
abbrev S1024x4096 : Shape := ⟨2, ![1024, 4096]⟩
abbrev S8192x12288 : Shape := ⟨2, ![8192, 12288]⟩
abbrev S1x12288 : Shape := ⟨2, ![1, 12288]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .f32⟩
  | .hbm, ⟨2, _⟩ => ⟨S12288, .f32⟩
  | .hbm, ⟨3, _⟩ => ⟨S8192x2048, .bf16⟩
  | .hbm, ⟨4, _⟩ => ⟨S2048x4096, .f32⟩
  | .hbm, ⟨5, _⟩ => ⟨S8192x1024, .bf16⟩
  | .hbm, ⟨6, _⟩ => ⟨S1024x4096, .f32⟩
  | .hbm, ⟨7, _⟩ => ⟨S8192x1024, .bf16⟩
  | .hbm, ⟨8, _⟩ => ⟨S1024x4096, .f32⟩
  | .hbm, ⟨9, _⟩ => ⟨S8192x4096, .f32⟩
  | .hbm, ⟨10, _⟩ => ⟨S8192x2048, .f32⟩
  | .hbm, ⟨11, _⟩ => ⟨S8192x1024, .f32⟩
  | .hbm, ⟨12, _⟩ => ⟨S8192x1024, .f32⟩
  | .hbm, ⟨13, _⟩ => ⟨S8192x12288, .f32⟩
  | .hbm, ⟨14, _⟩ => ⟨S1x12288, .f32⟩
  | .hbm, ⟨15, _⟩ => ⟨S8192x12288, .f32⟩
  | .hbm, ⟨16, _⟩ => ⟨S8192x12288, .f32⟩
  | .hbm, ⟨17, _⟩ => ⟨S8192x12288, .f32⟩
  | .hbm, ⟨18, _⟩ => ⟨S8192x12288, .f32⟩
  | .hbm, ⟨19, _⟩ => ⟨S_, .f32⟩
  | .hbm, ⟨20, _⟩ => ⟨S8192x12288, .f32⟩
  | .hbm, ⟨21, _⟩ => ⟨S8192x12288, .f32⟩
  | .hbm, ⟨22, _⟩ => ⟨S_, .f32⟩
  | .hbm, ⟨23, _⟩ => ⟨S8192x12288, .f32⟩
  | .hbm, ⟨24, _⟩ => ⟨S8192x12288, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== InProj.lean ====
abbrev S8192x4096 : Shape := ⟨2, ![8192, 4096]⟩
abbrev S4096x10240 : Shape := ⟨2, ![4096, 10240]⟩
abbrev S8192x10240 : Shape := ⟨2, ![8192, 10240]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x10240, .f32⟩
  | .hbm, ⟨2, _⟩ => ⟨S8192x10240, .f32⟩
  | .local _ .vmem, ⟨0, _⟩ => ⟨S512x4096, .bf16⟩
  | .local _ .vmem, ⟨1, _⟩ => ⟨S512x4096, .bf16⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![20, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjIdeal.lean ====
abbrev S8192x4096 : Shape := ⟨2, ![8192, 4096]⟩
abbrev S4096x10240 : Shape := ⟨2, ![4096, 10240]⟩
abbrev S8192x10240 : Shape := ⟨2, ![8192, 10240]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x10240, .f32⟩
  | .hbm, ⟨2, _⟩ => ⟨S8192x10240, .f32⟩
  | .local _ .vmem, ⟨0, _⟩ => ⟨S512x4096, .bf16⟩
  | .local _ .vmem, ⟨1, _⟩ => ⟨S512x4096, .bf16⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![20, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x4096 : Shape := ⟨2, ![8192, 4096]⟩
abbrev S4096x10240 : Shape := ⟨2, ![4096, 10240]⟩
abbrev S8192x10240 : Shape := ⟨2, ![8192, 10240]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x10240, .f32⟩
  | .hbm, ⟨2, _⟩ => ⟨S8192x4096, .f32⟩
  | .hbm, ⟨3, _⟩ => ⟨S8192x10240, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutProj.lean ====
abbrev S8192x4096 : Shape := ⟨2, ![8192, 4096]⟩
abbrev S4096x4096 : Shape := ⟨2, ![4096, 4096]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjIdeal.lean ====
abbrev S8192x4096 : Shape := ⟨2, ![8192, 4096]⟩
abbrev S4096x4096 : Shape := ⟨2, ![4096, 4096]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S8192x4096 : Shape := ⟨2, ![8192, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== QueryProj.lean ====
abbrev S8192x4096 : Shape := ⟨2, ![8192, 4096]⟩
abbrev S4096x2048 : Shape := ⟨2, ![4096, 2048]⟩
abbrev S8192x2048 : Shape := ⟨2, ![8192, 2048]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .local _ .vmem, ⟨0, _⟩ => ⟨S512x4096, .bf16⟩
  | .local _ .vmem, ⟨1, _⟩ => ⟨S512x4096, .bf16⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryProjIdeal.lean ====
abbrev S8192x4096 : Shape := ⟨2, ![8192, 4096]⟩
abbrev S4096x2048 : Shape := ⟨2, ![4096, 2048]⟩
abbrev S8192x2048 : Shape := ⟨2, ![8192, 2048]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .local _ .vmem, ⟨0, _⟩ => ⟨S512x4096, .bf16⟩
  | .local _ .vmem, ⟨1, _⟩ => ⟨S512x4096, .bf16⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryProjRefIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x4096, .f32⟩
  | .hbm, ⟨3, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InProjSample.lean ====
abbrev S32x4096 : Shape := ⟨2, ![32, 4096]⟩
abbrev S4096x10240 : Shape := ⟨2, ![4096, 10240]⟩
abbrev S32x10240 : Shape := ⟨2, ![32, 10240]⟩
abbrev S4096x512 : Shape := ⟨2, ![4096, 512]⟩
abbrev S32x512 : Shape := ⟨2, ![32, 512]⟩

abbrev nBuf : Space → Nat
  | .hbm => 3
  | .vmem => 5
  | .smem => 0
  | _ => 0

abbrev bufTy : (tb : Table) → Fin (tcTables nBuf tb) → BufTy
  | .hbm, ⟨0, _⟩ => ⟨S32x4096, .bf16⟩
  | .hbm, ⟨1, _⟩ => ⟨S4096x10240, .f32⟩
  | .hbm, ⟨2, _⟩ => ⟨S32x10240, .f32⟩
  | .local _ .vmem, ⟨0, _⟩ => ⟨S32x4096, .bf16⟩
  | .local _ .vmem, ⟨1, _⟩ => ⟨S4096x512, .f32⟩
  | .local _ .vmem, ⟨2, _⟩ => ⟨S4096x512, .f32⟩
  | .local _ .vmem, ⟨3, _⟩ => ⟨S32x512, .f32⟩
  | .local _ .vmem, ⟨4, _⟩ => ⟨S32x512, .f32⟩
  | _, _ => ⟨S32x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![20, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjSampleRefIdeal.lean ====
abbrev S32x4096 : Shape := ⟨2, ![32, 4096]⟩
abbrev S4096x10240 : Shape := ⟨2, ![4096, 10240]⟩
abbrev S32x10240 : Shape := ⟨2, ![32, 10240]⟩

abbrev nBuf : Space → Nat
  | .hbm => 4
  | .vmem => 0
  | .smem => 0
  | _ => 0

abbrev bufTy : (tb : Table) → Fin (tcTables nBuf tb) → BufTy
  | .hbm, ⟨0, _⟩ => ⟨S32x4096, .bf16⟩
  | .hbm, ⟨1, _⟩ => ⟨S4096x10240, .f32⟩
  | .hbm, ⟨2, _⟩ => ⟨S32x4096, .f32⟩
  | .hbm, ⟨3, _⟩ => ⟨S32x10240, .f32⟩
  | _, _ => ⟨S32x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Norm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormIdeal.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | .hbm, ⟨37, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Conv.lean ====
abbrev S4x2048x10240 : Shape := ⟨3, ![4, 2048, 10240]⟩
abbrev S3x1024 : Shape := ⟨2, ![3, 1024]⟩
abbrev S4x2048x1024 : Shape := ⟨3, ![4, 2048, 1024]⟩
abbrev S4x2x1024 : Shape := ⟨3, ![4, 2, 1024]⟩
abbrev S1x512x1024 : Shape := ⟨3, ![1, 512, 1024]⟩
abbrev S1x8x1024 : Shape := ⟨3, ![1, 8, 1024]⟩
abbrev S1x2x1024 : Shape := ⟨3, ![1, 2, 1024]⟩
abbrev S512x1024 : Shape := ⟨2, ![512, 1024]⟩
abbrev S8x1024 : Shape := ⟨2, ![8, 1024]⟩
abbrev S512x1 : Shape := ⟨2, ![512, 1]⟩
abbrev S1x1024 : Shape := ⟨2, ![1, 1024]⟩
abbrev S2x1024 : Shape := ⟨2, ![2, 1024]⟩

abbrev nBuf : Space → Nat
  | .hbm => 4
  | .vmem => 15
  | .smem => 0
  | _ => 0

abbrev bufTy : (tb : Table) → Fin (tcTables nBuf tb) → BufTy
  | .hbm, ⟨0, _⟩ => ⟨S4x2048x10240, .f32⟩
  | .hbm, ⟨1, _⟩ => ⟨S3x1024, .f32⟩
  | .hbm, ⟨2, _⟩ => ⟨S4x2048x1024, .bf16⟩
  | .hbm, ⟨3, _⟩ => ⟨S4x2x1024, .f32⟩
  | .local _ .vmem, ⟨0, _⟩ => ⟨S3x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x512x1024, .bf16⟩
  | .local _ .vmem, ⟨12, _⟩ => ⟨S1x512x1024, .bf16⟩
  | .local _ .vmem, ⟨13, _⟩ => ⟨S1x2x1024, .f32⟩
  | .local _ .vmem, ⟨14, _⟩ => ⟨S1x2x1024, .f32⟩
  | _, _ => ⟨S4x2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_3 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![arg0.toNat, v2.toNat, c7_i32.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![arg0.toNat, v2.toNat, c9_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S3x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvRefIdeal.lean ====
abbrev S4x2048x10240 : Shape := ⟨3, ![4, 2048, 10240]⟩
abbrev S3x1024 : Shape := ⟨2, ![3, 1024]⟩
abbrev S4x2048x1024 : Shape := ⟨3, ![4, 2048, 1024]⟩
abbrev S_ : Shape := ⟨0, ![]⟩
abbrev S4x2x1024 : Shape := ⟨3, ![4, 2, 1024]⟩
abbrev S4x2050x1024 : Shape := ⟨3, ![4, 2050, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x10240, .f32⟩
  | .hbm, ⟨1, _⟩ => ⟨S3x1024, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S_, .f32⟩
  | .hbm, ⟨7, _⟩ => ⟨S4x2x1024, .f32⟩
  | .hbm, ⟨8, _⟩ => ⟨S4x2050x1024, .f32⟩
  | .hbm, ⟨9, _⟩ => ⟨S1x1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S1x1024, .f32⟩
  | .hbm, ⟨16, _⟩ => ⟨S1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S1x1024, .f32⟩
  | .hbm, ⟨23, _⟩ => ⟨S1024, .f32⟩
  | .hbm, ⟨24, _⟩ => ⟨S4x2048x1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S4x2048x1024, .bf16⟩
  | .hbm, ⟨31, _⟩ => ⟨S4x2x1024, .f32⟩
  | _, _ => ⟨S4x2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== ConvSample.lean ====
abbrev S8x4x10240 : Shape := ⟨3, ![8, 4, 10240]⟩
abbrev S8x2x1024 : Shape := ⟨3, ![8, 2, 1024]⟩
abbrev S3x1024 : Shape := ⟨2, ![3, 1024]⟩
abbrev S8x4x1024 : Shape := ⟨3, ![8, 4, 1024]⟩
abbrev S8x1x1024 : Shape := ⟨3, ![8, 1, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x4x10240, .f32⟩
  | .hbm, ⟨1, _⟩ => ⟨S8x2x1024, .f32⟩
  | .hbm, ⟨2, _⟩ => ⟨S3x1024, .f32⟩
  | .hbm, ⟨3, _⟩ => ⟨S8x4x1024, .bf16⟩
  | .hbm, ⟨4, _⟩ => ⟨S8x2x1024, .f32⟩
  | .local _ .vmem, ⟨0, _⟩ => ⟨S3x1024, .f32⟩
  | .local _ .vmem, ⟨1, _⟩ => ⟨S8x2x1024, .f32⟩
  | .local _ .vmem, ⟨2, _⟩ => ⟨S8x4x1024, .f32⟩
  | .local _ .vmem, ⟨3, _⟩ => ⟨S8x4x1024, .f32⟩
  | .local _ .vmem, ⟨4, _⟩ => ⟨S8x4x1024, .f32⟩
  | .local _ .vmem, ⟨5, _⟩ => ⟨S8x4x1024, .bf16⟩
  | .local _ .vmem, ⟨6, _⟩ => ⟨S8x2x1024, .f32⟩
  | _, _ => ⟨S8x4x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c7_i32 : BitVec 32 := 7#32
  let c0_i32_1 : BitVec 32 := 0#32
  ![c0_i32.toNat, c0_i32_0.toNat, c7_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c8_i32 : BitVec 32 := 8#32
  let c0_i32_1 : BitVec 32 := 0#32
  ![c0_i32.toNat, c0_i32_0.toNat, c8_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c9_i32 : BitVec 32 := 9#32
  let c0_i32_1 : BitVec 32 := 0#32
  ![c0_i32.toNat, c0_i32_0.toNat, c9_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S3x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x4x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvSampleRefIdeal.lean ====
abbrev S8x4x10240 : Shape := ⟨3, ![8, 4, 10240]⟩
abbrev S8x2x1024 : Shape := ⟨3, ![8, 2, 1024]⟩
abbrev S3x1024 : Shape := ⟨2, ![3, 1024]⟩
abbrev S8x4x1024 : Shape := ⟨3, ![8, 4, 1024]⟩
abbrev S8x6x1024 : Shape := ⟨3, ![8, 6, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8x4x10240, .f32⟩
  | .hbm, ⟨1, _⟩ => ⟨S8x2x1024, .f32⟩
  | .hbm, ⟨2, _⟩ => ⟨S3x1024, .f32⟩
  | .hbm, ⟨3, _⟩ => ⟨S8x4x1024, .f32⟩
  | .hbm, ⟨4, _⟩ => ⟨S8x4x1024, .f32⟩
  | .hbm, ⟨5, _⟩ => ⟨S8x4x1024, .f32⟩
  | .hbm, ⟨6, _⟩ => ⟨S8x4x1024, .f32⟩
  | .hbm, ⟨7, _⟩ => ⟨S8x6x1024, .f32⟩
  | .hbm, ⟨8, _⟩ => ⟨S1x1024, .f32⟩
  | .hbm, ⟨9, _⟩ => ⟨S1024, .f32⟩
  | .hbm, ⟨10, _⟩ => ⟨S8x4x1024, .f32⟩
  | .hbm, ⟨11, _⟩ => ⟨S1x1x1024, .f32⟩
  | .hbm, ⟨12, _⟩ => ⟨S8x4x1024, .f32⟩
  | .hbm, ⟨13, _⟩ => ⟨S8x4x1024, .f32⟩
  | .hbm, ⟨14, _⟩ => ⟨S1x1024, .f32⟩
  | .hbm, ⟨15, _⟩ => ⟨S1024, .f32⟩
  | .hbm, ⟨16, _⟩ => ⟨S8x4x1024, .f32⟩
  | .hbm, ⟨17, _⟩ => ⟨S1x1x1024, .f32⟩
  | .hbm, ⟨18, _⟩ => ⟨S8x4x1024, .f32⟩
  | .hbm, ⟨19, _⟩ => ⟨S8x4x1024, .f32⟩
  | .hbm, ⟨20, _⟩ => ⟨S8x4x1024, .f32⟩
  | .hbm, ⟨21, _⟩ => ⟨S1x1024, .f32⟩
  | .hbm, ⟨22, _⟩ => ⟨S1024, .f32⟩
  | .hbm, ⟨23, _⟩ => ⟨S8x4x1024, .f32⟩
  | .hbm, ⟨24, _⟩ => ⟨S1x1x1024, .f32⟩
  | .hbm, ⟨25, _⟩ => ⟨S8x4x1024, .f32⟩
  | .hbm, ⟨26, _⟩ => ⟨S8x4x1024, .f32⟩
  | .hbm, ⟨27, _⟩ => ⟨S8x4x1024, .f32⟩
  | .hbm, ⟨28, _⟩ => ⟨S8x4x1024, .f32⟩
  | .hbm, ⟨29, _⟩ => ⟨S8x4x1024, .bf16⟩
  | .hbm, ⟨30, _⟩ => ⟨S8x2x1024, .f32⟩
  | _, _ => ⟨S8x4x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== NormSample.lean ====
abbrev S32x4096 : Shape := ⟨2, ![32, 4096]⟩
abbrev S4096 : Shape := ⟨1, ![4096]⟩
abbrev S1x4096 : Shape := ⟨2, ![1, 4096]⟩
abbrev S32 : Shape := ⟨1, ![32]⟩
abbrev S32x1 : Shape := ⟨2, ![32, 1]⟩

abbrev nBuf : Space → Nat
  | .hbm => 8
  | .vmem => 6
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S32x4096, .f32⟩
  | .hbm, ⟨7, _⟩ => ⟨S32x4096, .bf16⟩
  | .local _ .vmem, ⟨0, _⟩ => ⟨S32x4096, .f32⟩
  | .local _ .vmem, ⟨1, _⟩ => ⟨S32x4096, .f32⟩
  | .local _ .vmem, ⟨2, _⟩ => ⟨S1x4096, .f32⟩
  | .local _ .vmem, ⟨3, _⟩ => ⟨S1x4096, .f32⟩
  | .local _ .vmem, ⟨4, _⟩ => ⟨S32x4096, .f32⟩
  | .local _ .vmem, ⟨5, _⟩ => ⟨S32x4096, .bf16⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== NormSampleRefIdeal.lean ====
abbrev S32x4096 : Shape := ⟨2, ![32, 4096]⟩
abbrev S4096 : Shape := ⟨1, ![4096]⟩
abbrev S_ : Shape := ⟨0, ![]⟩
abbrev S32 : Shape := ⟨1, ![32]⟩
abbrev S32x1 : Shape := ⟨2, ![32, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S32x4096, .f32⟩
  | .hbm, ⟨6, _⟩ => ⟨S32x4096, .f32⟩
  | .hbm, ⟨7, _⟩ => ⟨S32x4096, .f32⟩
  | .hbm, ⟨8, _⟩ => ⟨S_, .f32⟩
  | .hbm, ⟨9, _⟩ => ⟨S32, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x4096, .f32⟩
  | .hbm, ⟨15, _⟩ => ⟨S32x4096, .f32⟩
  | .hbm, ⟨16, _⟩ => ⟨S32x4096, .f32⟩
  | .hbm, ⟨17, _⟩ => ⟨S_, .f32⟩
  | .hbm, ⟨18, _⟩ => ⟨S32, .f32⟩
  | .hbm, ⟨19, _⟩ => ⟨S32x1, .f32⟩
  | .hbm, ⟨20, _⟩ => ⟨S_, .f32⟩
  | .hbm, ⟨21, _⟩ => ⟨S32x1, .f32⟩
  | .hbm, ⟨22, _⟩ => ⟨S32x1, .f32⟩
  | .hbm, ⟨23, _⟩ => ⟨S32x4096, .f32⟩
  | .hbm, ⟨24, _⟩ => ⟨S32x4096, .f32⟩
  | .hbm, ⟨25, _⟩ => ⟨S_, .f32⟩
  | .hbm, ⟨26, _⟩ => ⟨S32x1, .f32⟩
  | .hbm, ⟨27, _⟩ => ⟨S32x1, .f32⟩
  | .hbm, ⟨28, _⟩ => ⟨S32x1, .f32⟩
  | .hbm, ⟨29, _⟩ => ⟨S32x4096, .f32⟩
  | .hbm, ⟨30, _⟩ => ⟨S32x4096, .f32⟩
  | .hbm, ⟨31, _⟩ => ⟨S1x4096, .f32⟩
  | .hbm, ⟨32, _⟩ => ⟨S32x4096, .f32⟩
  | .hbm, ⟨33, _⟩ => ⟨S32x4096, .f32⟩
  | .hbm, ⟨34, _⟩ => ⟨S1x4096, .f32⟩
  | .hbm, ⟨35, _⟩ => ⟨S32x4096, .f32⟩
  | .hbm, ⟨36, _⟩ => ⟨S32x4096, .f32⟩
  | .hbm, ⟨37, _⟩ => ⟨S32x4096, .bf16⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Moba.lean ====
abbrev S4x2048x10240 : Shape := ⟨3, ![4, 2048, 10240]⟩
abbrev S4x2048x1024 : Shape := ⟨3, ![4, 2048, 1024]⟩
abbrev S1x256x128 : Shape := ⟨3, ![1, 256, 128]⟩
abbrev S1x2048x128 : Shape := ⟨3, ![1, 2048, 128]⟩
abbrev S256x128 : Shape := ⟨2, ![256, 128]⟩
abbrev S256x1 : Shape := ⟨2, ![256, 1]⟩
abbrev S128 : Shape := ⟨1, ![128]⟩
abbrev S1x128 : Shape := ⟨2, ![1, 128]⟩
abbrev S256 : Shape := ⟨1, ![256]⟩
abbrev S1x256 : Shape := ⟨2, ![1, 256]⟩
abbrev S256x256 : Shape := ⟨2, ![256, 256]⟩

abbrev nBuf : Space → Nat
  | .hbm => 2
  | .vmem => 8
  | .smem => 0
  | _ => 0

abbrev bufTy : (tb : Table) → Fin (tcTables nBuf tb) → BufTy
  | .hbm, ⟨0, _⟩ => ⟨S4x2048x10240, .f32⟩
  | .hbm, ⟨1, _⟩ => ⟨S4x2048x1024, .bf16⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x256x128, .bf16⟩
  | .local _ .vmem, ⟨7, _⟩ => ⟨S1x256x128, .bf16⟩
  | _, _ => ⟨S4x2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MobaRefIdeal.lean ====
abbrev S4x2048x10240 : Shape := ⟨3, ![4, 2048, 10240]⟩
abbrev S4x2048x1024 : Shape := ⟨3, ![4, 2048, 1024]⟩
abbrev S4x2048x8x128 : Shape := ⟨4, ![4, 2048, 8, 128]⟩
abbrev S2048 : Shape := ⟨1, ![2048]⟩
abbrev S8 : Shape := ⟨1, ![8]⟩
abbrev S8x256 : Shape := ⟨2, ![8, 256]⟩
abbrev S4x8x256x8x128 : Shape := ⟨5, ![4, 8, 256, 8, 128]⟩
abbrev S_ : Shape := ⟨0, ![]⟩
abbrev S4x8x8x128 : Shape := ⟨4, ![4, 8, 8, 128]⟩
abbrev S4x8x8x2048 : Shape := ⟨4, ![4, 8, 8, 2048]⟩
abbrev S4x2048x8x8 : Shape := ⟨4, ![4, 2048, 8, 8]⟩
abbrev S1x8 : Shape := ⟨2, ![1, 8]⟩
abbrev S2048x1 : Shape := ⟨2, ![2048, 1]⟩
abbrev S2048x8 : Shape := ⟨2, ![2048, 8]⟩
abbrev S1x2048x1x8 : Shape := ⟨4, ![1, 2048, 1, 8]⟩
abbrev S4x2048x8x3 : Shape := ⟨4, ![4, 2048, 8, 3]⟩
abbrev S4x2048x8x3x1 : Shape := ⟨5, ![4, 2048, 8, 3, 1]⟩
abbrev S1x1x1x1x8 : Shape := ⟨5, ![1, 1, 1, 1, 8]⟩
abbrev S4x2048x8x3x8 : Shape := ⟨5, ![4, 2048, 8, 3, 8]⟩
abbrev S4x2048x8x8x256 : Shape := ⟨5, ![4, 2048, 8, 8, 256]⟩
abbrev S4x2048x8x2048 : Shape := ⟨4, ![4, 2048, 8, 2048]⟩
abbrev S1x2048 : Shape := ⟨2, ![1, 2048]⟩
abbrev S2048x2048 : Shape := ⟨2, ![2048, 2048]⟩
abbrev S1x2048x1x2048 : Shape := ⟨4, ![1, 2048, 1, 2048]⟩
abbrev S4x8x2048x2048 : Shape := ⟨4, ![4, 8, 2048, 2048]⟩
abbrev S4x2048x8 : Shape := ⟨3, ![4, 2048, 8]⟩
abbrev S4x2048x8x1 : Shape := ⟨4, ![4, 2048, 8, 1]⟩
abbrev S4x8x128x2048 : Shape := ⟨4, ![4, 8, 128, 2048]⟩

abbrev nBuf : Space → Nat
  | .hbm => 87
  | .vmem => 0
  | .smem => 0
  | _ => 0

abbrev bufTy : (tb : Table) → Fin (tcTables nBuf tb) → BufTy
  | .hbm, ⟨0, _⟩ => ⟨S4x2048x10240, .f32⟩
  | .hbm, ⟨1, _⟩ => ⟨S4x2048x1024, .f32⟩
  | .hbm, ⟨2, _⟩ => ⟨S4x2048x8x128, .f32⟩
  | .hbm, ⟨3, _⟩ => ⟨S4x2048x1024, .f32⟩
  | .hbm, ⟨4, _⟩ => ⟨S4x2048x8x128, .f32⟩
  | .hbm, ⟨5, _⟩ => ⟨S4x2048x1024, .f32⟩
  | .hbm, ⟨6, _⟩ => ⟨S4x2048x8x128, .f32⟩
  | .hbm, ⟨7, _⟩ => ⟨S2048, .i32⟩
  | .hbm, ⟨8, _⟩ => ⟨S8, .i32⟩
  | .hbm, ⟨9, _⟩ => ⟨S8x256, .i32⟩
  | .hbm, ⟨10, _⟩ => ⟨S2048, .i32⟩
  | .hbm, ⟨11, _⟩ => ⟨S4x8x256x8x128, .f32⟩
  | .hbm, ⟨12, _⟩ => ⟨S_, .f32⟩
  | .hbm, ⟨13, _⟩ => ⟨S4x8x8x128, .f32⟩
  | .hbm, ⟨14, _⟩ => ⟨S_, .f32⟩
  | .hbm, ⟨15, _⟩ => ⟨S4x8x8x128, .f32⟩
  | .hbm, ⟨16, _⟩ => ⟨S4x8x8x128, .f32⟩
  | .hbm, ⟨17, _⟩ => ⟨S4x8x8x2048, .f32⟩
  | .hbm, ⟨18, _⟩ => ⟨S4x2048x8x8, .f32⟩
  | .hbm, ⟨19, _⟩ => ⟨S1x8, .i32⟩
  | .hbm, ⟨20, _⟩ => ⟨S2048x1, .i32⟩
  | .hbm, ⟨21, _⟩ => ⟨S2048x8, .i32⟩
  | .hbm, ⟨22, _⟩ => ⟨S2048x8, .i32⟩
  | .hbm, ⟨23, _⟩ => ⟨S2048x8, .i1⟩
  | .hbm, ⟨24, _⟩ => ⟨S1x2048x1x8, .i1⟩
  | .hbm, ⟨25, _⟩ => ⟨S_, .f32⟩
  | .hbm, ⟨26, _⟩ => ⟨S_, .f32⟩
  | .hbm, ⟨27, _⟩ => ⟨S4x2048x8x8, .i1⟩
  | .hbm, ⟨28, _⟩ => ⟨S4x2048x8x8, .f32⟩
  | .hbm, ⟨29, _⟩ => ⟨S4x2048x8x8, .f32⟩
  | .hbm, ⟨30, _⟩ => ⟨S4x2048x8x3, .f32⟩
  | .hbm, ⟨31, _⟩ => ⟨S4x2048x8x3, .i32⟩
  | .hbm, ⟨32, _⟩ => ⟨S4x2048x8x3x1, .i32⟩
  | .hbm, ⟨33, _⟩ => ⟨S1x1x1x1x8, .i32⟩
  | .hbm, ⟨34, _⟩ => ⟨S4x2048x8x3x8, .i32⟩
  | .hbm, ⟨35, _⟩ => ⟨S4x2048x8x3x8, .i32⟩
  | .hbm, ⟨36, _⟩ => ⟨S4x2048x8x3x8, .i1⟩
  | .hbm, ⟨37, _⟩ => ⟨S_, .i1⟩
  | .hbm, ⟨38, _⟩ => ⟨S4x2048x8x8, .i1⟩
  | .hbm, ⟨39, _⟩ => ⟨S1x2048x1x8, .i1⟩
  | .hbm, ⟨40, _⟩ => ⟨S4x2048x8x8, .i1⟩
  | .hbm, ⟨41, _⟩ => ⟨S4x2048x8x8, .i1⟩
  | .hbm, ⟨42, _⟩ => ⟨S1x8, .i32⟩
  | .hbm, ⟨43, _⟩ => ⟨S2048x1, .i32⟩
  | .hbm, ⟨44, _⟩ => ⟨S2048x8, .i32⟩
  | .hbm, ⟨45, _⟩ => ⟨S2048x8, .i32⟩
  | .hbm, ⟨46, _⟩ => ⟨S2048x8, .i1⟩
  | .hbm, ⟨47, _⟩ => ⟨S1x2048x1x8, .i1⟩
  | .hbm, ⟨48, _⟩ => ⟨S4x2048x8x8, .i1⟩
  | .hbm, ⟨49, _⟩ => ⟨S4x2048x8x8, .i1⟩
  | .hbm, ⟨50, _⟩ => ⟨S4x2048x8x8x256, .i1⟩
  | .hbm, ⟨51, _⟩ => ⟨S4x2048x8x2048, .i1⟩
  | .hbm, ⟨52, _⟩ => ⟨S1x2048, .i32⟩
  | .hbm, ⟨53, _⟩ => ⟨S2048x1, .i32⟩
  | .hbm, ⟨54, _⟩ => ⟨S2048x2048, .i32⟩
  | .hbm, ⟨55, _⟩ => ⟨S2048x2048, .i32⟩
  | .hbm, ⟨56, _⟩ => ⟨S2048x2048, .i1⟩
  | .hbm, ⟨57, _⟩ => ⟨S1x2048x1x2048, .i1⟩
  | .hbm, ⟨58, _⟩ => ⟨S4x2048x8x2048, .i1⟩
  | .hbm, ⟨59, _⟩ => ⟨S4x2048x8x2048, .i1⟩
  | .hbm, ⟨60, _⟩ => ⟨S4x8x2048x2048, .f32⟩
  | .hbm, ⟨61, _⟩ => ⟨S4x2048x8x2048, .f32⟩
  | .hbm, ⟨62, _⟩ => ⟨S_, .f32⟩
  | .hbm, ⟨63, _⟩ => ⟨S4x2048x8x2048, .f32⟩
  | .hbm, ⟨64, _⟩ => ⟨S4x2048x8x2048, .f32⟩
  | .hbm, ⟨65, _⟩ => ⟨S_, .f32⟩
  | .hbm, ⟨66, _⟩ => ⟨S_, .f32⟩
  | .hbm, ⟨67, _⟩ => ⟨S4x2048x8x2048, .f32⟩
  | .hbm, ⟨68, _⟩ => ⟨S4x2048x8x2048, .f32⟩
  | .hbm, ⟨69, _⟩ => ⟨S_, .f32⟩
  | .hbm, ⟨70, _⟩ => ⟨S4x2048x8, .f32⟩
  | .hbm, ⟨71, _⟩ => ⟨S_, .f32⟩
  | .hbm, ⟨72, _⟩ => ⟨S4x2048x8, .f32⟩
  | .hbm, ⟨73, _⟩ => ⟨S4x2048x8, .f32⟩
  | .hbm, ⟨74, _⟩ => ⟨S4x2048x8x1, .f32⟩
  | .hbm, ⟨75, _⟩ => ⟨S4x2048x8x2048, .f32⟩
  | .hbm, ⟨76, _⟩ => ⟨S4x2048x8x2048, .f32⟩
  | .hbm, ⟨77, _⟩ => ⟨S4x2048x8x2048, .f32⟩
  | .hbm, ⟨78, _⟩ => ⟨S_, .f32⟩
  | .hbm, ⟨79, _⟩ => ⟨S4x2048x8, .f32⟩
  | .hbm, ⟨80, _⟩ => ⟨S4x2048x8x1, .f32⟩
  | .hbm, ⟨81, _⟩ => ⟨S4x2048x8x2048, .f32⟩
  | .hbm, ⟨82, _⟩ => ⟨S4x2048x8x2048, .f32⟩
  | .hbm, ⟨83, _⟩ => ⟨S4x8x128x2048, .f32⟩
  | .hbm, ⟨84, _⟩ => ⟨S4x2048x8x128, .f32⟩
  | .hbm, ⟨85, _⟩ => ⟨S4x2048x1024, .f32⟩
  | .hbm, ⟨86, _⟩ => ⟨S4x2048x1024, .bf16⟩
  | _, _ => ⟨S4x2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v22 : Ref sig .tc := ⟨.hbm, 29, rfl⟩
abbrev main_values : Ref sig .tc := ⟨.hbm, 30, rfl⟩
abbrev main_indices : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_2 : Ref sig .tc := ⟨.hbm, 62, rfl⟩
abbrev main_v52 : Ref sig .tc := ⟨.hbm, 63, rfl⟩
abbrev main_v53 : Ref sig .tc := ⟨.hbm, 64, rfl⟩
abbrev main_cst_3 : Ref sig .tc := ⟨.hbm, 65, rfl⟩
abbrev main_call1_v0 : Ref sig .tc := ⟨.hbm, 66, rfl⟩
abbrev main_call1_v1 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_cst_5 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_6 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Peer.lean ====
abbrev S8192x4096 : Shape := ⟨2, ![8192, 4096]⟩
abbrev S16384x4096 : Shape := ⟨2, ![16384, 4096]⟩
abbrev S8x128x8192 : Shape := ⟨3, ![8, 128, 8192]⟩
abbrev S512x4096 : Shape := ⟨2, ![512, 4096]⟩
abbrev S256x4096 : Shape := ⟨2, ![256, 4096]⟩
abbrev S8x128x512 : Shape := ⟨3, ![8, 128, 512]⟩
abbrev S512x256 : Shape := ⟨2, ![512, 256]⟩
abbrev S128x256 : Shape := ⟨2, ![128, 256]⟩
abbrev S1x1x256 : Shape := ⟨3, ![1, 1, 256]⟩
abbrev S1x256 : Shape := ⟨2, ![1, 256]⟩
abbrev S1x128x256 : Shape := ⟨3, ![1, 128, 256]⟩
abbrev S256x128 : Shape := ⟨2, ![256, 128]⟩
abbrev S512x128 : Shape := ⟨2, ![512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8192x4096, .bf16⟩
  | .hbm, ⟨1, _⟩ => ⟨S16384x4096, .bf16⟩
  | .hbm, ⟨2, _⟩ => ⟨S16384x4096, .bf16⟩
  | .hbm, ⟨3, _⟩ => ⟨S8x128x8192, .f32⟩
  | .hbm, ⟨4, _⟩ => ⟨S8x128x8192, .f32⟩
  | .hbm, ⟨5, _⟩ => ⟨S8x128x8192, .f32⟩
  | .hbm, ⟨6, _⟩ => ⟨S8x128x8192, .f32⟩
  | .hbm, ⟨7, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S8x128x512, .f32⟩
  | .local _ .vmem, ⟨7, _⟩ => ⟨S8x128x512, .f32⟩
  | .local _ .vmem, ⟨8, _⟩ => ⟨S8x128x512, .f32⟩
  | .local _ .vmem, ⟨9, _⟩ => ⟨S8x128x512, .f32⟩
  | .local _ .vmem, ⟨10, _⟩ => ⟨S8x128x512, .f32⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S512x4096, .f32⟩
  | .local _ .vmem, ⟨15, _⟩ => ⟨S512x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 64], ![false, false]⟩

def k0_off1 (i : grid0.Coords) (c0_i32_4 : BitVec 32) : Fin 3 → Nat :=
  let c0_6 : Index := 0#32
  let arg1 : BitVec 32 := BitVec.ofNat 32 (i 1).val
  let c2_i32 : BitVec 32 := 2#32
  let v6 : BitVec 32 := Scalar.muli arg1 c2_i32
  let v7 : BitVec 32 := Scalar.addi v6 c0_i32_4
  let v9 : Index := Scalar.indexCast v7
  let c0_7 : Index := 0#32
  ![0, v9.toNat, 0]
def k0_off2 (i : grid0.Coords) (c0_i32_4 : BitVec 32) : Fin 3 → Nat :=
  let c1 : Index := 1#32
  let arg1 : BitVec 32 := BitVec.ofNat 32 (i 1).val
  let c2_i32 : BitVec 32 := 2#32
  let v6 : BitVec 32 := Scalar.muli arg1 c2_i32
  let v7 : BitVec 32 := Scalar.addi v6 c0_i32_4
  let v26 : Index := Scalar.indexCast v7
  let c0_17 : Index := 0#32
  ![1, v26.toNat, 0]
def k0_off3 (i : grid0.Coords) (c0_i32_4 : BitVec 32) : Fin 3 → Nat :=
  let c2 : Index := 2#32
  let arg1 : BitVec 32 := BitVec.ofNat 32 (i 1).val
  let c2_i32 : BitVec 32 := 2#32
  let v6 : BitVec 32 := Scalar.muli arg1 c2_i32
  let v7 : BitVec 32 := Scalar.addi v6 c0_i32_4
  let v43 : Index := Scalar.indexCast v7
  let c0_27 : Index := 0#32
  ![2, v43.toNat, 0]
def k0_off4 (i : grid0.Coords) (c0_i32_4 : BitVec 32) : Fin 3 → Nat :=
  let c3 : Index := 3#32
  let arg1 : BitVec 32 := BitVec.ofNat 32 (i 1).val
  let c2_i32 : BitVec 32 := 2#32
  let v6 : BitVec 32 := Scalar.muli arg1 c2_i32
  let v7 : BitVec 32 := Scalar.addi v6 c0_i32_4
  let v60 : Index := Scalar.indexCast v7
  let c0_37 : Index := 0#32
  ![3, v60.toNat, 0]
def k0_off5 (i : grid0.Coords) (c0_i32_4 : BitVec 32) : Fin 3 → Nat :=
  let c4 : Index := 4#32
  let arg1 : BitVec 32 := BitVec.ofNat 32 (i 1).val
  let c2_i32 : BitVec 32 := 2#32
  let v6 : BitVec 32 := Scalar.muli arg1 c2_i32
  let v7 : BitVec 32 := Scalar.addi v6 c0_i32_4
  let v77 : Index := Scalar.indexCast v7
  let c0_47 : Index := 0#32
  ![4, v77.toNat, 0]
def k0_off6 (i : grid0.Coords) (c0_i32_4 : BitVec 32) : Fin 3 → Nat :=
  let c5 : Index := 5#32
  let arg1 : BitVec 32 := BitVec.ofNat 32 (i 1).val
  let c2_i32 : BitVec 32 := 2#32
  let v6 : BitVec 32 := Scalar.muli arg1 c2_i32
  let v7 : BitVec 32 := Scalar.addi v6 c0_i32_4
  let v94 : Index := Scalar.indexCast v7
  let c0_57 : Index := 0#32
  ![5, v94.toNat, 0]
def k0_off7 (i : grid0.Coords) (c0_i32_4 : BitVec 32) : Fin 3 → Nat :=
  let c6 : Index := 6#32
  let arg1 : BitVec 32 := BitVec.ofNat 32 (i 1).val
  let c2_i32 : BitVec 32 := 2#32
  let v6 : BitVec 32 := Scalar.muli arg1 c2_i32
  let v7 : BitVec 32 := Scalar.addi v6 c0_i32_4
  let v111 : Index := Scalar.indexCast v7
  let c0_67 : Index := 0#32
  ![6, v111.toNat, 0]
def k0_off8 (i : grid0.Coords) (c0_i32_4 : BitVec 32) : Fin 3 → Nat :=
  let c7 : Index := 7#32
  let arg1 : BitVec 32 := BitVec.ofNat 32 (i 1).val
  let c2_i32 : BitVec 32 := 2#32
  let v6 : BitVec 32 := Scalar.muli arg1 c2_i32
  let v7 : BitVec 32 := Scalar.addi v6 c0_i32_4
  let v128 : Index := Scalar.indexCast v7
  let c0_77 : Index := 0#32
  ![7, v128.toNat, 0]
def k0_off9 (i : grid0.Coords) (c0_i32_4 : BitVec 32) : Fin 3 → Nat :=
  let c0_88 : Index := 0#32
  let arg1 : BitVec 32 := BitVec.ofNat 32 (i 1).val
  let c2_i32 : BitVec 32 := 2#32
  let v6 : BitVec 32 := Scalar.muli arg1 c2_i32
  let v7 : BitVec 32 := Scalar.addi v6 c0_i32_4
  let v147 : Index := Scalar.indexCast v7
  let c256 : Index := 256#32
  ![0, v147.toNat, 256]
def k0_off10 (i : grid0.Coords) (c0_i32_4 : BitVec 32) : Fin 3 → Nat :=
  let c1_98 : Index := 1#32
  let arg1 : BitVec 32 := BitVec.ofNat 32 (i 1).val
  let c2_i32 : BitVec 32 := 2#32
  let v6 : BitVec 32 := Scalar.muli arg1 c2_i32
  let v7 : BitVec 32 := Scalar.addi v6 c0_i32_4
  let v164 : Index := Scalar.indexCast v7
  let c256_99 : Index := 256#32
  ![1, v164.toNat, 256]
def k0_off11 (i : grid0.Coords) (c0_i32_4 : BitVec 32) : Fin 3 → Nat :=
  let c2_109 : Index := 2#32
  let arg1 : BitVec 32 := BitVec.ofNat 32 (i 1).val
  let c2_i32 : BitVec 32 := 2#32
  let v6 : BitVec 32 := Scalar.muli arg1 c2_i32
  let v7 : BitVec 32 := Scalar.addi v6 c0_i32_4
  let v181 : Index := Scalar.indexCast v7
  let c256_110 : Index := 256#32
  ![2, v181.toNat, 256]
def k0_off12 (i : grid0.Coords) (c0_i32_4 : BitVec 32) : Fin 3 → Nat :=
  let c3_120 : Index := 3#32
  let arg1 : BitVec 32 := BitVec.ofNat 32 (i 1).val
  let c2_i32 : BitVec 32 := 2#32
  let v6 : BitVec 32 := Scalar.muli arg1 c2_i32
  let v7 : BitVec 32 := Scalar.addi v6 c0_i32_4
  let v198 : Index := Scalar.indexCast v7
  let c256_121 : Index := 256#32
  ![3, v198.toNat, 256]
def k0_off13 (i : grid0.Coords) (c0_i32_4 : BitVec 32) : Fin 3 → Nat :=
  let c4_131 : Index := 4#32
  let arg1 : BitVec 32 := BitVec.ofNat 32 (i 1).val
  let c2_i32 : BitVec 32 := 2#32
  let v6 : BitVec 32 := Scalar.muli arg1 c2_i32
  let v7 : BitVec 32 := Scalar.addi v6 c0_i32_4
  let v215 : Index := Scalar.indexCast v7
  let c256_132 : Index := 256#32
  ![4, v215.toNat, 256]
def k0_off14 (i : grid0.Coords) (c0_i32_4 : BitVec 32) : Fin 3 → Nat :=
  let c5_142 : Index := 5#32
  let arg1 : BitVec 32 := BitVec.ofNat 32 (i 1).val
  let c2_i32 : BitVec 32 := 2#32
  let v6 : BitVec 32 := Scalar.muli arg1 c2_i32
  let v7 : BitVec 32 := Scalar.addi v6 c0_i32_4
  let v232 : Index := Scalar.indexCast v7
  let c256_143 : Index := 256#32
  ![5, v232.toNat, 256]
def k0_off15 (i : grid0.Coords) (c0_i32_4 : BitVec 32) : Fin 3 → Nat :=
  let c6_153 : Index := 6#32
  let arg1 : BitVec 32 := BitVec.ofNat 32 (i 1).val
  let c2_i32 : BitVec 32 := 2#32
  let v6 : BitVec 32 := Scalar.muli arg1 c2_i32
  let v7 : BitVec 32 := Scalar.addi v6 c0_i32_4
  let v249 : Index := Scalar.indexCast v7
  let c256_154 : Index := 256#32
  ![6, v249.toNat, 256]
def k0_off16 (i : grid0.Coords) (c0_i32_4 : BitVec 32) : Fin 3 → Nat :=
  let c7_164 : Index := 7#32
  let arg1 : BitVec 32 := BitVec.ofNat 32 (i 1).val
  let c2_i32 : BitVec 32 := 2#32
  let v6 : BitVec 32 := Scalar.muli arg1 c2_i32
  let v7 : BitVec 32 := Scalar.addi v6 c0_i32_4
  let v266 : Index := Scalar.indexCast v7
  let c256_165 : Index := 256#32
  ![7, v266.toNat, 256]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== PeerRefIdeal.lean ====
abbrev S8192x4096 : Shape := ⟨2, ![8192, 4096]⟩
abbrev S16384x4096 : Shape := ⟨2, ![16384, 4096]⟩
abbrev S8x128x8192 : Shape := ⟨3, ![8, 128, 8192]⟩
abbrev S8x1x128x8192 : Shape := ⟨4, ![8, 1, 128, 8192]⟩
abbrev S8x128x1x8192 : Shape := ⟨4, ![8, 128, 1, 8192]⟩
abbrev S8x128x128x8192 : Shape := ⟨4, ![8, 128, 128, 8192]⟩
abbrev S_ : Shape := ⟨0, ![]⟩
abbrev S128x128x8192 : Shape := ⟨3, ![128, 128, 8192]⟩
abbrev S16384x8192 : Shape := ⟨2, ![16384, 8192]⟩
abbrev S8192x16384 : Shape := ⟨2, ![8192, 16384]⟩
abbrev S4096x16384 : Shape := ⟨2, ![4096, 16384]⟩

abbrev nBuf : Space → Nat
  | .hbm => 41
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S16384x4096, .bf16⟩
  | .hbm, ⟨2, _⟩ => ⟨S16384x4096, .bf16⟩
  | .hbm, ⟨3, _⟩ => ⟨S8x128x8192, .f32⟩
  | .hbm, ⟨4, _⟩ => ⟨S8x128x8192, .f32⟩
  | .hbm, ⟨5, _⟩ => ⟨S8x128x8192, .f32⟩
  | .hbm, ⟨6, _⟩ => ⟨S8x128x8192, .f32⟩
  | .hbm, ⟨7, _⟩ => ⟨S8x1x128x8192, .f32⟩
  | .hbm, ⟨8, _⟩ => ⟨S8x128x1x8192, .f32⟩
  | .hbm, ⟨9, _⟩ => ⟨S8x128x128x8192, .f32⟩
  | .hbm, ⟨10, _⟩ => ⟨S8x128x128x8192, .f32⟩
  | .hbm, ⟨11, _⟩ => ⟨S8x128x128x8192, .i1⟩
  | .hbm, ⟨12, _⟩ => ⟨S8x128x1x8192, .f32⟩
  | .hbm, ⟨13, _⟩ => ⟨S8x1x128x8192, .f32⟩
  | .hbm, ⟨14, _⟩ => ⟨S8x128x128x8192, .f32⟩
  | .hbm, ⟨15, _⟩ => ⟨S8x128x128x8192, .f32⟩
  | .hbm, ⟨16, _⟩ => ⟨S8x128x128x8192, .f32⟩
  | .hbm, ⟨17, _⟩ => ⟨S_, .f32⟩
  | .hbm, ⟨18, _⟩ => ⟨S_, .f32⟩
  | .hbm, ⟨19, _⟩ => ⟨S8x128x128x8192, .f32⟩
  | .hbm, ⟨20, _⟩ => ⟨S8x128x128x8192, .f32⟩
  | .hbm, ⟨21, _⟩ => ⟨S_, .f32⟩
  | .hbm, ⟨22, _⟩ => ⟨S128x128x8192, .f32⟩
  | .hbm, ⟨23, _⟩ => ⟨S16384x8192, .f32⟩
  | .hbm, ⟨24, _⟩ => ⟨S8192x16384, .f32⟩
  | .hbm, ⟨25, _⟩ => ⟨S8192x4096, .f32⟩
  | .hbm, ⟨26, _⟩ => ⟨S16384x4096, .f32⟩
  | .hbm, ⟨27, _⟩ => ⟨S4096x16384, .f32⟩
  | .hbm, ⟨28, _⟩ => ⟨S8192x16384, .f32⟩
  | .hbm, ⟨29, _⟩ => ⟨S_, .f32⟩
  | .hbm, ⟨30, _⟩ => ⟨S8192x16384, .f32⟩
  | .hbm, ⟨31, _⟩ => ⟨S8192x16384, .f32⟩
  | .hbm, ⟨32, _⟩ => ⟨S8192x16384, .f32⟩
  | .hbm, ⟨33, _⟩ => ⟨S_, .f32⟩
  | .hbm, ⟨34, _⟩ => ⟨S8192x16384, .f32⟩
  | .hbm, ⟨35, _⟩ => ⟨S8192x16384, .f32⟩
  | .hbm, ⟨36, _⟩ => ⟨S8192x16384, .f32⟩
  | .hbm, ⟨37, _⟩ => ⟨S8192x16384, .f32⟩
  | .hbm, ⟨38, _⟩ => ⟨S8192x16384, .f32⟩
  | .hbm, ⟨39, _⟩ => ⟨S16384x4096, .f32⟩
  | .hbm, ⟨40, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Common.lean ====
/-
  What the hand proofs share: a matrix product written as a sum over the inner coordinate, and the index equations the tiles use.
-/
module

public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem

namespace Cert.Common

/-- The matrix product `x · w`: element `(r, c)` is the sum over `k` of `x[r, k] · w[k, c]`. -/
def mm {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- The zero offset of a whole two-dimensional block. -/
theorem hz2 : (![0, 0] : Fin 2 → Nat) = fun _ => 0 := funext fun a => by fin_cases a <;> rfl

/-- The zero offset of a whole three-dimensional block. -/
theorem hz3 : (![0, 0, 0] : Fin 3 → Nat) = fun _ => 0 := funext fun a => by fin_cases a <;> rfl

/-- The zero offset of a whole one-dimensional block. -/
theorem hz1 : (![0] : Fin 1 → Nat) = fun _ => 0 := funext fun a => by fin_cases a; rfl

/-- Two rank-three indices with equal coordinates are equal. -/
theorem idx_ext3 {n : Fin 3 → ℕ} {x y : (a : Fin 3) → Fin (n a)} (h0 : (x 0 : ℕ) = y 0) (h1 : (x 1 : ℕ) = y 1) (h2 : (x 2 : ℕ) = y 2) :
    x = y :=
  funext fun a => Fin.ext <| match a with | ⟨0, _⟩ => h0 | ⟨1, _⟩ => h1 | ⟨2, _⟩ => h2

/-- Two rank-one indices with equal coordinates are equal. -/
theorem idx_ext1 {n : Fin 1 → ℕ} {x y : (a : Fin 1) → Fin (n a)} (h0 : (x 0 : ℕ) = y 0) : x = y :=
  funext fun a => Fin.ext <| match a with | ⟨0, _⟩ => h0

/-- A number below `a · b` splits into its tile, below `a`, and its place in the tile, below `b`. -/
theorem tile_lt {a b n : ℕ} (h : n < a * b) : n / b < a := by
  rcases Nat.eq_zero_or_pos b with rfl | hb
  · simp at h
  · exact (Nat.div_lt_iff_lt_mul hb).2 h

/-- A block of rows of `x` times a block of columns of `w` is the block of the product at those rows and columns: the three
    blocks are given by the array index `ex`, `ew`, `eo` of each of their elements, row tile `a` of `bm` rows, column tile `b` of `bn`. -/
theorem mm_block {M K N bm bn a b : ℕ} (x : (⟨2, ![M, K]⟩ : Shape).Idx → EReal) (w : (⟨2, ![K, N]⟩ : Shape).Idx → EReal)
    (ex : (⟨2, ![bm, K]⟩ : Shape).Idx → (⟨2, ![M, K]⟩ : Shape).Idx) (ew : (⟨2, ![K, bn]⟩ : Shape).Idx → (⟨2, ![K, N]⟩ : Shape).Idx)
    (eo : (⟨2, ![bm, bn]⟩ : Shape).Idx → (⟨2, ![M, N]⟩ : Shape).Idx)
    (x0 : ∀ y, (ex y 0).val = a * bm + (y 0).val) (x1 : ∀ y, (ex y 1).val = (y 1).val)
    (w0 : ∀ y, (ew y 0).val = (y 0).val) (w1 : ∀ y, (ew y 1).val = b * bn + (y 1).val)
    (o0 : ∀ y, (eo y 0).val = a * bm + (y 0).val) (o1 : ∀ y, (eo y 1).val = b * bn + (y 1).val) (r : Fin bm) (q : Fin bn) :
    ∑ k : Fin K, x (ex (ix2 r k)) * w (ew (ix2 k q)) = mm x w (eo (ix2 r q)) := by
  refine Finset.sum_congr rfl fun k _ => congrArg₂ (· * ·) (congrArg x ?_) (congrArg w ?_)
  · exact Shape.idx_ext₂ ((x0 _).trans (o0 (ix2 r q)).symm) (x1 _)
  · exact Shape.idx_ext₂ (w0 _) ((w1 _).trans (o1 (ix2 r q)).symm)

/-- The element of tile `(i₀ / bm, i₁ / bn)` at `(i₀ % bm, i₁ % bn)` is `i`. -/
theorem tile_emb {M N bm bn : ℕ} (i : (⟨2, ![M, N]⟩ : Shape).Idx) (eo : (⟨2, ![bm, bn]⟩ : Shape).Idx → (⟨2, ![M, N]⟩ : Shape).Idx)
    (hm : 0 < bm) (hn : 0 < bn)
    (o0 : ∀ y, (eo y 0).val = (i 0).val / bm * bm + (y 0).val) (o1 : ∀ y, (eo y 1).val = (i 1).val / bn * bn + (y 1).val) :
    eo (ix2 ⟨(i 0).val % bm, Nat.mod_lt _ hm⟩ ⟨(i 1).val % bn, Nat.mod_lt _ hn⟩) = i :=
  Shape.idx_ext₂ ((o0 _).trans (Nat.div_add_mod' _ _)) ((o1 _).trans (Nat.div_add_mod' _ _))

/-- A block whose block index is `(a, b)`, of `bm × bn`, has at `(r, q)` the array's element `(a · bm + r, b · bn + q)`. -/
theorem emb_at {M N bm bn a b : ℕ} {e : (⟨2, ![bm, bn]⟩ : Shape).Idx → (⟨2, ![M, N]⟩ : Shape).Idx} {ia ib : ℕ} (r : Fin bm) (q : Fin bn)
    (h0 : (e (ix2 r q) 0).val = ia * bm + r.val) (h1 : (e (ix2 r q) 1).val = ib * bn + q.val) (ha : ia = a) (hb : ib = b)
    (I : Fin M) (J : Fin N) (hI : a * bm + r.val = I.val) (hJ : b * bn + q.val = J.val) : e (ix2 r q) = ix2 I J := by
  subst ha hb
  exact Shape.idx_ext₂ (h0.trans hI) (h1.trans hJ)

/-- A block of rank three whose block index is `(a, b, c)` has at `(p, r, q)` the array's element that many blocks further along each axis. -/
theorem emb_at3 {L M N bl bm bn a b c : ℕ} {e : (⟨3, ![bl, bm, bn]⟩ : Shape).Idx → (⟨3, ![L, M, N]⟩ : Shape).Idx} {ia ib ic : ℕ}
    (p : Fin bl) (r : Fin bm) (q : Fin bn) (h0 : (e (ix3 p r q) 0).val = ia * bl + p.val) (h1 : (e (ix3 p r q) 1).val = ib * bm + r.val)
    (h2 : (e (ix3 p r q) 2).val = ic * bn + q.val) (ha : ia = a) (hb : ib = b) (hc : ic = c) (I : Fin L) (J : Fin M) (K : Fin N)
    (hI : a * bl + p.val = I.val) (hJ : b * bm + r.val = J.val) (hK : c * bn + q.val = K.val) : e (ix3 p r q) = ix3 I J K := by
  subst ha hb hc
  exact idx_ext3 (h0.trans hI) (h1.trans hJ) (h2.trans hK)

end Cert.Common

end
-- ==== Proof.KernelRef.lean ====
/-
  The differential attention of the prompt, in plain functions, and the reading of the reference as those functions.
-/
module

public import proofs.«01_k».proof.Defs
public import proofs.«01_k».proof.Proof.Common
public import proofs.«01_k».proof.Proof.Gen.ReferenceIdeal.Run
public import proofs.«01_k».proof.Proof.Gen.ReferenceIdeal.Read

@[expose] public section

set_option maxRecDepth 16384

noncomputable section

open Idealize.ShloMosaic Idealize.ShloMosaic.TcCoe Idealize.SL.Sem

namespace Cert.KernelRef

open Cert.ReferenceIdeal Cert.ReferenceIdeal.Gen Cert.ReferenceIdeal.Read Cert.Common

/-- The largest of a row of scores, from minus infinity. -/
def rowMax (s : Fin 2048 → EReal) : EReal := Finset.fold max (Ideal.ofBits .f32 4286578688#32) s Finset.univ

/-- The softmax of a row of scores at position `j`. -/
def soft (s : Fin 2048 → EReal) (j : Fin 2048) : EReal :=
  Ideal.div (Ideal.exp (s j - rowMax s)) (∑ x : Fin 2048, Ideal.exp (s x - rowMax s))

/-- The factor `λ` of the second softmax, from the four parameter rows. -/
def lam (y : S4x128.Idx → EReal) : EReal :=
  Ideal.exp (∑ x : Fin 128, y (ix2 0 x) * y (ix2 1 x)) - Ideal.exp (∑ x : Fin 128, y (ix2 2 x) * y (ix2 3 x))
    + Ideal.ofBits .f32 1052116297#32

/-- The causally masked, scaled score of query row `q` against key row `s`: batch `b`, key head `h`, group `g`, component `c`. -/
def score (u : S4x2048x10240.Idx → EReal) (b h : Fin 4) (g c : Fin 2) (q s : Fin 2048) : EReal :=
  Scalar.select (IntOp.cmpi .sle (BitVec.ofNat 32 s.val) (BitVec.ofNat 32 q.val))
    ((∑ d : Fin 128, u (ix3 b q ⟨h.val * 512 + g.val * 256 + c.val * 128 + d.val, by omega⟩)
        * u (ix3 b s ⟨2048 + (h.val * 256 + c.val * 128 + d.val), by omega⟩)) * Ideal.ofBits .f32 1035273459#32)
    (Ideal.ofBits .f32 4048155338#32)

/-- The difference of the two softmaxes, applied to the values of head `h`: column `e` of query row `q`. -/
def mix (u : S4x2048x10240.Idx → EReal) (y : S4x128.Idx → EReal) (b h : Fin 4) (g : Fin 2) (q : Fin 2048) (e : Fin 256) : EReal :=
  ∑ s : Fin 2048, (soft (score u b h g 0 q) s - lam y * soft (score u b h g 1 q) s)
    * u (ix3 b s ⟨3072 + (h.val * 256 + e.val), by omega⟩)

/-- A row of 256 numbers divided by its root mean square, times a gain, times the constant of the layer. -/
def subNorm (o : Fin 256 → EReal) (g : EReal) (e : Fin 256) : EReal :=
  o e * Ideal.rsqrt (Ideal.div (∑ x : Fin 256, o x * o x) (Ideal.ofBits .f32 1132462080#32) + Ideal.ofBits .f32 925353388#32) * g
    * Ideal.ofBits .f32 1059388764#32

/-- The whole attention: column `e` of the result belongs to key head `e / 512`, group `e / 256 % 2`, place `e % 256`. -/
def attn (u : S4x2048x10240.Idx → EReal) (y : S4x128.Idx → EReal) (z : S256.Idx → EReal) : S4x2048x2048.Idx → EReal := fun i =>
  subNorm (mix u y (i 0) ⟨(i 2).val / 512, tile_lt (a := 4) (i 2).isLt⟩ ⟨(i 2).val / 256 % 2, Nat.mod_lt _ (by decide)⟩ (i 1))
    (z (ix1 ⟨(i 2).val % 256, Nat.mod_lt _ (by decide)⟩)) ⟨(i 2).val % 256, Nat.mod_lt _ (by decide)⟩

/-- The queries the reference takes. -/
theorem r1 (x : S4x2048x10240.Idx → EReal) (b : Fin 4) (q : Fin 2048) (h : Fin 4) (g c : Fin 2) (d : Fin 128) :
    (val_main_v1 (F := Ideal) x (ix6 b q h g c d) : EReal)
      = x (ix3 b q ⟨h.val * 512 + g.val * 256 + c.val * 128 + d.val, by omega⟩) := by
  pointwise [val_main_v1, val_main_v0]
/-- The keys the reference takes. -/
theorem r3 (x : S4x2048x10240.Idx → EReal) (b : Fin 4) (q : Fin 2048) (h : Fin 4) (c : Fin 2) (d : Fin 128) :
    (val_main_v3 (F := Ideal) x (ix5 b q h c d) : EReal)
      = x (ix3 b q ⟨2048 + (h.val * 256 + c.val * 128 + d.val), by omega⟩) := by
  pointwise [val_main_v3, val_main_v2]
/-- The values the reference takes. -/
theorem r5 (x : S4x2048x10240.Idx → EReal) (b : Fin 4) (q : Fin 2048) (h : Fin 4) (d : Fin 256) :
    (val_main_v5 (F := Ideal) x (ix4 b q h d) : EReal) = x (ix3 b q ⟨3072 + (h.val * 256 + d.val), by omega⟩) := by
  pointwise [val_main_v5, val_main_v4]
/-- The reference's `λ`. -/
theorem r21 (x : S4x128.Idx → EReal) (i) :
    (val_main_v21 (F := Ideal) x i : EReal) = lam x := by
  unfold lam
  pointwise [val_main_v21, val_main_v20, val_main_cst_1, val_main_v19, val_main_v18, val_main_v17, val_main_v16, val_main_v15,
   val_main_v14, val_main_v13, val_main_v12, val_main_v11, val_main_v10, val_main_v9, val_main_v8, val_main_v7, val_main_v6, val_main_cst, val_main_cst_0]
/-- The reference's masked scores. -/
theorem r32 (x : S4x2048x10240.Idx → EReal) (b h : Fin 4) (g c : Fin 2) (q s : Fin 2048) :
    (val_main_v32 (F := Ideal) x (ix6 b h g c q s) : EReal) = score x b h g c q s := by
  have hm : score x b h g c q s = Scalar.select (IntOp.cmpi .sle (BitVec.ofNat 32 s.val) (BitVec.ofNat 32 q.val))
    ((∑ d : Fin 128, (val_main_v3 (F := Ideal) x (ix5 b s h c d) : EReal) * val_main_v1 (F := Ideal) x (ix6 b q h g c d))
      * Ideal.ofBits .f32 1035273459#32) (Ideal.ofBits .f32 4048155338#32) := by
    unfold score
    refine congrArg₂ (Scalar.select _) (congrArg (· * _) (Finset.sum_congr rfl fun d _ => ?_)) rfl
    rw [r3, r1, mul_comm]
  rw [hm]
  pointwise [val_main_v32, val_main_call0_v0, val_main_call0_v1, val_main_call0_v2, val_main_v31, val_main_v30, val_main_v29, val_main_v28,
   val_main_v27, val_main_v26, val_main_v25, val_main_v24, val_main_v23, val_main_v22, val_main_cst_2, val_main_cst_3]
  rfl
/-- The reference's row maximum. -/
theorem r33 (x : S4x2048x10240.Idx → EReal) (b h : Fin 4) (g c : Fin 2) (q : Fin 2048) :
    (val_main_v33 (F := Ideal) x (ix5 b h g c q) : EReal) = rowMax (score x b h g c q) := by
  have hs : (fun s => (val_main_v32 (F := Ideal) x (ix6 b h g c q s) : EReal)) = score x b h g c q := funext fun s => r32 x b h g c q s
  rw [← hs]
  unfold val_main_v33 rowMax
  generalize val_main_v32 (F := Ideal) x = y0
  refine (Host.reduce_eq_fold_single (FloatOps.maximumf (F := Ideal)) y0 _ reducesTo_S4x4x2x2x2048x2048_S4x4x2x2x2048_d5 (by decide) h_S_ _).trans ?_
  refine Finset.fold_congr fun s _ => ?_
  exact congrArg y0 (funext fun a => Fin.ext (by match a with | ⟨0, _⟩ => rfl | ⟨1, _⟩ => rfl | ⟨2, _⟩ => rfl | ⟨3, _⟩ => rfl | ⟨4, _⟩ => rfl | ⟨5, _⟩ => rfl))
/-- The second maximum with minus infinity changes nothing. -/
theorem r35 (x : S4x2048x10240.Idx → EReal) (b h : Fin 4) (g c : Fin 2) (q : Fin 2048) :
    (val_main_v35 (F := Ideal) x (ix5 b h g c q) : EReal) = rowMax (score x b h g c q) := by
  rw [val_main_v35_apply, r33, val_main_v34_apply, val_main_cst_5_apply]
  exact max_eq_right ((Finset.le_fold_max _).2 (Or.inl le_rfl))
/-- The exponentials of the reference's softmax. -/
theorem r39 (x : S4x2048x10240.Idx → EReal) (b h : Fin 4) (g c : Fin 2) (q s : Fin 2048) :
    (val_main_v39 (F := Ideal) x (ix6 b h g c q s) : EReal) = Ideal.exp (score x b h g c q s - rowMax (score x b h g c q)) := by
  rw [val_main_v39_apply, val_main_v38_apply, val_main_v37_apply, val_main_v36_apply, r32]
  rw [show idx_main_v36 (idx_main_v37 (ix6 b h g c q s)) = ix5 b h g c q from
    funext fun a => match a with | ⟨0, _⟩ => rfl | ⟨1, _⟩ => rfl | ⟨2, _⟩ => rfl | ⟨3, _⟩ => rfl | ⟨4, _⟩ => rfl, r35]
  rfl
/-- The reference's softmax. -/
theorem r43 (x : S4x2048x10240.Idx → EReal) (b h : Fin 4) (g c : Fin 2) (q s : Fin 2048) :
    (val_main_v43 (F := Ideal) x (ix6 b h g c q s) : EReal) = soft (score x b h g c q) s := by
  have hd : (val_main_v40 (F := Ideal) x (ix5 b h g c q) : EReal) = ∑ k : Fin 2048, Ideal.exp (score x b h g c q k - rowMax (score x b h g c q)) := by
    rw [val_main_v40_apply, val_main_cst_6_apply]
    refine (congrArg₂ (· + ·) (Ideal.ofBits_zero_f32) (Finset.sum_congr rfl fun k _ => ?_)).trans (zero_add _)
    refine Eq.trans (congrArg _ ?_) (r39 x b h g c q k)
    exact funext fun a => match a with | ⟨0, _⟩ => rfl | ⟨1, _⟩ => rfl | ⟨2, _⟩ => rfl | ⟨3, _⟩ => rfl | ⟨4, _⟩ => rfl | ⟨5, _⟩ => rfl
  rw [val_main_v43_apply, r39, val_main_v42_apply, val_main_v41_apply]
  rw [show idx_main_v41 (idx_main_v42 (ix6 b h g c q s)) = ix5 b h g c q from
    funext fun a => match a with | ⟨0, _⟩ => rfl | ⟨1, _⟩ => rfl | ⟨2, _⟩ => rfl | ⟨3, _⟩ => rfl | ⟨4, _⟩ => rfl, hd]
  rfl
/-- The first component's softmax, the axis of components dropped. -/
theorem r45 (x : S4x2048x10240.Idx → EReal) (b h : Fin 4) (g : Fin 2) (q s : Fin 2048) :
    (val_main_v45 (F := Ideal) x (ix5 b h g q s) : EReal) = soft (score x b h g 0 q) s := by
  rw [← r43]
  unfold val_main_v45 val_main_v44
  generalize val_main_v43 (F := Ideal) x = y0
  pointwise
/-- The second component's softmax, the axis of components dropped. -/
theorem r47 (x : S4x2048x10240.Idx → EReal) (b h : Fin 4) (g : Fin 2) (q s : Fin 2048) :
    (val_main_v47 (F := Ideal) x (ix5 b h g q s) : EReal) = soft (score x b h g 1 q) s := by
  rw [← r43]
  unfold val_main_v47 val_main_v46
  generalize val_main_v43 (F := Ideal) x = y0
  pointwise
/-- The reference's weighted values. -/
theorem r52 (x : S4x2048x10240.Idx → EReal) (y : S4x128.Idx → EReal) (b h : Fin 4) (g : Fin 2) (q : Fin 2048) (e : Fin 256) :
    (val_main_v52 (F := Ideal) x y (ix5 b q h g e) : EReal) = mix x y b h g q e := by
  rw [val_main_v52_apply, val_main_v51_apply]
  unfold mix
  refine Finset.sum_congr rfl fun s _ => ?_
  rw [show lidx_main_v51 (idx_main_v52 (ix5 b q h g e)) s = ix4 b s h e from
    funext fun a => match a with | ⟨0, _⟩ => rfl | ⟨1, _⟩ => rfl | ⟨2, _⟩ => rfl | ⟨3, _⟩ => rfl,
    show ridx_main_v51 (idx_main_v52 (ix5 b q h g e)) s = ix5 b h g q s from
    funext fun a => match a with | ⟨0, _⟩ => rfl | ⟨1, _⟩ => rfl | ⟨2, _⟩ => rfl | ⟨3, _⟩ => rfl | ⟨4, _⟩ => rfl,
    r5, val_main_v50_apply, val_main_v49_apply, val_main_v48_apply, r45, r47, r21, mul_comm]
  rfl
/-- The reference's result. -/
theorem r69 (x : S4x2048x10240.Idx → EReal) (y : S4x128.Idx → EReal) (z : S256.Idx → EReal) :
    val_main_v69 (F := Ideal) x y z = attn x y z := by
  funext i
  obtain ⟨b, q, e, rfl⟩ : ∃ (b : Fin 4) (q : Fin 2048) (e : Fin 2048), i = ix3 b q e := ⟨i 0, i 1, i 2, eq_ix3 i⟩
  have ho : ∀ k : Fin 256, mix x y b ⟨e.val / 512, tile_lt (a := 4) e.isLt⟩ ⟨e.val / 256 % 2, Nat.mod_lt _ (by decide)⟩ q k
    = (val_main_v52 (F := Ideal) x y (ix5 b q ⟨e.val / 512, tile_lt (a := 4) e.isLt⟩ ⟨e.val / 256 % 2, Nat.mod_lt _ (by decide)⟩ k) : EReal) :=
    fun k => (r52 x y b _ _ q k).symm
  show _ = subNorm (mix x y b ⟨e.val / 512, tile_lt (a := 4) e.isLt⟩ ⟨e.val / 256 % 2, Nat.mod_lt _ (by decide)⟩ q)
    (z (ix1 ⟨e.val % 256, Nat.mod_lt _ (by decide)⟩)) ⟨e.val % 256, Nat.mod_lt _ (by decide)⟩
  rw [show mix x y b ⟨e.val / 512, tile_lt (a := 4) e.isLt⟩ ⟨e.val / 256 % 2, Nat.mod_lt _ (by decide)⟩ q = _ from funext ho]
  unfold subNorm
  pointwise [val_main_v69, val_main_v68, val_main_v67, val_main_v66, val_main_v65, val_main_v64, val_main_v63, val_main_v62,
  val_main_v61, val_main_v60, val_main_v59, val_main_v58, val_main_v57, val_main_v56, val_main_v55, val_main_v54, val_main_v53,
  val_main_cst_7, val_main_cst_8, val_main_cst_9, val_main_cst_10]

end Cert.KernelRef

end
-- ==== Proof.KernelBody.lean ====
/-
  The attention kernel's body at an element of what it stores, over the blocks it loads.
-/
module

public import proofs.«01_k».proof.Defs
public import proofs.«01_k».proof.Proof.Common
public import proofs.«01_k».proof.Proof.KernelRef
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelBody

open Cert.KernelIdeal Cert.KernelIdeal.Gen Cert.Common Cert.KernelRef

/-- The masked, scaled score of block row `r` against key row `j`, from a block of queries, a block of keys and the mask. -/
def sc (k : S2048x128.Idx → EReal) (q : S256x128.Idx → EReal) (msk : S256x2048.Idx → BitVec 1) (r : Fin 256) (j : Fin 2048) : EReal :=
  Scalar.select (msk (ix2 r j)) ((∑ d : Fin 128, q (ix2 r d) * k (ix2 j d)) * Ideal.ofBits .f32 1035273459#32) (Ideal.ofBits .f32 4048155338#32)

/-- Two rows of scores, `λ` and a block of values: the difference of the softmaxes applied to column `e`. -/
def row (s0 s1 : Fin 2048 → EReal) (l : EReal) (v : S2048x256.Idx → EReal) (e : Fin 256) : EReal :=
  ∑ s : Fin 2048, (soft s0 s - l * soft s1 s) * v (ix2 s e)

/-- The first group's weighted values. -/
theorem pay10_apply (v15 : FVec Ideal S1x1 .f32) (v19 v21 : FVec Ideal S2048x128 .bf16) (v24 : FVec Ideal S2048x256 .bf16)
    (v32 : IVec S256x2048 1) (v35 v38 : FVec Ideal S256x128 .bf16) (r e : Fin 256) :
    (k0_pay10 (F := Ideal) v15 v19 v21 v24 v32 v35 v38 (ix2 r e) : EReal)
      = row (sc v19 v35 v32 r) (sc v21 v38 v32 r) (v15 (ix2 0 0)) v24 e := by
  unfold row soft rowMax sc
  unfold_payloads
  pointwise

/-- The first group's reciprocal root mean square. -/
theorem pay12_apply (v15 : FVec Ideal S1x1 .f32) (v19 v21 : FVec Ideal S2048x128 .bf16) (v24 : FVec Ideal S2048x256 .bf16)
    (v32 : IVec S256x2048 1) (v35 v38 : FVec Ideal S256x128 .bf16) (r e : Fin 256) :
    (k0_pay12 (F := Ideal) v15 v19 v21 v24 v32 v35 v38 (ix2 r e) : EReal)
      = Ideal.rsqrt (Ideal.div (∑ x : Fin 256, row (sc v19 v35 v32 r) (sc v21 v38 v32 r) (v15 (ix2 0 0)) v24 x
          * row (sc v19 v35 v32 r) (sc v21 v38 v32 r) (v15 (ix2 0 0)) v24 x) (Ideal.ofBits .f32 1132462080#32) + Ideal.ofBits .f32 925353388#32) := by
  unfold row soft rowMax sc
  unfold_payloads
  pointwise

/-- The first group's store. -/
theorem pay13_apply (v71 v82 : FVec Ideal S256x256 .f32) (v73 : FVec Ideal S1x256 .f32) (r e : Fin 256) :
    (k0_pay13 (F := Ideal) v71 v73 v82 (ix3 0 r e) : EReal)
      = v71 (ix2 r e) * v82 (ix2 r e) * v73 (ix2 0 e) * Ideal.ofBits .f32 1059388764#32 := by
  unfold_payloads
  pointwise

/-- `λ`. -/
theorem pay2_apply (v : FVec Ideal S4x128 .f32) : (k0_pay2 (F := Ideal) v (ix2 0 0) : EReal) = lam v := by
  unfold lam
  unfold_payloads
  pointwise

/-- The causal mask of the query tile at point `i`. -/
theorem pay7_apply (i : grid0.Coords) (r : Fin 256) (j : Fin 2048) :
    k0_pay7 i (ix2 r j) = IntOp.cmpi .sle (BitVec.ofNat 32 j.val) (BitVec.ofNat 32 ((i 2).val * 256 + r.val)) := by
  have h : BitVec.ofNat 32 ((i 2).val * 256 + r.val)
      = IntOp.addi (Scalar.muli (BitVec.ofNat 32 (i 2).val) 256#32) (BitVec.ofNat 32 r.val) := by
    show _ = BitVec.ofNat 32 (i 2).val * 256#32 + BitVec.ofNat 32 r.val
    rw [BitVec.ofNat_add, BitVec.ofNat_mul]
  rw [h]
  unfold_payloads
  pointwise

/-- The keys of the first component. -/
theorem pay4_apply (v : FVec Ideal S1x2048x256 .f32) (j : Fin 2048) (d : Fin 128) :
    (k0_pay4 (F := Ideal) v (ix2 j d) : EReal) = v (ix3 0 j ⟨d.val, by omega⟩) := by
  unfold_payloads
  pointwise

/-- The keys of the second component. -/
theorem pay5_apply (v : FVec Ideal S1x2048x256 .f32) (j : Fin 2048) (d : Fin 128) :
    (k0_pay5 (F := Ideal) v (ix2 j d) : EReal) = v (ix3 0 j ⟨128 + d.val, by omega⟩) := by
  unfold_payloads
  pointwise

/-- The values. -/
theorem pay6_apply (v : FVec Ideal S1x2048x256 .f32) (j : Fin 2048) (e : Fin 256) :
    (k0_pay6 (F := Ideal) v (ix2 j e) : EReal) = v (ix3 0 j e) := by
  unfold_payloads
  pointwise

/-- The first group's queries, first component. -/
theorem pay8_apply (v : FVec Ideal S1x256x128 .f32) (r : Fin 256) (d : Fin 128) :
    (k0_pay8 (F := Ideal) v (ix2 r d) : EReal) = v (ix3 0 r d) := by
  unfold_payloads
  pointwise

/-- The first group's queries, second component. -/
theorem pay9_apply (v : FVec Ideal S1x256x128 .f32) (r : Fin 256) (d : Fin 128) :
    (k0_pay9 (F := Ideal) v (ix2 r d) : EReal) = v (ix3 0 r d) := by
  unfold_payloads
  pointwise

/-- The gain. -/
theorem pay11_apply (v : FVec Ideal S1x256 .f32) (e : Fin 256) :
    (k0_pay11 (F := Ideal) v (ix2 0 e) : EReal) = v (ix2 0 e) := by
  unfold_payloads
  pointwise

/-- The second group's store, from its first softmax and the exponentials of its second. -/
theorem pay1_apply (v15 : FVec Ideal S1x1 .f32) (v24 : FVec Ideal S2048x256 .bf16) (v111 v121 : FVec Ideal S256x2048 .f32)
    (v131 : FVec Ideal S1x256 .f32) (r e : Fin 256) :
    (k0_pay1 (F := Ideal) v15 v24 v111 v121 v131 (ix3 0 r e) : EReal)
      = subNorm (fun x => ∑ s : Fin 2048, (v111 (ix2 r s) - v15 (ix2 0 0) * Ideal.div (v121 (ix2 r s)) (∑ x : Fin 2048, v121 (ix2 r x))) * v24 (ix2 s x))
          (v131 (ix2 0 e)) e := by
  unfold subNorm
  unfold_payloads
  pointwise

/-- The second group's first softmax. -/
theorem pay14_apply (v19 : FVec Ideal S2048x128 .bf16) (v32 : IVec S256x2048 1) (v92 : FVec Ideal S1x256x128 .f32) (r : Fin 256) (s : Fin 2048) :
    (k0_pay14 (F := Ideal) v19 v32 v92 (ix2 r s) : EReal) = soft (sc v19 (k0_pay8 (F := Ideal) v92) v32 r) s := by
  unfold soft rowMax sc
  unfold_payloads
  pointwise

/-- The exponentials of the second group's second softmax. -/
theorem pay15_apply (v21 : FVec Ideal S2048x128 .bf16) (v32 : IVec S256x2048 1) (v95 : FVec Ideal S1x256x128 .f32) (r : Fin 256) (s : Fin 2048) :
    (k0_pay15 (F := Ideal) v21 v32 v95 (ix2 r s) : EReal)
      = Ideal.exp (sc v21 (k0_pay8 (F := Ideal) v95) v32 r s - rowMax (sc v21 (k0_pay8 (F := Ideal) v95) v32 r)) := by
  unfold rowMax sc
  unfold_payloads
  pointwise

/-- The second group's store: its row of weighted values, normalised. -/
theorem piece1_apply (v15 : FVec Ideal S1x1 .f32) (v24 : FVec Ideal S2048x256 .bf16) (ka kb : FVec Ideal S2048x128 .bf16)
    (msk : IVec S256x2048 1) (qa qb : FVec Ideal S1x256x128 .f32) (g : FVec Ideal S1x256 .f32) (r e : Fin 256) :
    (k0_pay1 (F := Ideal) v15 v24 (k0_pay14 (F := Ideal) ka msk qa) (k0_pay15 (F := Ideal) kb msk qb) g (ix3 0 r e) : EReal)
      = subNorm (row (sc ka (k0_pay8 (F := Ideal) qa) msk r) (sc kb (k0_pay8 (F := Ideal) qb) msk r) (v15 (ix2 0 0)) v24) (g (ix2 0 e)) e := by
  rw [pay1_apply]
  refine congrArg (fun o => subNorm o (g (ix2 0 e)) e) (funext fun x => Finset.sum_congr rfl fun s _ => ?_)
  simp only [pay14_apply, pay15_apply]
  rfl

/-- The first group's store: its row of weighted values, normalised. -/
theorem piece0_apply (v15 : FVec Ideal S1x1 .f32) (v24 : FVec Ideal S2048x256 .bf16) (ka kb : FVec Ideal S2048x128 .bf16)
    (msk : IVec S256x2048 1) (qa qb : FVec Ideal S256x128 .bf16) (g : FVec Ideal S1x256 .f32) (r e : Fin 256) :
    (k0_pay13 (F := Ideal) (k0_pay10 (F := Ideal) v15 ka kb v24 msk qa qb) (k0_pay11 (F := Ideal) g) (k0_pay12 (F := Ideal) v15 ka kb v24 msk qa qb) (ix3 0 r e) : EReal)
      = subNorm (row (sc ka qa msk r) (sc kb qb msk r) (v15 (ix2 0 0)) v24) (g (ix2 0 e)) e := by
  rw [pay13_apply, pay10_apply, pay12_apply, pay11_apply]
  rfl

/-- Column `g · 256 + e` of head `h` of the attention: group `g`'s row of weighted values, normalised. -/
theorem attn_col (u : S4x2048x10240.Idx → EReal) (y : S4x128.Idx → EReal) (z : S256.Idx → EReal) (b h : Fin 4) (g : Fin 2)
    (q : Fin 2048) (e : Fin 256) :
    attn u y z (ix3 b q ⟨h.val * 512 + (g.val * 256 + e.val), by omega⟩) = subNorm (mix u y b h g q) (z (ix1 e)) e := by
  have eh : (⟨(h.val * 512 + (g.val * 256 + e.val)) / 512, by omega⟩ : Fin 4) = h := Fin.ext (by show _ / 512 = h.val; omega)
  have eg : (⟨(h.val * 512 + (g.val * 256 + e.val)) / 256 % 2, by omega⟩ : Fin 2) = g := Fin.ext (by show _ / 256 % 2 = g.val; omega)
  have ee : (⟨(h.val * 512 + (g.val * 256 + e.val)) % 256, by omega⟩ : Fin 256) = e := Fin.ext (by show _ % 256 = e.val; omega)
  show subNorm (mix u y b ⟨(h.val * 512 + (g.val * 256 + e.val)) / 512, _⟩ ⟨(h.val * 512 + (g.val * 256 + e.val)) / 256 % 2, _⟩ q)
    (z (ix1 ⟨(h.val * 512 + (g.val * 256 + e.val)) % 256, _⟩)) ⟨(h.val * 512 + (g.val * 256 + e.val)) % 256, _⟩ = _
  rw [eh, eg, ee]

/-- Scores over blocks are the scores over the array the blocks are cut from. -/
theorem sc_eq (u : S4x2048x10240.Idx → EReal) (b h : Fin 4) (g c : Fin 2) (q : Fin 2048) (k : S2048x128.Idx → EReal)
    (qb : S256x128.Idx → EReal) (msk : S256x2048.Idx → BitVec 1) (r : Fin 256)
    (hk : ∀ j d, k (ix2 j d) = u (ix3 b j ⟨2048 + (h.val * 256 + c.val * 128 + d.val), by omega⟩))
    (hq : ∀ d, qb (ix2 r d) = u (ix3 b q ⟨h.val * 512 + g.val * 256 + c.val * 128 + d.val, by omega⟩))
    (hm : ∀ j, msk (ix2 r j) = IntOp.cmpi .sle (BitVec.ofNat 32 j.val) (BitVec.ofNat 32 q.val)) :
    sc k qb msk r = score u b h g c q := by
  funext j
  unfold sc score
  rw [hm j]
  refine congrArg₂ (Scalar.select _) (congrArg (· * _) (Finset.sum_congr rfl fun d _ => ?_)) rfl
  rw [hk, hq]

variable (u : S4x2048x10240.Idx → EReal) (y : S4x128.Idx → EReal) (z : S256.Idx → EReal) (b h : Fin 4) (qi : Fin 8)
variable (i : grid0.Coords) (x0 : FVec Ideal S4x128 .f32) (x1 : FVec Ideal S1x256 .f32) (x2 : FVec Ideal S1x256x512 .f32)
variable (x3 x4 : FVec Ideal S1x2048x256 .f32)

/-- The body's two stores, at an element of the block: the attention of the arrays the five blocks are cut from. -/
theorem out_apply (hi : (i 2).val = qi.val) (hy : x0 = y) (hz : ∀ e, x1 (ix2 0 e) = z (ix1 e))
    (hq : ∀ (r : Fin 256) (a : Fin 512), x2 (ix3 0 r a) = u (ix3 b ⟨qi.val * 256 + r.val, by omega⟩ ⟨h.val * 512 + a.val, by omega⟩))
    (hk : ∀ (j : Fin 2048) (a : Fin 256), x3 (ix3 0 j a) = u (ix3 b j ⟨2048 + (h.val * 256 + a.val), by omega⟩))
    (hv : ∀ (j : Fin 2048) (a : Fin 256), x4 (ix3 0 j a) = u (ix3 b j ⟨3072 + (h.val * 256 + a.val), by omega⟩))
    (r : Fin 256) (a : Fin 512) :
    (out0_5 (F := Ideal) i x0 x1 x2 x3 x4 (ix3 0 r a) : EReal)
      = attn u y z (ix3 b ⟨qi.val * 256 + r.val, by omega⟩ ⟨h.val * 512 + a.val, by omega⟩) := by
  subst hy
  have hmask : ∀ (r : Fin 256) (j : Fin 2048), k0_pay7 i (ix2 r j)
      = IntOp.cmpi .sle (BitVec.ofNat 32 j.val) (BitVec.ofNat 32 (⟨qi.val * 256 + r.val, by omega⟩ : Fin 2048).val) := fun r j => by
    rw [pay7_apply, hi]
  have hk0 : ∀ (j : Fin 2048) (d : Fin 128), (k0_pay4 (F := Ideal) x3 (ix2 j d) : EReal)
      = u (ix3 b j ⟨2048 + (h.val * 256 + (0 : Fin 2).val * 128 + d.val), by omega⟩) := fun j d => by
    rw [pay4_apply, hk]; exact congrArg u (idx_ext3 rfl rfl (by show 2048 + (_ + d.val) = 2048 + (_ + 0 * 128 + d.val); omega))
  have hk1 : ∀ (j : Fin 2048) (d : Fin 128), (k0_pay5 (F := Ideal) x3 (ix2 j d) : EReal)
      = u (ix3 b j ⟨2048 + (h.val * 256 + (1 : Fin 2).val * 128 + d.val), by omega⟩) := fun j d => by
    rw [pay5_apply, hk]; exact congrArg u (idx_ext3 rfl rfl (by show 2048 + (_ + (128 + d.val)) = 2048 + (_ + 1 * 128 + d.val); omega))
  have hv0 : ∀ (j : Fin 2048) (e : Fin 256), (k0_pay6 (F := Ideal) x4 (ix2 j e) : EReal)
      = u (ix3 b j ⟨3072 + (h.val * 256 + e.val), by omega⟩) := fun j e => by rw [pay6_apply, hv]
  have hqr : ∀ (w : S1x256x512.Idx) (r : Fin 256) (d : Fin 128) (a : ℕ) (ha : a < 512), (w 1).val = r.val → (w 2).val = a →
      ∀ (a' : Fin 10240), h.val * 512 + a = a'.val → x2 w = u (ix3 b ⟨qi.val * 256 + r.val, by omega⟩ a') := fun w r d a ha w1 w2 a' e => by
    have hw : w = ix3 0 r ⟨a, ha⟩ := idx_ext3 (by show (w 0).val = 0; have : (w 0).val < 1 := (w 0).isLt; omega) w1 w2
    rw [hw, hq]
    exact congrArg u (idx_ext3 rfl rfl e)
  have hl : (k0_pay2 (F := Ideal) x0 (ix2 0 0) : EReal) = lam x0 := pay2_apply x0
  have e0 : View.ld (Val := Elt Ideal) (e' := .f32) x0 r0_0 = x0 := by rw [View.ld_unit_zero hz2]
  have e1 : View.ld (Val := Elt Ideal) (e' := .f32) x1 r0_4 = x1 := by rw [View.ld_unit_zero hz2]
  have e3 : View.ld (Val := Elt Ideal) (e' := .f32) x3 r0_1 = x3 := by rw [View.ld_unit_zero hz3]
  have e4 : View.ld (Val := Elt Ideal) (e' := .f32) x4 r0_1 = x4 := by rw [View.ld_unit_zero hz3]
  unfold_out out0_5
  rw [e0, e1, e3, e4]
  refine (View.canon_apply_of_pieces (Val := Elt Ideal) (fun w => attn u x0 z (ix3 b ⟨qi.val * 256 + (w 1).val, by have := (w 1).isLt; have : (w 1).val < 256 := (w 1).isLt; omega⟩
    ⟨h.val * 512 + (w 2).val, by have : (w 2).val < 512 := (w 2).isLt; omega⟩)) _ ?_ _ (cover0_5 _ _ _))
  intro p hp w
  rcases List.mem_cons.mp hp with rfl | hp
  · obtain ⟨r, e, rfl⟩ : ∃ (r e : Fin 256), w = ix3 0 r e := ⟨w 1, w 2, idx_ext3 (by show (w 0).val = 0; have : (w 0).val < 1 := (w 0).isLt; omega) rfl rfl⟩
    have hr := r.isLt
    have he := e.isLt
    have s0 : sc (k0_pay4 (F := Ideal) x3) (k0_pay8 (F := Ideal) (View.ld x2 r0_6)) (k0_pay7 i) r
          = score u b h 1 0 ⟨qi.val * 256 + r.val, by omega⟩ :=
        sc_eq u b h 1 0 _ _ _ _ r hk0 (fun d => by
          rw [pay8_apply]; exact hqr _ r d (256 + d.val) (by omega) (by show 0 + 1 * r.val = r.val; omega) (by show 256 + 1 * d.val = 256 + d.val; omega) _ (by show _ + (256 + d.val) = _ + 1 * 256 + 0 * 128 + d.val; omega)) (hmask r)
    have s1 : sc (k0_pay5 (F := Ideal) x3) (k0_pay8 (F := Ideal) (View.ld x2 r0_7)) (k0_pay7 i) r
          = score u b h 1 1 ⟨qi.val * 256 + r.val, by omega⟩ :=
        sc_eq u b h 1 1 _ _ _ _ r hk1 (fun d => by
          rw [pay8_apply]; exact hqr _ r d (384 + d.val) (by omega) (by show 0 + 1 * r.val = r.val; omega) (by show 384 + 1 * d.val = 384 + d.val; omega) _ (by show _ + (384 + d.val) = _ + 1 * 256 + 1 * 128 + d.val; omega)) (hmask r)
    refine ((piece1_apply _ _ _ _ _ _ _ _ r e).trans ?_).trans ((attn_col u x0 z b h 1 ⟨qi.val * 256 + r.val, by omega⟩ e).symm.trans ?_)
    · rw [s0, s1, hl, hz, show row _ _ _ _ = mix u x0 b h 1 ⟨qi.val * 256 + r.val, by omega⟩ from
        funext fun x => Finset.sum_congr rfl fun s _ => by rw [hv0]]
    · refine congrArg (attn u x0 z) (idx_ext3 rfl ?_ ?_)
      · show qi.val * 256 + r.val = qi.val * 256 + (0 + 1 * r.val); omega
      · show h.val * 512 + (1 * 256 + e.val) = h.val * 512 + (256 + 1 * e.val); omega
  · obtain rfl := List.mem_singleton.mp hp
    obtain ⟨r, e, rfl⟩ : ∃ (r e : Fin 256), w = ix3 0 r e := ⟨w 1, w 2, idx_ext3 (by show (w 0).val = 0; have : (w 0).val < 1 := (w 0).isLt; omega) rfl rfl⟩
    have hr := r.isLt
    have he := e.isLt
    have s0 : sc (k0_pay4 (F := Ideal) x3) (k0_pay8 (F := Ideal) (View.ld x2 r0_2)) (k0_pay7 i) r
          = score u b h 0 0 ⟨qi.val * 256 + r.val, by omega⟩ :=
        sc_eq u b h 0 0 _ _ _ _ r hk0 (fun d => by
          rw [pay8_apply]; exact hqr _ r d d.val (by omega) (by show 0 + 1 * r.val = r.val; omega) (by show 0 + 1 * d.val = d.val; omega) _ (by show _ + d.val = _ + 0 * 256 + 0 * 128 + d.val; omega)) (hmask r)
    have s1 : sc (k0_pay5 (F := Ideal) x3) (k0_pay9 (F := Ideal) (View.ld x2 r0_3)) (k0_pay7 i) r
          = score u b h 0 1 ⟨qi.val * 256 + r.val, by omega⟩ :=
        sc_eq u b h 0 1 _ _ _ _ r hk1 (fun d => by
          rw [pay9_apply]; exact hqr _ r d (128 + d.val) (by omega) (by show 0 + 1 * r.val = r.val; omega) (by show 128 + 1 * d.val = 128 + d.val; omega) _ (by show _ + (128 + d.val) = _ + 0 * 256 + 1 * 128 + d.val; omega)) (hmask r)
    refine ((piece0_apply _ _ _ _ _ _ _ _ r e).trans ?_).trans ((attn_col u x0 z b h 0 ⟨qi.val * 256 + r.val, by omega⟩ e).symm.trans ?_)
    · rw [s0, s1, hl, hz, show row _ _ _ _ = mix u x0 b h 0 ⟨qi.val * 256 + r.val, by omega⟩ from
        funext fun x => Finset.sum_congr rfl fun s _ => by rw [hv0]]
    · refine congrArg (attn u x0 z) (idx_ext3 rfl ?_ ?_)
      · show qi.val * 256 + r.val = qi.val * 256 + (0 + 1 * r.val); omega
      · show h.val * 512 + (0 * 256 + e.val) = h.val * 512 + (0 + 1 * e.val); omega

end Cert.KernelBody

end
-- ==== Proof.KernelValue.lean ====
/-
  The differential attention of the prompt: what the tiled kernel leaves is `attn` of its arguments, and so does the reference.
-/
module

public import proofs.«01_k».proof.Defs
public import proofs.«01_k».proof.Proof.Common
public import proofs.«01_k».proof.Proof.KernelRef
public import proofs.«01_k».proof.Proof.KernelBody
public import proofs.«01_k».proof.Proof.Gen.KernelIdeal.Value
public import proofs.«01_k».proof.Proof.Gen.ReferenceIdeal.Run

@[expose] public section

set_option maxRecDepth 16384

noncomputable section

open Idealize.ShloMosaic Idealize.ShloMosaic.TcCoe Idealize.SL.Sem
open Idealize.ShloMosaic.Pipeline (Dat)

namespace Cert.KernelValue

open Cert.KernelIdeal Cert.KernelIdeal.Gen Cert.Common Cert.KernelRef Cert.KernelBody

variable (m : (ℓ : Loc nD τ sig) → Buf (Elt Ideal) ℓ) (ρ : Dev nD → PrngReg)

/-- The projected inputs, as launched. -/
abbrev U (c : Dev nD) : S4x2048x10240.Idx → EReal := m ((c : Thread nD τ).loc main_arg0)
/-- The four parameter rows of `λ`, as launched. -/
abbrev Y (c : Dev nD) : S4x128.Idx → EReal := m ((c : Thread nD τ).loc main_arg1)
/-- The gain, as launched. -/
abbrev Z (c : Dev nD) : S256.Idx → EReal := m ((c : Thread nD τ).loc main_arg2)
/-- The attention of the arguments. -/
abbrev G (c : Dev nD) : S4x2048x2048.Idx → EReal := attn (U m c) (Y m c) (Z m c)

/-- Which block each window is on at point `t`: the query tile runs fastest, then the key head, then the batch. -/
theorem idx_facts : ∀ t : Fin grid0.N, (grid0.coords t 2).val = t.val % 8
    ∧ (win0_0.index t 0 = 0 ∧ win0_0.index t 1 = 0) ∧ (win0_1.index t 0 = 0 ∧ win0_1.index t 1 = 0)
    ∧ (win0_2.index t 0 = t.val / 32 ∧ win0_2.index t 1 = t.val % 8 ∧ win0_2.index t 2 = t.val / 8 % 4)
    ∧ (win0_3.index t 0 = t.val / 32 ∧ win0_3.index t 1 = 0 ∧ win0_3.index t 2 = 8 + t.val / 8 % 4)
    ∧ (win0_4.index t 0 = t.val / 32 ∧ win0_4.index t 1 = 0 ∧ win0_4.index t 2 = 12 + t.val / 8 % 4)
    ∧ (win0_5.index t 0 = t.val / 32 ∧ win0_5.index t 1 = t.val % 8 ∧ win0_5.index t 2 = t.val / 8 % 4) := by decide +kernel

/-- The gain as the kernel is entered: the host's reshape to one row. -/
theorem V_gain (c : Dev nD) (e : Fin 256) : (V m c main_v0 : S1x256.Idx → EReal) (ix2 0 e) = Z m c (ix1 e) := by
  have h : V m c main_v0 = shapeCast S1x256 (Z m c) shapeCasts_S256_S1x256 := by
    show StableHlo.after hostOps0 _ (Proc.devRef .tc main_v0) = _
    after_results
    rfl
  rw [h]
  pointwise

/-- What point `t` writes back is its block of the attention. -/
theorem flushed_eq (c : Dev nD) (t : Fin cfg0.N) :
    (dats m 0 c).flushed 5 t = (win0_5.blk t).view.read (Elt Ideal) (G m c) := by
  rw [Value.flushed5]
  have hN : cfg0.N = 128 := N_0
  have htl := t.isLt
  obtain ⟨i2, ⟨a0, a1⟩, ⟨g0, g1⟩, ⟨q0, q1, q2⟩, ⟨k0, k1, k2⟩, ⟨v0, v1, v2⟩, o0, o1, o2⟩ := idx_facts t
  funext w
  obtain ⟨r, a, rfl⟩ : ∃ (r : Fin 256) (a : Fin 512), w = ix3 0 r a :=
    ⟨w 1, w 2, idx_ext3 (by show (w 0).val = 0; have : (w 0).val < 1 := (w 0).isLt; omega) rfl rfl⟩
  have hr := r.isLt
  have ha := a.isLt
  refine (out_apply (U m c) (Y m c) (Z m c) ⟨t.val / 32, by omega⟩ ⟨t.val / 8 % 4, by omega⟩ ⟨t.val % 8, by omega⟩ (grid0.coords t)
    _ _ _ _ _ i2 ?_ (fun e => ?_) (fun r a => ?_) (fun j a => ?_) (fun j a => ?_) r a).trans ?_
  · funext x
    obtain ⟨p, q, rfl⟩ : ∃ (p : Fin 4) (q : Fin 128), x = ix2 p q := ⟨x 0, x 1, eq_ix2 x⟩
    refine Eq.trans (show _ = V m c main_arg1 ((win0_0.rect t).emb (ix2 p q)) from rfl) ?_
    rw [V_main_arg1]
    refine congrArg (Y m c) (Shape.idx_ext₂ ?_ ?_)
    · rw [win0_0.rect_emb_val t _ 0, a0]; exact Nat.zero_add _
    · rw [win0_0.rect_emb_val t _ 1, a1]; exact Nat.zero_add _
  · refine Eq.trans (show _ = V m c main_v0 ((win0_1.rect t).emb (ix2 0 e)) from rfl) ?_
    refine Eq.trans (congrArg (V m c main_v0) (Shape.idx_ext₂ (y := ix2 0 e) ?_ ?_)) (V_gain m c e)
    · rw [win0_1.rect_emb_val t _ 0, g0]; exact Nat.zero_add _
    · rw [win0_1.rect_emb_val t _ 1, g1]; exact Nat.zero_add _
  · refine Eq.trans (show _ = V m c main_arg0 ((win0_2.rect t).emb (ix3 0 r a)) from rfl) ?_
    rw [V_main_arg0]
    refine congrArg (U m c) (idx_ext3 ?_ ?_ ?_)
    · rw [win0_2.rect_emb_val t _ 0, q0]; show t.val / 32 * 1 + 0 = t.val / 32; omega
    · rw [win0_2.rect_emb_val t _ 1, q1]; rfl
    · rw [win0_2.rect_emb_val t _ 2, q2]; rfl
  · refine Eq.trans (show _ = V m c main_arg0 ((win0_3.rect t).emb (ix3 0 j a)) from rfl) ?_
    rw [V_main_arg0]
    refine congrArg (U m c) (idx_ext3 ?_ ?_ ?_)
    · rw [win0_3.rect_emb_val t _ 0, k0]; show t.val / 32 * 1 + 0 = t.val / 32; omega
    · rw [win0_3.rect_emb_val t _ 1, k1]; exact Nat.zero_add _
    · rw [win0_3.rect_emb_val t _ 2, k2]; show (8 + t.val / 8 % 4) * 256 + a.val = 2048 + (t.val / 8 % 4 * 256 + a.val); omega
  · refine Eq.trans (show _ = V m c main_arg0 ((win0_4.rect t).emb (ix3 0 j a)) from rfl) ?_
    rw [V_main_arg0]
    refine congrArg (U m c) (idx_ext3 ?_ ?_ ?_)
    · rw [win0_4.rect_emb_val t _ 0, v0]; show t.val / 32 * 1 + 0 = t.val / 32; omega
    · rw [win0_4.rect_emb_val t _ 1, v1]; exact Nat.zero_add _
    · rw [win0_4.rect_emb_val t _ 2, v2]; show (12 + t.val / 8 % 4) * 256 + a.val = 3072 + (t.val / 8 % 4 * 256 + a.val); omega
  · show _ = G m c ((win0_5.rect t).emb (ix3 0 r a))
    refine congrArg (G m c) (idx_ext3 ?_ ?_ ?_)
    · rw [win0_5.rect_emb_val t _ 0, o0]; show t.val / 32 = t.val / 32 * 1 + 0; omega
    · rw [win0_5.rect_emb_val t _ 1, o1]; rfl
    · rw [win0_5.rect_emb_val t _ 2, o2]; rfl

/-- Every element of the result is in the block of some point. -/
theorem cover (i : S4x2048x2048.Idx) :
    ∃ t : Fin cfg0.N, (cfg0.win 5).flush t = true ∧ i ∈ ((cfg0.win 5).blk t).view.set := by
  have h0 : (i 0).val < 4 := (i 0).isLt
  have h1 : (i 1).val < 2048 := (i 1).isLt
  have h2 : (i 2).val < 2048 := (i 2).isLt
  have hN : cfg0.N = 128 := N_0
  have ht : (i 0).val * 32 + (i 2).val / 512 * 8 + (i 1).val / 256 < cfg0.N := by omega
  obtain ⟨_, _, _, _, _, _, o0, o1, o2⟩ := idx_facts ⟨_, ht⟩
  refine ⟨⟨_, ht⟩, flush0_5 _, Finset.mem_map.mpr ⟨ix3 0 ⟨(i 1).val % 256, by omega⟩ ⟨(i 2).val % 512, by omega⟩, Finset.mem_univ _, ?_⟩⟩
  refine idx_ext3 ?_ ?_ ?_
  · refine (win0_5.rect_emb_val _ _ 0).trans ?_
    rw [o0]
    show ((i 0).val * 32 + (i 2).val / 512 * 8 + (i 1).val / 256) / 32 * 1 + 0 = (i 0).val
    omega
  · refine (win0_5.rect_emb_val _ _ 1).trans ?_
    rw [o1]
    show ((i 0).val * 32 + (i 2).val / 512 * 8 + (i 1).val / 256) % 8 * 256 + (i 1).val % 256 = (i 1).val
    omega
  · refine (win0_5.rect_emb_val _ _ 2).trans ?_
    rw [o2]
    show ((i 0).val * 32 + (i 2).val / 512 * 8 + (i 1).val / 256) / 8 % 4 * 512 + (i 2).val % 512 = (i 2).val
    omega

/-- So the result array ends holding the attention. -/
theorem final (c : Dev nD) : (dats m 0 c).arrAt 5 cfg0.N = G m c :=
  (dats m 0 c).arrAt_eq_of_cover 5 (G m c) (fun t _ => flushed_eq m c t) cover

/-- The tiled attention and the reference end with the same result from the same arguments. -/
theorem algebraic : Cert.algebraic_KernelIdeal_ReferenceIdeal := fun m ρ m' ρ' _ hag =>
  ⟨fun c => G m c,
    (θ_run Cert.KernelIdeal.defs _ _).mono (fun _ h c => ⟨(h c).1.trans (final m c), (h c).2⟩)
      (Value.run_blocks (F := Ideal) m ρ),
    (θ_run Cert.ReferenceIdeal.defs _ _).mono (fun _ h c => ⟨(h c).1.trans ((r69 _ _ _).trans (by rw [(hag c).1, (hag c).2.1, (hag c).2.2])), (h c).2⟩)
      (Cert.ReferenceIdeal.Value.run (F := Ideal) m' ρ')⟩

/-- The reference runs, leaves its arguments as launched, and has no semaphore to leave raised. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelValue

end
-- ==== Proof.MergeValue.lean ====
/-
  The gated merge of the three branches: what the tiled kernel leaves is the three gated products' sum, and so does the reference.
-/
module

public import proofs.«01_k».proof.Defs
public import proofs.«01_k».proof.Proof.Common
public import proofs.«01_k».proof.Proof.Gen.MergeIdeal.Value
public import proofs.«01_k».proof.Proof.Gen.MergeRefIdeal.Run
public import proofs.«01_k».proof.Proof.Gen.MergeRefIdeal.Read

@[expose] public section

set_option maxRecDepth 16384

noncomputable section

open Idealize.ShloMosaic Idealize.ShloMosaic.TcCoe Idealize.SL.Sem
open Idealize.ShloMosaic.Pipeline (Dat)

namespace Cert.MergeValue

open Cert.MergeIdeal Cert.MergeIdeal.Gen Cert.Common

/-- The gate of row `i` at column `j` of the 12288: the logistic function of `x · wg + bg`. -/
def gate (x : S8192x4096.Idx → EReal) (wg : S4096x12288.Idx → EReal) (bg : S12288.Idx → EReal) (i : Fin 8192) (j : Fin 12288) : EReal :=
  Ideal.logistic ((∑ k : Fin 4096, x (ix2 i k) * wg (ix2 k j)) + bg (ix1 j))

/-- The merge: each branch's product under its gate, the three gates 4096 columns apart. -/
def merged (x : S8192x4096.Idx → EReal) (wg : S4096x12288.Idx → EReal) (bg : S12288.Idx → EReal) (oa : S8192x2048.Idx → EReal)
    (wa : S2048x4096.Idx → EReal) (ob : S8192x1024.Idx → EReal) (wb : S1024x4096.Idx → EReal) (oc : S8192x1024.Idx → EReal)
    (wc : S1024x4096.Idx → EReal) : S8192x4096.Idx → EReal := fun i =>
  gate x wg bg (i 0) ⟨(i 1).val, by have : (i 1).val < 4096 := (i 1).isLt; omega⟩ * mm oa wa i
    + gate x wg bg (i 0) ⟨4096 + (i 1).val, by have : (i 1).val < 4096 := (i 1).isLt; omega⟩ * mm ob wb i
    + gate x wg bg (i 0) ⟨8192 + (i 1).val, by have : (i 1).val < 4096 := (i 1).isLt; omega⟩ * mm oc wc i

/-- The body's store at an element: the three gated products of the blocks, summed. -/
theorem body_apply (x : FVec Ideal S512x4096 .bf16) (ga gb gc : FVec Ideal S4096x256 .f32) (ba bb bc : FVec Ideal S1x256 .f32)
    (oa : FVec Ideal S512x2048 .bf16) (ob oc : FVec Ideal S512x1024 .bf16) (wa : FVec Ideal S2048x256 .f32)
    (wb wc : FVec Ideal S1024x256 .f32) (r : Fin 512) (q : Fin 256) :
    (k0_pay1 (F := Ideal) (k0_pay2 (F := Ideal) x ga ba oa wa gb bb ob wb) (k0_pay3 (F := Ideal) x gc) bc oc wc (ix2 r q) : EReal)
      = Ideal.logistic ((∑ k : Fin 4096, x (ix2 r k) * ga (ix2 k q)) + ba (ix2 0 q)) * (∑ k : Fin 2048, oa (ix2 r k) * wa (ix2 k q))
        + Ideal.logistic ((∑ k : Fin 4096, x (ix2 r k) * gb (ix2 k q)) + bb (ix2 0 q)) * (∑ k : Fin 1024, ob (ix2 r k) * wb (ix2 k q))
        + Ideal.logistic ((∑ k : Fin 4096, x (ix2 r k) * gc (ix2 k q)) + bc (ix2 0 q)) * (∑ k : Fin 1024, oc (ix2 r k) * wc (ix2 k q)) := by
  unfold_payloads
  pointwise

variable (m : (ℓ : Loc nD τ sig) → Buf (Elt Ideal) ℓ) (ρ : Dev nD → PrngReg)

/-- The merge of the arguments, as launched. -/
abbrev G (c : Dev nD) : S8192x4096.Idx → EReal :=
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- Which tile each window is on at point `t`: the row tile runs fastest; the three gate windows are 16 column tiles apart. -/
theorem idx_facts : ∀ t : Fin grid0.N, (win0_0.index t 0 = t.val % 16 ∧ win0_0.index t 1 = 0)
    ∧ (win0_1.index t 0 = 0 ∧ win0_1.index t 1 = t.val / 16)
    ∧ (win0_2.index t 0 = 0 ∧ win0_2.index t 1 = 16 + t.val / 16)
    ∧ (win0_3.index t 0 = 0 ∧ win0_3.index t 1 = 32 + t.val / 16)
    ∧ (win0_4.index t 0 = 0 ∧ win0_4.index t 1 = t.val / 16)
    ∧ (win0_5.index t 0 = 0 ∧ win0_5.index t 1 = 16 + t.val / 16)
    ∧ (win0_6.index t 0 = 0 ∧ win0_6.index t 1 = 32 + t.val / 16)
    ∧ (win0_7.index t 0 = t.val % 16 ∧ win0_7.index t 1 = 0)
    ∧ (win0_8.index t 0 = t.val % 16 ∧ win0_8.index t 1 = 0)
    ∧ (win0_9.index t 0 = t.val % 16 ∧ win0_9.index t 1 = 0)
    ∧ (win0_10.index t 0 = 0 ∧ win0_10.index t 1 = t.val / 16)
    ∧ (win0_11.index t 0 = 0 ∧ win0_11.index t 1 = t.val / 16)
    ∧ (win0_12.index t 0 = 0 ∧ win0_12.index t 1 = t.val / 16)
    ∧ (win0_13.index t 0 = t.val % 16 ∧ win0_13.index t 1 = t.val / 16) := by decide +kernel

/-- The bias as the kernel is entered: the host's reshape to one row. -/
theorem V_bias (c : Dev nD) (j : Fin 12288) :
    (V m c main_v0 : S1x12288.Idx → EReal) (ix2 0 j) = (m ((c : Thread nD τ).loc main_arg2) : S12288.Idx → EReal) (ix1 j) := by
  have h : V m c main_v0 = shapeCast S1x12288 (m ((c : Thread nD τ).loc main_arg2)) shapeCasts_S12288_S1x12288 := by
    show StableHlo.after hostOps0 _ (Proc.devRef .tc main_v0) = _
    after_results
    rfl
  rw [h]
  exact (shapeCast_addUnit_apply ![12288] _ _ (ix2 0 j)).trans (congrArg (m ((c : Thread nD τ).loc main_arg2)) (idx_ext1 rfl))

/-- The row of the arrays that row `r` of a block is at point `t`. -/
def rowAt (t : Fin cfg0.N) (r : Fin 512) : Fin 8192 :=
  ⟨t.val % 16 * 512 + r.val, by have := r.isLt; omega⟩

/-- The column of the result that column `q` of a block is at point `t`. -/
def colAt (t : Fin cfg0.N) (q : Fin 256) : Fin 4096 :=
  ⟨t.val / 16 * 256 + q.val, by have hN : cfg0.N = 256 := N_0; have := q.isLt; have := t.isLt; omega⟩

/-- The column of the gates that column `q` of the block of branch `b` is at point `t`. -/
def gateAt (b : Fin 3) (t : Fin cfg0.N) (q : Fin 256) : Fin 12288 :=
  ⟨b.val * 4096 + (colAt t q).val, by have := b.isLt; have := (colAt t q).isLt; omega⟩

/-- The rows of `x` at point `t`. -/
theorem blk_x (c : Dev nD) (t : Fin cfg0.N) (r : Fin 512) (k : Fin 4096) : (iblk m c 0 t : S512x4096.Idx → EReal) (ix2 r k)
    = (m ((c : Thread nD τ).loc main_arg0) : _ → EReal) (ix2 (rowAt t r) k) := by
  have h := idx_facts t
  refine Eq.trans (show _ = V m c main_arg0 ((win0_0.rect t).emb (ix2 r k)) from rfl) ?_
  rw [V_main_arg0]
  exact congrArg (m ((c : Thread nD τ).loc main_arg0)) (emb_at r k (win0_0.rect_emb_val t _ 0) (win0_0.rect_emb_val t _ 1)
    (h.1.1) (h.1.2) (rowAt t r) k rfl (by rw [Nat.zero_mul, Nat.zero_add]))

/-- The gate columns of branch a at point `t`. -/
theorem blk_ga (c : Dev nD) (t : Fin cfg0.N) (k : Fin 4096) (q : Fin 256) : (iblk m c 1 t : S4096x256.Idx → EReal) (ix2 k q)
    = (m ((c : Thread nD τ).loc main_arg1) : _ → EReal) (ix2 k (gateAt 0 t q)) := by
  have h := idx_facts t
  refine Eq.trans (show _ = V m c main_arg1 ((win0_1.rect t).emb (ix2 k q)) from rfl) ?_
  rw [V_main_arg1]
  exact congrArg (m ((c : Thread nD τ).loc main_arg1)) (emb_at k q (win0_1.rect_emb_val t _ 0) (win0_1.rect_emb_val t _ 1)
    (h.2.1.1) (h.2.1.2) k (gateAt 0 t q) (by rw [Nat.zero_mul, Nat.zero_add]) (by show t.val / 16 * 256 + q.val = 0 * 4096 + (t.val / 16 * 256 + q.val); omega))

/-- The gate columns of branch b at point `t`. -/
theorem blk_gb (c : Dev nD) (t : Fin cfg0.N) (k : Fin 4096) (q : Fin 256) : (iblk m c 2 t : S4096x256.Idx → EReal) (ix2 k q)
    = (m ((c : Thread nD τ).loc main_arg1) : _ → EReal) (ix2 k (gateAt 1 t q)) := by
  have h := idx_facts t
  refine Eq.trans (show _ = V m c main_arg1 ((win0_2.rect t).emb (ix2 k q)) from rfl) ?_
  rw [V_main_arg1]
  exact congrArg (m ((c : Thread nD τ).loc main_arg1)) (emb_at k q (win0_2.rect_emb_val t _ 0) (win0_2.rect_emb_val t _ 1)
    (h.2.2.1.1) (h.2.2.1.2) k (gateAt 1 t q) (by rw [Nat.zero_mul, Nat.zero_add]) (by show (16 + t.val / 16) * 256 + q.val = 1 * 4096 + (t.val / 16 * 256 + q.val); omega))

/-- The gate columns of branch c at point `t`. -/
theorem blk_gc (c : Dev nD) (t : Fin cfg0.N) (k : Fin 4096) (q : Fin 256) : (iblk m c 3 t : S4096x256.Idx → EReal) (ix2 k q)
    = (m ((c : Thread nD τ).loc main_arg1) : _ → EReal) (ix2 k (gateAt 2 t q)) := by
  have h := idx_facts t
  refine Eq.trans (show _ = V m c main_arg1 ((win0_3.rect t).emb (ix2 k q)) from rfl) ?_
  rw [V_main_arg1]
  exact congrArg (m ((c : Thread nD τ).loc main_arg1)) (emb_at k q (win0_3.rect_emb_val t _ 0) (win0_3.rect_emb_val t _ 1)
    (h.2.2.2.1.1) (h.2.2.2.1.2) k (gateAt 2 t q) (by rw [Nat.zero_mul, Nat.zero_add]) (by show (32 + t.val / 16) * 256 + q.val = 2 * 4096 + (t.val / 16 * 256 + q.val); omega))

/-- The biases of branch a at point `t`. -/
theorem blk_ba (c : Dev nD) (t : Fin cfg0.N) (q : Fin 256) : (iblk m c 4 t : S1x256.Idx → EReal) (ix2 0 q)
    = (m ((c : Thread nD τ).loc main_arg2) : S12288.Idx → EReal) (ix1 (gateAt 0 t q)) := by
  have h := idx_facts t
  exact (congrArg (V m c main_v0) (emb_at 0 q (win0_4.rect_emb_val t _ 0) (win0_4.rect_emb_val t _ 1) (h.2.2.2.2.1.1) (h.2.2.2.2.1.2)
    0 (gateAt 0 t q) rfl (by show t.val / 16 * 256 + q.val = 0 * 4096 + (t.val / 16 * 256 + q.val); omega))).trans (V_bias m c _)

/-- The biases of branch b at point `t`. -/
theorem blk_bb (c : Dev nD) (t : Fin cfg0.N) (q : Fin 256) : (iblk m c 5 t : S1x256.Idx → EReal) (ix2 0 q)
    = (m ((c : Thread nD τ).loc main_arg2) : S12288.Idx → EReal) (ix1 (gateAt 1 t q)) := by
  have h := idx_facts t
  exact (congrArg (V m c main_v0) (emb_at 0 q (win0_5.rect_emb_val t _ 0) (win0_5.rect_emb_val t _ 1) (h.2.2.2.2.2.1.1) (h.2.2.2.2.2.1.2)
    0 (gateAt 1 t q) rfl (by show (16 + t.val / 16) * 256 + q.val = 1 * 4096 + (t.val / 16 * 256 + q.val); omega))).trans (V_bias m c _)

/-- The biases of branch c at point `t`. -/
theorem blk_bc (c : Dev nD) (t : Fin cfg0.N) (q : Fin 256) : (iblk m c 6 t : S1x256.Idx → EReal) (ix2 0 q)
    = (m ((c : Thread nD τ).loc main_arg2) : S12288.Idx → EReal) (ix1 (gateAt 2 t q)) := by
  have h := idx_facts t
  exact (congrArg (V m c main_v0) (emb_at 0 q (win0_6.rect_emb_val t _ 0) (win0_6.rect_emb_val t _ 1) (h.2.2.2.2.2.2.1.1) (h.2.2.2.2.2.2.1.2)
    0 (gateAt 2 t q) rfl (by show (32 + t.val / 16) * 256 + q.val = 2 * 4096 + (t.val / 16 * 256 + q.val); omega))).trans (V_bias m c _)

/-- The rows of the output of branch a at point `t`. -/
theorem blk_oa (c : Dev nD) (t : Fin cfg0.N) (r : Fin 512) (k : Fin 2048) : (iblk m c 7 t : S512x2048.Idx → EReal) (ix2 r k)
    = (m ((c : Thread nD τ).loc main_arg3) : _ → EReal) (ix2 (rowAt t r) k) := by
  have h := idx_facts t
  refine Eq.trans (show _ = V m c main_arg3 ((win0_7.rect t).emb (ix2 r k)) from rfl) ?_
  rw [V_main_arg3]
  exact congrArg (m ((c : Thread nD τ).loc main_arg3)) (emb_at r k (win0_7.rect_emb_val t _ 0) (win0_7.rect_emb_val t _ 1)
    (h.2.2.2.2.2.2.2.1.1) (h.2.2.2.2.2.2.2.1.2) (rowAt t r) k rfl (by rw [Nat.zero_mul, Nat.zero_add]))

/-- The rows of the output of branch b at point `t`. -/
theorem blk_ob (c : Dev nD) (t : Fin cfg0.N) (r : Fin 512) (k : Fin 1024) : (iblk m c 8 t : S512x1024.Idx → EReal) (ix2 r k)
    = (m ((c : Thread nD τ).loc main_arg5) : _ → EReal) (ix2 (rowAt t r) k) := by
  have h := idx_facts t
  refine Eq.trans (show _ = V m c main_arg5 ((win0_8.rect t).emb (ix2 r k)) from rfl) ?_
  rw [V_main_arg5]
  exact congrArg (m ((c : Thread nD τ).loc main_arg5)) (emb_at r k (win0_8.rect_emb_val t _ 0) (win0_8.rect_emb_val t _ 1)
    (h.2.2.2.2.2.2.2.2.1.1) (h.2.2.2.2.2.2.2.2.1.2) (rowAt t r) k rfl (by rw [Nat.zero_mul, Nat.zero_add]))

/-- The rows of the output of branch c at point `t`. -/
theorem blk_oc (c : Dev nD) (t : Fin cfg0.N) (r : Fin 512) (k : Fin 1024) : (iblk m c 9 t : S512x1024.Idx → EReal) (ix2 r k)
    = (m ((c : Thread nD τ).loc main_arg7) : _ → EReal) (ix2 (rowAt t r) k) := by
  have h := idx_facts t
  refine Eq.trans (show _ = V m c main_arg7 ((win0_9.rect t).emb (ix2 r k)) from rfl) ?_
  rw [V_main_arg7]
  exact congrArg (m ((c : Thread nD τ).loc main_arg7)) (emb_at r k (win0_9.rect_emb_val t _ 0) (win0_9.rect_emb_val t _ 1)
    (h.2.2.2.2.2.2.2.2.2.1.1) (h.2.2.2.2.2.2.2.2.2.1.2) (rowAt t r) k rfl (by rw [Nat.zero_mul, Nat.zero_add]))

/-- The columns of the weights of branch a at point `t`. -/
theorem blk_wa (c : Dev nD) (t : Fin cfg0.N) (k : Fin 2048) (q : Fin 256) : (iblk m c 10 t : S2048x256.Idx → EReal) (ix2 k q)
    = (m ((c : Thread nD τ).loc main_arg4) : _ → EReal) (ix2 k (colAt t q)) := by
  have h := idx_facts t
  refine Eq.trans (show _ = V m c main_arg4 ((win0_10.rect t).emb (ix2 k q)) from rfl) ?_
  rw [V_main_arg4]
  exact congrArg (m ((c : Thread nD τ).loc main_arg4)) (emb_at k q (win0_10.rect_emb_val t _ 0) (win0_10.rect_emb_val t _ 1)
    (h.2.2.2.2.2.2.2.2.2.2.1.1) (h.2.2.2.2.2.2.2.2.2.2.1.2) k (colAt t q) (by rw [Nat.zero_mul, Nat.zero_add]) rfl)

/-- The columns of the weights of branch b at point `t`. -/
theorem blk_wb (c : Dev nD) (t : Fin cfg0.N) (k : Fin 1024) (q : Fin 256) : (iblk m c 11 t : S1024x256.Idx → EReal) (ix2 k q)
    = (m ((c : Thread nD τ).loc main_arg6) : _ → EReal) (ix2 k (colAt t q)) := by
  have h := idx_facts t
  refine Eq.trans (show _ = V m c main_arg6 ((win0_11.rect t).emb (ix2 k q)) from rfl) ?_
  rw [V_main_arg6]
  exact congrArg (m ((c : Thread nD τ).loc main_arg6)) (emb_at k q (win0_11.rect_emb_val t _ 0) (win0_11.rect_emb_val t _ 1)
    (h.2.2.2.2.2.2.2.2.2.2.2.1.1) (h.2.2.2.2.2.2.2.2.2.2.2.1.2) k (colAt t q) (by rw [Nat.zero_mul, Nat.zero_add]) rfl)

/-- The columns of the weights of branch c at point `t`. -/
theorem blk_wc (c : Dev nD) (t : Fin cfg0.N) (k : Fin 1024) (q : Fin 256) : (iblk m c 12 t : S1024x256.Idx → EReal) (ix2 k q)
    = (m ((c : Thread nD τ).loc main_arg8) : _ → EReal) (ix2 k (colAt t q)) := by
  have h := idx_facts t
  refine Eq.trans (show _ = V m c main_arg8 ((win0_12.rect t).emb (ix2 k q)) from rfl) ?_
  rw [V_main_arg8]
  exact congrArg (m ((c : Thread nD τ).loc main_arg8)) (emb_at k q (win0_12.rect_emb_val t _ 0) (win0_12.rect_emb_val t _ 1)
    (h.2.2.2.2.2.2.2.2.2.2.2.2.1.1) (h.2.2.2.2.2.2.2.2.2.2.2.2.1.2) k (colAt t q) (by rw [Nat.zero_mul, Nat.zero_add]) rfl)

/-- What the body leaves in its output block, at an element. -/
theorem out_apply (x0 : FVec Ideal S512x4096 .bf16) (x1 x2 x3 : FVec Ideal S4096x256 .f32) (x4 x5 x6 : FVec Ideal S1x256 .f32)
    (x7 : FVec Ideal S512x2048 .bf16) (x8 x9 : FVec Ideal S512x1024 .bf16) (x10 : FVec Ideal S2048x256 .f32)
    (x11 x12 : FVec Ideal S1024x256 .f32) (r : Fin 512) (q : Fin 256) :
    (out0_13 (F := Ideal) x0 x1 x2 x3 x4 x5 x6 x7 x8 x9 x10 x11 x12 (ix2 r q) : EReal)
      = Ideal.logistic ((∑ k : Fin 4096, x0 (ix2 r k) * x1 (ix2 k q)) + x4 (ix2 0 q)) * (∑ k : Fin 2048, x7 (ix2 r k) * x10 (ix2 k q))
        + Ideal.logistic ((∑ k : Fin 4096, x0 (ix2 r k) * x2 (ix2 k q)) + x5 (ix2 0 q)) * (∑ k : Fin 1024, x8 (ix2 r k) * x11 (ix2 k q))
        + Ideal.logistic ((∑ k : Fin 4096, x0 (ix2 r k) * x3 (ix2 k q)) + x6 (ix2 0 q)) * (∑ k : Fin 1024, x9 (ix2 r k) * x12 (ix2 k q)) := by
  unfold out0_13
  rw [View.canon_unit_zero hz2]
  rw [View.ld_unit_zero hz2, View.ld_unit_zero hz2, View.ld_unit_zero hz2, View.ld_unit_zero hz2, View.ld_unit_zero hz2,
    View.ld_unit_zero hz2, View.ld_unit_zero hz2, View.ld_unit_zero hz2, View.ld_unit_zero hz2, View.ld_unit_zero hz2,
    View.ld_unit_zero hz2, View.ld_unit_zero hz2, View.ld_unit_zero hz2]
  exact body_apply _ _ _ _ _ _ _ _ _ _ _ _ _ r q

/-- What point `t` writes back is its tile of the merge. -/
theorem flushed_eq (c : Dev nD) (t : Fin cfg0.N) :
    (dats m 0 c).flushed 13 t = (win0_13.blk t).view.read (Elt Ideal) (G m c) := by
  rw [Value.flushed13]
  have h := idx_facts t
  funext y
  obtain ⟨r, q, rfl⟩ : ∃ (r : Fin 512) (q : Fin 256), y = ix2 r q := ⟨y 0, y 1, eq_ix2 y⟩
  have eo : (win0_13.rect t).emb (ix2 r q) = ix2 (rowAt t r) (colAt t q) :=
    emb_at r q (win0_13.rect_emb_val t _ 0) (win0_13.rect_emb_val t _ 1) (h.2.2.2.2.2.2.2.2.2.2.2.2.2.1) (h.2.2.2.2.2.2.2.2.2.2.2.2.2.2) _ _ rfl rfl
  refine (out_apply _ _ _ _ _ _ _ _ _ _ _ _ _ r q).trans ?_
  refine Eq.trans ?_ (congrArg (G m c) eo.symm)
  rw [blk_ba, blk_bb, blk_bc]
  simp only [blk_x, blk_ga, blk_gb, blk_gc, blk_oa, blk_ob, blk_oc, blk_wa, blk_wb, blk_wc]
  have g0 : gateAt 0 t q = ⟨(colAt t q).val, by have := (colAt t q).isLt; omega⟩ := Fin.ext (by show 0 * 4096 + (colAt t q).val = (colAt t q).val; omega)
  have g1 : gateAt 1 t q = ⟨4096 + (colAt t q).val, by have := (colAt t q).isLt; omega⟩ := Fin.ext (by show 1 * 4096 + (colAt t q).val = 4096 + (colAt t q).val; omega)
  have g2 : gateAt 2 t q = ⟨8192 + (colAt t q).val, by have := (colAt t q).isLt; omega⟩ := Fin.ext (by show 2 * 4096 + (colAt t q).val = 8192 + (colAt t q).val; omega)
  rw [g0, g1, g2]
  rfl

/-- Every element of the result is in the tile of some point. -/
theorem cover (i : S8192x4096.Idx) :
    ∃ t : Fin cfg0.N, (cfg0.win 13).flush t = true ∧ i ∈ ((cfg0.win 13).blk t).view.set := by
  have h0 : (i 0).val < 8192 := (i 0).isLt
  have h1 : (i 1).val < 4096 := (i 1).isLt
  have hN : cfg0.N = 256 := N_0
  have ht : (i 1).val / 256 * 16 + (i 0).val / 512 < cfg0.N := by omega
  obtain ⟨_, _, _, _, _, _, _, _, _, _, _, _, _, o0, o1⟩ := idx_facts ⟨_, ht⟩
  refine ⟨⟨_, ht⟩, flush0_13 _, Finset.mem_map.mpr ⟨_, Finset.mem_univ _, tile_emb i (win0_13.rect ⟨_, ht⟩).emb (by decide) (by decide)
    (fun y => (win0_13.rect_emb_val _ y 0).trans (congrArg (· * 512 + (y 0).val) ?_))
    (fun y => (win0_13.rect_emb_val _ y 1).trans (congrArg (· * 256 + (y 1).val) ?_))⟩⟩
  · rw [o0]
    show ((i 1).val / 256 * 16 + (i 0).val / 512) % 16 = (i 0).val / 512
    omega
  · rw [o1]
    show ((i 1).val / 256 * 16 + (i 0).val / 512) / 16 = (i 1).val / 256
    omega

/-- So the result array ends holding the merge. -/
theorem final (c : Dev nD) : (dats m 0 c).arrAt 13 cfg0.N = G m c :=
  (dats m 0 c).arrAt_eq_of_cover 13 (G m c) (fun t _ => flushed_eq m c t) cover

open MergeRefIdeal.Read in
/-- The reference's gates. -/
theorem ref_gate (x : S8192x4096.Idx → EReal) (wg : S4096x12288.Idx → EReal) (bg : S12288.Idx → EReal) (i : Fin 8192) (j : Fin 12288) :
    (val_main_v13 (F := Ideal) x wg bg (ix2 i j) : EReal) = gate x wg bg i j := by
  refine Eq.trans ?_ (show Ideal.div 1 (1 + Ideal.exp (-((∑ k : Fin 4096, x (ix2 i k) * wg (ix2 k j)) + bg (ix1 j)))) = _ from rfl)
  pointwise [val_main_v13, val_main_v12, val_main_cst_0, val_main_v11, val_main_v10, val_main_cst, val_main_v9, val_main_v8, val_main_v7,
    val_main_v6, val_main_v5, val_main_v4, val_main_v0]

open MergeRefIdeal.Read in
/-- The reference is the merge. -/
theorem ref_eq (x : S8192x4096.Idx → EReal) (wg : S4096x12288.Idx → EReal) (bg : S12288.Idx → EReal) (oa : S8192x2048.Idx → EReal)
    (wa : S2048x4096.Idx → EReal) (ob : S8192x1024.Idx → EReal) (wb : S1024x4096.Idx → EReal) (oc : S8192x1024.Idx → EReal)
    (wc : S1024x4096.Idx → EReal) :
    val_main_v25 (F := Ideal) x wg bg oa wa ob wb oc wc = merged x wg bg oa wa ob wb oc wc := by
  funext i
  obtain ⟨p, q, rfl⟩ : ∃ (p : Fin 8192) (q : Fin 4096), i = ix2 p q := ⟨i 0, i 1, eq_ix2 i⟩
  show _ = gate x wg bg p ⟨q.val, by omega⟩ * (∑ k : Fin 2048, oa (ix2 p k) * wa (ix2 k q))
    + gate x wg bg p ⟨4096 + q.val, by omega⟩ * (∑ k : Fin 1024, ob (ix2 p k) * wb (ix2 k q))
    + gate x wg bg p ⟨8192 + q.val, by omega⟩ * (∑ k : Fin 1024, oc (ix2 p k) * wc (ix2 k q))
  rw [← ref_gate, ← ref_gate, ← ref_gate]
  pointwise [val_main_v25, val_main_v24, val_main_v23, val_main_v22, val_main_v21, val_main_v20, val_main_v19, val_main_v18, val_main_v17,
    val_main_v16, val_main_v15, val_main_v14, val_main_v3, val_main_v2, val_main_v1]

/-- The tiled merge and the reference end with the same result from the same arguments. -/
theorem algebraic : Cert.algebraic_MergeIdeal_MergeRefIdeal := fun m ρ m' ρ' _ hag =>
  ⟨fun c => G m c,
    (θ_run Cert.MergeIdeal.defs _ _).mono (fun _ h c => ⟨(h c).1.trans (final m c), (h c).2⟩)
      (Value.run_blocks (F := Ideal) m ρ),
    (θ_run Cert.MergeRefIdeal.defs _ _).mono (fun _ h c => ⟨(h c).1.trans ((ref_eq _ _ _ _ _ _ _ _ _).trans (by
        obtain ⟨e0, e1, e2, e3, e4, e5, e6, e7, e8⟩ := hag c
        rw [e0, e1, e2, e3, e4, e5, e6, e7, e8])), (h c).2⟩)
      (Cert.MergeRefIdeal.Value.run (F := Ideal) m' ρ')⟩

/-- The reference runs, leaves its arguments as launched, and has no semaphore to leave raised. -/
theorem frame_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

end Cert.MergeValue

end
-- ==== Proof.InProjValue.lean ====
/-
  The input projection of the prompt: what the tiled product leaves is `x · w`, and so does the reference.
-/
module

public import proofs.«01_k».proof.Defs
public import proofs.«01_k».proof.Proof.Common
public import proofs.«01_k».proof.Proof.Gen.InProjIdeal.Value
public import proofs.«01_k».proof.Proof.Gen.InProjRefIdeal.Run
public import proofs.«01_k».proof.Proof.Gen.InProjRefIdeal.Read

@[expose] public section

set_option maxRecDepth 16384

noncomputable section

open Idealize.ShloMosaic Idealize.ShloMosaic.TcCoe Idealize.SL.Sem
open Idealize.ShloMosaic.Pipeline (Dat)

namespace Cert.InProjValue

open Cert.InProjIdeal Cert.InProjIdeal.Gen Cert.Common

variable (m : (ℓ : Loc nD τ sig) → Buf (Elt Ideal) ℓ) (ρ : Dev nD → PrngReg)

/-- The left operand, as launched. -/
abbrev X (c : Dev nD) : S8192x4096.Idx → EReal := m ((c : Thread nD τ).loc main_arg0)
/-- The right operand, as launched. -/
abbrev W (c : Dev nD) : S4096x10240.Idx → EReal := m ((c : Thread nD τ).loc main_arg1)
/-- The product of the two arguments. -/
abbrev G (c : Dev nD) : S8192x10240.Idx → EReal := mm (X m c) (W m c)

/-- Which tile each window is on at point `t`: the row tile runs fastest. -/
theorem idx_facts : ∀ t : Fin grid0.N, win0_0.index t 0 = t.val % 16 ∧ win0_0.index t 1 = 0
    ∧ win0_1.index t 0 = 0 ∧ win0_1.index t 1 = t.val / 16
    ∧ win0_2.index t 0 = t.val % 16 ∧ win0_2.index t 1 = t.val / 16 := by decide +kernel

/-- The body's product at an element. -/
theorem pay_apply (x : FVec Ideal S512x4096 .bf16) (w : FVec Ideal S4096x512 .f32) (r : Fin 512) (q : Fin 512) :
    (k0_pay1 (F := Ideal) x w (ix2 r q) : EReal) = ∑ k : Fin 4096, x (ix2 r k) * w (ix2 k q) := by
  unfold_payloads
  pointwise

/-- The two coordinates of an element of a window's block, in its array: tile times extent plus place. -/
theorem emb_facts (t : Fin grid0.N) :
    (∀ y, ((win0_0.rect t).emb y 0).val = t.val % 16 * 512 + (y 0).val) ∧ (∀ y, ((win0_0.rect t).emb y 1).val = (y 1).val)
    ∧ (∀ y, ((win0_1.rect t).emb y 0).val = (y 0).val) ∧ (∀ y, ((win0_1.rect t).emb y 1).val = t.val / 16 * 512 + (y 1).val)
    ∧ (∀ y, ((win0_2.rect t).emb y 0).val = t.val % 16 * 512 + (y 0).val) ∧ (∀ y, ((win0_2.rect t).emb y 1).val = t.val / 16 * 512 + (y 1).val) := by
  obtain ⟨a0, a1, b0, b1, o0, o1⟩ := idx_facts t
  refine ⟨fun y => ?_, fun y => ?_, fun y => ?_, fun y => ?_, fun y => ?_, fun y => ?_⟩
  · rw [win0_0.rect_emb_val t y 0, a0]; rfl
  · rw [win0_0.rect_emb_val t y 1, a1]; exact Nat.zero_add _
  · rw [win0_1.rect_emb_val t y 0, b0]; exact Nat.zero_add _
  · rw [win0_1.rect_emb_val t y 1, b1]; rfl
  · rw [win0_2.rect_emb_val t y 0, o0]; rfl
  · rw [win0_2.rect_emb_val t y 1, o1]; rfl

/-- What point `t` writes back is its tile of the product. -/
theorem flushed_eq (c : Dev nD) (t : Fin cfg0.N) :
    (dats m 0 c).flushed 2 t = (win0_2.blk t).view.read (Elt Ideal) (G m c) := by
  rw [Value.flushed2]
  unfold out0_2
  rw [View.canon_unit_zero hz2, View.ld_unit_zero hz2, View.ld_unit_zero hz2]
  funext y
  obtain ⟨r, q, rfl⟩ : ∃ (r q : Fin 512), y = ix2 r q := ⟨y 0, y 1, eq_ix2 y⟩
  obtain ⟨a0, a1, b0, b1, o0, o1⟩ := emb_facts t
  exact (pay_apply _ _ r q).trans (mm_block (X m c) (W m c) (win0_0.rect t).emb (win0_1.rect t).emb (win0_2.rect t).emb a0 a1 b0 b1 o0 o1 r q)

/-- Every element of the result is in the tile of some point. -/
theorem cover (i : S8192x10240.Idx) :
    ∃ t : Fin cfg0.N, (cfg0.win 2).flush t = true ∧ i ∈ ((cfg0.win 2).blk t).view.set := by
  have h0 : (i 0).val < 8192 := (i 0).isLt
  have h1 : (i 1).val < 10240 := (i 1).isLt
  have hN : cfg0.N = 320 := N_0
  have ht : (i 1).val / 512 * 16 + (i 0).val / 512 < cfg0.N := by omega
  obtain ⟨_, _, _, _, o0, o1⟩ := emb_facts ⟨_, ht⟩
  refine ⟨⟨_, ht⟩, flush0_2 _, Finset.mem_map.mpr ⟨_, Finset.mem_univ _, tile_emb i (win0_2.rect ⟨_, ht⟩).emb (by decide) (by decide)
    (fun y => (o0 y).trans (congrArg (· * 512 + (y 0).val) ?_)) (fun y => (o1 y).trans (congrArg (· * 512 + (y 1).val) ?_))⟩⟩
  · show ((i 1).val / 512 * 16 + (i 0).val / 512) % 16 = (i 0).val / 512
    omega
  · show ((i 1).val / 512 * 16 + (i 0).val / 512) / 16 = (i 1).val / 512
    omega

/-- So the result array ends holding the product. -/
theorem final (c : Dev nD) : (dats m 0 c).arrAt 2 cfg0.N = G m c :=
  (dats m 0 c).arrAt_eq_of_cover 2 (G m c) (fun t _ => flushed_eq m c t) cover

/-- The reference's `dot_general` is the product. -/
theorem ref_eq (x : S8192x4096.Idx → EReal) (w : S4096x10240.Idx → EReal) :
    InProjRefIdeal.Read.val_main_v1 (F := Ideal) x w = mm x w := by
  funext i
  rw [InProjRefIdeal.Read.val_main_v1_apply]
  refine Finset.sum_congr rfl fun k _ => ?_
  exact congrArg₂ (· * ·) (congrArg x (Shape.idx_ext₂ rfl rfl)) (congrArg w (Shape.idx_ext₂ rfl rfl))

/-- The tiled projection and the reference end with the same result from the same arguments. -/
theorem algebraic : Cert.algebraic_InProjIdeal_InProjRefIdeal := fun m ρ m' ρ' _ hag =>
  ⟨fun c => G m c,
    (θ_run Cert.InProjIdeal.defs _ _).mono (fun _ h c => ⟨(h c).1.trans (final m c), (h c).2⟩)
      (Value.run_blocks (F := Ideal) m ρ),
    (θ_run Cert.InProjRefIdeal.defs _ _).mono (fun _ h c => ⟨(h c).1.trans ((ref_eq _ _).trans (by rw [(hag c).1, (hag c).2])), (h c).2⟩)
      (Cert.InProjRefIdeal.Value.run (F := Ideal) m' ρ')⟩

/-- The reference runs, leaves its arguments as launched, and has no semaphore to leave raised. -/
theorem frame_ref : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

end Cert.InProjValue

end
-- ==== Proof.OutProjValue.lean ====
/-
  The output projection of the merged branches: what the tiled product leaves is `x · w`, and so does the reference.
-/
module

public import proofs.«01_k».proof.Defs
public import proofs.«01_k».proof.Proof.Common
public import proofs.«01_k».proof.Proof.Gen.OutProjIdeal.Value
public import proofs.«01_k».proof.Proof.Gen.OutProjRefIdeal.Run
public import proofs.«01_k».proof.Proof.Gen.OutProjRefIdeal.Read

@[expose] public section

set_option maxRecDepth 16384

noncomputable section

open Idealize.ShloMosaic Idealize.ShloMosaic.TcCoe Idealize.SL.Sem
open Idealize.ShloMosaic.Pipeline (Dat)

namespace Cert.OutProjValue

open Cert.OutProjIdeal Cert.OutProjIdeal.Gen Cert.Common

variable (m : (ℓ : Loc nD τ sig) → Buf (Elt Ideal) ℓ) (ρ : Dev nD → PrngReg)

/-- The left operand, as launched. -/
abbrev X (c : Dev nD) : S8192x4096.Idx → EReal := m ((c : Thread nD τ).loc main_arg0)
/-- The right operand, as launched. -/
abbrev W (c : Dev nD) : S4096x4096.Idx → EReal := m ((c : Thread nD τ).loc main_arg1)
/-- The product of the two arguments. -/
abbrev G (c : Dev nD) : S8192x4096.Idx → EReal := mm (X m c) (W m c)

/-- Which tile each window is on at point `t`: the row tile runs fastest. -/
theorem idx_facts : ∀ t : Fin grid0.N, win0_0.index t 0 = t.val % 16 ∧ win0_0.index t 1 = 0
    ∧ win0_1.index t 0 = 0 ∧ win0_1.index t 1 = t.val / 16
    ∧ win0_2.index t 0 = t.val % 16 ∧ win0_2.index t 1 = t.val / 16 := by decide +kernel

/-- The body's product at an element. -/
theorem pay_apply (x : FVec Ideal S512x4096 .bf16) (w : FVec Ideal S4096x512 .f32) (r : Fin 512) (q : Fin 512) :
    (k0_pay1 (F := Ideal) x w (ix2 r q) : EReal) = ∑ k : Fin 4096, x (ix2 r k) * w (ix2 k q) := by
  unfold_payloads
  pointwise

/-- The two coordinates of an element of a window's block, in its array: tile times extent plus place. -/
theorem emb_facts (t : Fin grid0.N) :
    (∀ y, ((win0_0.rect t).emb y 0).val = t.val % 16 * 512 + (y 0).val) ∧ (∀ y, ((win0_0.rect t).emb y 1).val = (y 1).val)
    ∧ (∀ y, ((win0_1.rect t).emb y 0).val = (y 0).val) ∧ (∀ y, ((win0_1.rect t).emb y 1).val = t.val / 16 * 512 + (y 1).val)
    ∧ (∀ y, ((win0_2.rect t).emb y 0).val = t.val % 16 * 512 + (y 0).val) ∧ (∀ y, ((win0_2.rect t).emb y 1).val = t.val / 16 * 512 + (y 1).val) := by
  obtain ⟨a0, a1, b0, b1, o0, o1⟩ := idx_facts t
  refine ⟨fun y => ?_, fun y => ?_, fun y => ?_, fun y => ?_, fun y => ?_, fun y => ?_⟩
  · rw [win0_0.rect_emb_val t y 0, a0]; rfl
  · rw [win0_0.rect_emb_val t y 1, a1]; exact Nat.zero_add _
  · rw [win0_1.rect_emb_val t y 0, b0]; exact Nat.zero_add _
  · rw [win0_1.rect_emb_val t y 1, b1]; rfl
  · rw [win0_2.rect_emb_val t y 0, o0]; rfl
  · rw [win0_2.rect_emb_val t y 1, o1]; rfl

/-- What point `t` writes back is its tile of the product. -/
theorem flushed_eq (c : Dev nD) (t : Fin cfg0.N) :
    (dats m 0 c).flushed 2 t = (win0_2.blk t).view.read (Elt Ideal) (G m c) := by
  rw [Value.flushed2]
  unfold out0_2
  rw [View.canon_unit_zero hz2, View.ld_unit_zero hz2, View.ld_unit_zero hz2]
  funext y
  obtain ⟨r, q, rfl⟩ : ∃ (r q : Fin 512), y = ix2 r q := ⟨y 0, y 1, eq_ix2 y⟩
  obtain ⟨a0, a1, b0, b1, o0, o1⟩ := emb_facts t
  exact (pay_apply _ _ r q).trans (mm_block (X m c) (W m c) (win0_0.rect t).emb (win0_1.rect t).emb (win0_2.rect t).emb a0 a1 b0 b1 o0 o1 r q)

/-- Every element of the result is in the tile of some point. -/
theorem cover (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 128 := N_0
  have ht : (i 1).val / 512 * 16 + (i 0).val / 512 < cfg0.N := by omega
  obtain ⟨_, _, _, _, o0, o1⟩ := emb_facts ⟨_, ht⟩
  refine ⟨⟨_, ht⟩, flush0_2 _, Finset.mem_map.mpr ⟨_, Finset.mem_univ _, tile_emb i (win0_2.rect ⟨_, ht⟩).emb (by decide) (by decide)
    (fun y => (o0 y).trans (congrArg (· * 512 + (y 0).val) ?_)) (fun y => (o1 y).trans (congrArg (· * 512 + (y 1).val) ?_))⟩⟩
  · show ((i 1).val / 512 * 16 + (i 0).val / 512) % 16 = (i 0).val / 512
    omega
  · show ((i 1).val / 512 * 16 + (i 0).val / 512) / 16 = (i 1).val / 512
    omega

/-- So the result array ends holding the product. -/
theorem final (c : Dev nD) : (dats m 0 c).arrAt 2 cfg0.N = G m c :=
  (dats m 0 c).arrAt_eq_of_cover 2 (G m c) (fun t _ => flushed_eq m c t) cover

/-- The reference's `dot_general` is the product. -/
theorem ref_eq (x : S8192x4096.Idx → EReal) (w : S4096x4096.Idx → EReal) :
    OutProjRefIdeal.Read.val_main_v1 (F := Ideal) x w = mm x w := by
  funext i
  rw [OutProjRefIdeal.Read.val_main_v1_apply]
  refine Finset.sum_congr rfl fun k _ => ?_
  exact congrArg₂ (· * ·) (congrArg x (Shape.idx_ext₂ rfl rfl)) (congrArg w (Shape.idx_ext₂ rfl rfl))

/-- The tiled projection and the reference end with the same result from the same arguments. -/
theorem algebraic : Cert.algebraic_OutProjIdeal_OutProjRefIdeal := fun m ρ m' ρ' _ hag =>
  ⟨fun c => G m c,
    (θ_run Cert.OutProjIdeal.defs _ _).mono (fun _ h c => ⟨(h c).1.trans (final m c), (h c).2⟩)
      (Value.run_blocks (F := Ideal) m ρ),
    (θ_run Cert.OutProjRefIdeal.defs _ _).mono (fun _ h c => ⟨(h c).1.trans ((ref_eq _ _).trans (by rw [(hag c).1, (hag c).2])), (h c).2⟩)
      (Cert.OutProjRefIdeal.Value.run (F := Ideal) m' ρ')⟩

/-- The reference runs, leaves its arguments as launched, and has no semaphore to leave raised. -/
theorem frame_ref : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

end Cert.OutProjValue

end
-- ==== Proof.QueryProjValue.lean ====
/-
  The query projection of the expert layer: what the tiled product leaves is `x · w`, and so does the reference.
-/
module

public import proofs.«01_k».proof.Defs
public import proofs.«01_k».proof.Proof.Common
public import proofs.«01_k».proof.Proof.Gen.QueryProjIdeal.Value
public import proofs.«01_k».proof.Proof.Gen.QueryProjRefIdeal.Run
public import proofs.«01_k».proof.Proof.Gen.QueryProjRefIdeal.Read

@[expose] public section

set_option maxRecDepth 16384

noncomputable section

open Idealize.ShloMosaic Idealize.ShloMosaic.TcCoe Idealize.SL.Sem
open Idealize.ShloMosaic.Pipeline (Dat)

namespace Cert.QueryProjValue

open Cert.QueryProjIdeal Cert.QueryProjIdeal.Gen Cert.Common

variable (m : (ℓ : Loc nD τ sig) → Buf (Elt Ideal) ℓ) (ρ : Dev nD → PrngReg)

/-- The left operand, as launched. -/
abbrev X (c : Dev nD) : S8192x4096.Idx → EReal := m ((c : Thread nD τ).loc main_arg0)
/-- The right operand, as launched. -/
abbrev W (c : Dev nD) : S4096x2048.Idx → EReal := m ((c : Thread nD τ).loc main_arg1)
/-- The product of the two arguments. -/
abbrev G (c : Dev nD) : S8192x2048.Idx → EReal := mm (X m c) (W m c)

/-- Which tile each window is on at point `t`: the row tile runs fastest. -/
theorem idx_facts : ∀ t : Fin grid0.N, win0_0.index t 0 = t.val % 16 ∧ win0_0.index t 1 = 0
    ∧ win0_1.index t 0 = 0 ∧ win0_1.index t 1 = t.val / 16
    ∧ win0_2.index t 0 = t.val % 16 ∧ win0_2.index t 1 = t.val / 16 := by decide +kernel

/-- The body's product at an element. -/
theorem pay_apply (x : FVec Ideal S512x4096 .bf16) (w : FVec Ideal S4096x512 .f32) (r : Fin 512) (q : Fin 512) :
    (k0_pay1 (F := Ideal) x w (ix2 r q) : EReal) = ∑ k : Fin 4096, x (ix2 r k) * w (ix2 k q) := by
  unfold_payloads
  pointwise

/-- The two coordinates of an element of a window's block, in its array: tile times extent plus place. -/
theorem emb_facts (t : Fin grid0.N) :
    (∀ y, ((win0_0.rect t).emb y 0).val = t.val % 16 * 512 + (y 0).val) ∧ (∀ y, ((win0_0.rect t).emb y 1).val = (y 1).val)
    ∧ (∀ y, ((win0_1.rect t).emb y 0).val = (y 0).val) ∧ (∀ y, ((win0_1.rect t).emb y 1).val = t.val / 16 * 512 + (y 1).val)
    ∧ (∀ y, ((win0_2.rect t).emb y 0).val = t.val % 16 * 512 + (y 0).val) ∧ (∀ y, ((win0_2.rect t).emb y 1).val = t.val / 16 * 512 + (y 1).val) := by
  obtain ⟨a0, a1, b0, b1, o0, o1⟩ := idx_facts t
  refine ⟨fun y => ?_, fun y => ?_, fun y => ?_, fun y => ?_, fun y => ?_, fun y => ?_⟩
  · rw [win0_0.rect_emb_val t y 0, a0]; rfl
  · rw [win0_0.rect_emb_val t y 1, a1]; exact Nat.zero_add _
  · rw [win0_1.rect_emb_val t y 0, b0]; exact Nat.zero_add _
  · rw [win0_1.rect_emb_val t y 1, b1]; rfl
  · rw [win0_2.rect_emb_val t y 0, o0]; rfl
  · rw [win0_2.rect_emb_val t y 1, o1]; rfl

/-- What point `t` writes back is its tile of the product. -/
theorem flushed_eq (c : Dev nD) (t : Fin cfg0.N) :
    (dats m 0 c).flushed 2 t = (win0_2.blk t).view.read (Elt Ideal) (G m c) := by
  rw [Value.flushed2]
  unfold out0_2
  rw [View.canon_unit_zero hz2, View.ld_unit_zero hz2, View.ld_unit_zero hz2]
  funext y
  obtain ⟨r, q, rfl⟩ : ∃ (r q : Fin 512), y = ix2 r q := ⟨y 0, y 1, eq_ix2 y⟩
  obtain ⟨a0, a1, b0, b1, o0, o1⟩ := emb_facts t
  exact (pay_apply _ _ r q).trans (mm_block (X m c) (W m c) (win0_0.rect t).emb (win0_1.rect t).emb (win0_2.rect t).emb a0 a1 b0 b1 o0 o1 r q)

/-- Every element of the result is in the tile of some point. -/
theorem cover (i : S8192x2048.Idx) :
    ∃ t : Fin cfg0.N, (cfg0.win 2).flush t = true ∧ i ∈ ((cfg0.win 2).blk t).view.set := by
  have h0 : (i 0).val < 8192 := (i 0).isLt
  have h1 : (i 1).val < 2048 := (i 1).isLt
  have hN : cfg0.N = 64 := N_0
  have ht : (i 1).val / 512 * 16 + (i 0).val / 512 < cfg0.N := by omega
  obtain ⟨_, _, _, _, o0, o1⟩ := emb_facts ⟨_, ht⟩
  refine ⟨⟨_, ht⟩, flush0_2 _, Finset.mem_map.mpr ⟨_, Finset.mem_univ _, tile_emb i (win0_2.rect ⟨_, ht⟩).emb (by decide) (by decide)
    (fun y => (o0 y).trans (congrArg (· * 512 + (y 0).val) ?_)) (fun y => (o1 y).trans (congrArg (· * 512 + (y 1).val) ?_))⟩⟩
  · show ((i 1).val / 512 * 16 + (i 0).val / 512) % 16 = (i 0).val / 512
    omega
  · show ((i 1).val / 512 * 16 + (i 0).val / 512) / 16 = (i 1).val / 512
    omega

/-- So the result array ends holding the product. -/
theorem final (c : Dev nD) : (dats m 0 c).arrAt 2 cfg0.N = G m c :=
  (dats m 0 c).arrAt_eq_of_cover 2 (G m c) (fun t _ => flushed_eq m c t) cover

/-- The reference's `dot_general` is the product. -/
theorem ref_eq (x : S8192x4096.Idx → EReal) (w : S4096x2048.Idx → EReal) :
    QueryProjRefIdeal.Read.val_main_v1 (F := Ideal) x w = mm x w := by
  funext i
  rw [QueryProjRefIdeal.Read.val_main_v1_apply]
  refine Finset.sum_congr rfl fun k _ => ?_
  exact congrArg₂ (· * ·) (congrArg x (Shape.idx_ext₂ rfl rfl)) (congrArg w (Shape.idx_ext₂ rfl rfl))

/-- The tiled projection and the reference end with the same result from the same arguments. -/
theorem algebraic : Cert.algebraic_QueryProjIdeal_QueryProjRefIdeal := fun m ρ m' ρ' _ hag =>
  ⟨fun c => G m c,
    (θ_run Cert.QueryProjIdeal.defs _ _).mono (fun _ h c => ⟨(h c).1.trans (final m c), (h c).2⟩)
      (Value.run_blocks (F := Ideal) m ρ),
    (θ_run Cert.QueryProjRefIdeal.defs _ _).mono (fun _ h c => ⟨(h c).1.trans ((ref_eq _ _).trans (by rw [(hag c).1, (hag c).2])), (h c).2⟩)
      (Cert.QueryProjRefIdeal.Value.run (F := Ideal) m' ρ')⟩

/-- The reference runs, leaves its arguments as launched, and has no semaphore to leave raised. -/
theorem frame_ref : Cert.quiescent_QueryProjRefIdeal := fun m ρ _ =>
  (θ_run Cert.QueryProjRefIdeal.defs _ _).mono (fun r h => ⟨fun c => (h c).2, sem_eq_zero_of_no_sems (by decide) r.2⟩)
    (Cert.QueryProjRefIdeal.Value.run (F := Ideal) m ρ)

end Cert.QueryProjValue

end
-- ==== Proof.InProjSampleValue.lean ====
/-
  The input projection of the sampled tokens: what the tiled product leaves is `x · w`, and so does the reference.
-/
module

public import proofs.«01_k».proof.Defs
public import proofs.«01_k».proof.Proof.Common
public import proofs.«01_k».proof.Proof.Gen.InProjSampleIdeal.Value
public import proofs.«01_k».proof.Proof.Gen.InProjSampleRefIdeal.Run
public import proofs.«01_k».proof.Proof.Gen.InProjSampleRefIdeal.Read

@[expose] public section

set_option maxRecDepth 16384

noncomputable section

open Idealize.ShloMosaic Idealize.ShloMosaic.TcCoe Idealize.SL.Sem
open Idealize.ShloMosaic.Pipeline (Dat)

namespace Cert.InProjSampleValue

open Cert.InProjSampleIdeal Cert.InProjSampleIdeal.Gen Cert.Common

variable (m : (ℓ : Loc nD τ sig) → Buf (Elt Ideal) ℓ) (ρ : Dev nD → PrngReg)

/-- The left operand, as launched. -/
abbrev X (c : Dev nD) : S32x4096.Idx → EReal := m ((c : Thread nD τ).loc main_arg0)
/-- The right operand, as launched. -/
abbrev W (c : Dev nD) : S4096x10240.Idx → EReal := m ((c : Thread nD τ).loc main_arg1)
/-- The product of the two arguments. -/
abbrev G (c : Dev nD) : S32x10240.Idx → EReal := mm (X m c) (W m c)

/-- Which tile each window is on at point `t`: the row tile runs fastest. -/
theorem idx_facts : ∀ t : Fin grid0.N, win0_0.index t 0 = t.val % 1 ∧ win0_0.index t 1 = 0
    ∧ win0_1.index t 0 = 0 ∧ win0_1.index t 1 = t.val / 1
    ∧ win0_2.index t 0 = t.val % 1 ∧ win0_2.index t 1 = t.val / 1 := by decide +kernel

/-- The body's product at an element. -/
theorem pay_apply (x : FVec Ideal S32x4096 .bf16) (w : FVec Ideal S4096x512 .f32) (r : Fin 32) (q : Fin 512) :
    (k0_pay1 (F := Ideal) x w (ix2 r q) : EReal) = ∑ k : Fin 4096, x (ix2 r k) * w (ix2 k q) := by
  unfold_payloads
  pointwise

/-- The two coordinates of an element of a window's block, in its array: tile times extent plus place. -/
theorem emb_facts (t : Fin grid0.N) :
    (∀ y, ((win0_0.rect t).emb y 0).val = t.val % 1 * 32 + (y 0).val) ∧ (∀ y, ((win0_0.rect t).emb y 1).val = (y 1).val)
    ∧ (∀ y, ((win0_1.rect t).emb y 0).val = (y 0).val) ∧ (∀ y, ((win0_1.rect t).emb y 1).val = t.val / 1 * 512 + (y 1).val)
    ∧ (∀ y, ((win0_2.rect t).emb y 0).val = t.val % 1 * 32 + (y 0).val) ∧ (∀ y, ((win0_2.rect t).emb y 1).val = t.val / 1 * 512 + (y 1).val) := by
  obtain ⟨a0, a1, b0, b1, o0, o1⟩ := idx_facts t
  refine ⟨fun y => ?_, fun y => ?_, fun y => ?_, fun y => ?_, fun y => ?_, fun y => ?_⟩
  · rw [win0_0.rect_emb_val t y 0, a0]; rfl
  · rw [win0_0.rect_emb_val t y 1, a1]; exact Nat.zero_add _
  · rw [win0_1.rect_emb_val t y 0, b0]; exact Nat.zero_add _
  · rw [win0_1.rect_emb_val t y 1, b1]; rfl
  · rw [win0_2.rect_emb_val t y 0, o0]; rfl
  · rw [win0_2.rect_emb_val t y 1, o1]; rfl

/-- What point `t` writes back is its tile of the product. -/
theorem flushed_eq (c : Dev nD) (t : Fin cfg0.N) :
    (dats m 0 c).flushed 2 t = (win0_2.blk t).view.read (Elt Ideal) (G m c) := by
  rw [Value.flushed2]
  unfold out0_2
  rw [View.canon_unit_zero hz2, View.ld_unit_zero hz2, View.ld_unit_zero hz2]
  funext y
  obtain ⟨r, q, rfl⟩ : ∃ (r : Fin 32) (q : Fin 512), y = ix2 r q := ⟨y 0, y 1, eq_ix2 y⟩
  obtain ⟨a0, a1, b0, b1, o0, o1⟩ := emb_facts t
  exact (pay_apply _ _ r q).trans (mm_block (X m c) (W m c) (win0_0.rect t).emb (win0_1.rect t).emb (win0_2.rect t).emb a0 a1 b0 b1 o0 o1 r q)

/-- Every element of the result is in the tile of some point. -/
theorem cover (i : S32x10240.Idx) :
    ∃ t : Fin cfg0.N, (cfg0.win 2).flush t = true ∧ i ∈ ((cfg0.win 2).blk t).view.set := by
  have h0 : (i 0).val < 32 := (i 0).isLt
  have h1 : (i 1).val < 10240 := (i 1).isLt
  have hN : cfg0.N = 20 := N_0
  have ht : (i 1).val / 512 * 1 + (i 0).val / 32 < cfg0.N := by omega
  obtain ⟨_, _, _, _, o0, o1⟩ := emb_facts ⟨_, ht⟩
  refine ⟨⟨_, ht⟩, flush0_2 _, Finset.mem_map.mpr ⟨_, Finset.mem_univ _, tile_emb i (win0_2.rect ⟨_, ht⟩).emb (by decide) (by decide)
    (fun y => (o0 y).trans (congrArg (· * 32 + (y 0).val) ?_)) (fun y => (o1 y).trans (congrArg (· * 512 + (y 1).val) ?_))⟩⟩
  · show ((i 1).val / 512 * 1 + (i 0).val / 32) % 1 = (i 0).val / 32
    omega
  · show ((i 1).val / 512 * 1 + (i 0).val / 32) / 1 = (i 1).val / 512
    omega

/-- So the result array ends holding the product. -/
theorem final (c : Dev nD) : (dats m 0 c).arrAt 2 cfg0.N = G m c :=
  (dats m 0 c).arrAt_eq_of_cover 2 (G m c) (fun t _ => flushed_eq m c t) cover

/-- The reference's `dot_general` is the product. -/
theorem ref_eq (x : S32x4096.Idx → EReal) (w : S4096x10240.Idx → EReal) :
    InProjSampleRefIdeal.Read.val_main_v1 (F := Ideal) x w = mm x w := by
  funext i
  rw [InProjSampleRefIdeal.Read.val_main_v1_apply]
  refine Finset.sum_congr rfl fun k _ => ?_
  exact congrArg₂ (· * ·) (congrArg x (Shape.idx_ext₂ rfl rfl)) (congrArg w (Shape.idx_ext₂ rfl rfl))

/-- The tiled projection and the reference end with the same result from the same arguments. -/
theorem algebraic : Cert.algebraic_InProjSampleIdeal_InProjSampleRefIdeal := fun m ρ m' ρ' _ hag =>
  ⟨fun c => G m c,
    (θ_run Cert.InProjSampleIdeal.defs _ _).mono (fun _ h c => ⟨(h c).1.trans (final m c), (h c).2⟩)
      (Value.run_blocks (F := Ideal) m ρ),
    (θ_run Cert.InProjSampleRefIdeal.defs _ _).mono (fun _ h c => ⟨(h c).1.trans ((ref_eq _ _).trans (by rw [(hag c).1, (hag c).2])), (h c).2⟩)
      (Cert.InProjSampleRefIdeal.Value.run (F := Ideal) m' ρ')⟩

/-- The reference runs, leaves its arguments as launched, and has no semaphore to leave raised. -/
theorem frame_ref : Cert.quiescent_InProjSampleRefIdeal := fun m ρ _ =>
  (θ_run Cert.InProjSampleRefIdeal.defs _ _).mono (fun r h => ⟨fun c => (h c).2, sem_eq_zero_of_no_sems (by decide) r.2⟩)
    (Cert.InProjSampleRefIdeal.Value.run (F := Ideal) m ρ)

end Cert.InProjSampleValue

end
-- ==== Proof.NormValue.lean ====
/-
  The residual layer norm: what the tiled kernel leaves, in both formats, is the normalised residual sum, and so does the reference.
-/
module

public import proofs.«01_k».proof.Defs
public import proofs.«01_k».proof.Proof.Common
public import proofs.«01_k».proof.Proof.Gen.NormIdeal.Value
public import proofs.«01_k».proof.Proof.Gen.NormRefIdeal.Run
public import proofs.«01_k».proof.Proof.Gen.NormRefIdeal.Read

@[expose] public section

set_option maxRecDepth 16384

noncomputable section

open Idealize.ShloMosaic Idealize.ShloMosaic.TcCoe Idealize.SL.Sem
open Idealize.ShloMosaic.Pipeline (Dat)

namespace Cert.NormValue

open Cert.NormIdeal Cert.NormIdeal.Gen Cert.Common

/-- The residual sum of two rows, at an element: the first row scaled by the residual factor, plus the second. -/
def pre (x t : Fin 4096 → EReal) (k : Fin 4096) : EReal := Ideal.ofBits .f32 0x3FB504F3#32 * x k + t k

/-- The mean of the residual sum. -/
def mean (x t : Fin 4096 → EReal) : EReal := Ideal.div (∑ k, pre x t k) (Ideal.ofBits .f32 0x45800000#32)

/-- Its variance about that mean. -/
def var (x t : Fin 4096 → EReal) : EReal :=
  Ideal.div (∑ k, (pre x t k - mean x t) * (pre x t k - mean x t)) (Ideal.ofBits .f32 0x45800000#32)

/-- The normalised residual sum at an element, with that element's gain and shift. -/
def normed (x t : Fin 4096 → EReal) (g b : EReal) (k : Fin 4096) : EReal :=
  (pre x t k - mean x t) * Ideal.rsqrt (var x t + Ideal.ofBits .f32 0x3727C5AC#32) * g + b

/-- The layer norm of the arrays. -/
def layerNorm (x t : S8192x4096.Idx → EReal) (g b : S4096.Idx → EReal) : S8192x4096.Idx → EReal := fun i =>
  normed (fun k => x (ix2 (i 0) k)) (fun k => t (ix2 (i 0) k)) (g (ix1 (i 1))) (b (ix1 (i 1))) (i 1)

/-- The body's value at an element of its blocks. -/
theorem pay_apply (x t : FVec Ideal S256x4096 .f32) (g b : FVec Ideal S1x4096 .f32) (r : Fin 256) (q : Fin 4096) :
    (k0_pay1 (F := Ideal) x t g b (ix2 r q) : EReal)
      = normed (fun k => x (ix2 r k)) (fun k => t (ix2 r k)) (g (ix2 0 q)) (b (ix2 0 q)) q := by
  unfold_payloads
  unfold normed var mean pre
  pointwise

variable (m : (ℓ : Loc nD τ sig) → Buf (Elt Ideal) ℓ) (ρ : Dev nD → PrngReg)

/-- The layer norm of the arguments, as launched. -/
abbrev G (c : Dev nD) : S8192x4096.Idx → EReal :=
  layerNorm (m ((c : Thread nD τ).loc main_arg0)) (m ((c : Thread nD τ).loc main_arg1)) (m ((c : Thread nD τ).loc main_arg2))
    (m ((c : Thread nD τ).loc main_arg3))

/-- Which tile each window is on at point `t`: the rows' tiles in order, the gain and the shift always the same. -/
theorem idx_facts : ∀ t : Fin grid0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0) := by decide +kernel

/-- The row of the arrays that row `r` of a block is at point `t`. -/
def rowAt (t : Fin cfg0.N) (r : Fin 256) : Fin 8192 :=
  ⟨t.val * 256 + r.val, by have hN : cfg0.N = 32 := N_0; have := t.isLt; have := r.isLt; omega⟩

/-- The rows of the first array at point `t`. -/
theorem blk_x (c : Dev nD) (t : Fin cfg0.N) (r : Fin 256) (k : Fin 4096) : (iblk m c 0 t : S256x4096.Idx → EReal) (ix2 r k)
    = (m ((c : Thread nD τ).loc main_arg0) : _ → EReal) (ix2 (rowAt t r) k) := by
  have h := idx_facts t
  refine Eq.trans (show _ = V m c main_arg0 ((win0_0.rect t).emb (ix2 r k)) from rfl) ?_
  rw [V_main_arg0]
  exact congrArg (m ((c : Thread nD τ).loc main_arg0)) (emb_at r k (win0_0.rect_emb_val t _ 0) (win0_0.rect_emb_val t _ 1)
    h.1.1 h.1.2 (rowAt t r) k rfl (by rw [Nat.zero_mul, Nat.zero_add]))

/-- The rows of the second array at point `t`. -/
theorem blk_t (c : Dev nD) (t : Fin cfg0.N) (r : Fin 256) (k : Fin 4096) : (iblk m c 1 t : S256x4096.Idx → EReal) (ix2 r k)
    = (m ((c : Thread nD τ).loc main_arg1) : _ → EReal) (ix2 (rowAt t r) k) := by
  have h := idx_facts t
  refine Eq.trans (show _ = V m c main_arg1 ((win0_1.rect t).emb (ix2 r k)) from rfl) ?_
  rw [V_main_arg1]
  exact congrArg (m ((c : Thread nD τ).loc main_arg1)) (emb_at r k (win0_1.rect_emb_val t _ 0) (win0_1.rect_emb_val t _ 1)
    h.2.1.1 h.2.1.2 (rowAt t r) k rfl (by rw [Nat.zero_mul, Nat.zero_add]))

/-- The gain, which the host has reshaped to one row, at every point. -/
theorem blk_g (c : Dev nD) (t : Fin cfg0.N) (q : Fin 4096) : (iblk m c 2 t : S1x4096.Idx → EReal) (ix2 0 q)
    = (m ((c : Thread nD τ).loc main_arg2) : S4096.Idx → EReal) (ix1 q) := by
  have h := idx_facts t
  have hv : V m c main_v0 = shapeCast S1x4096 (m ((c : Thread nD τ).loc main_arg2)) shapeCasts_S4096_S1x4096 := by
    show StableHlo.after hostOps0 _ (Proc.devRef .tc main_v0) = _
    after_results
    rfl
  refine (congrArg (V m c main_v0) (emb_at 0 q (win0_2.rect_emb_val t _ 0) (win0_2.rect_emb_val t _ 1) h.2.2.1.1 h.2.2.1.2 0 q rfl
    (by rw [Nat.zero_mul, Nat.zero_add]))).trans ?_
  rw [hv]
  exact (shapeCast_addUnit_apply ![4096] _ _ (ix2 0 q)).trans (congrArg (m ((c : Thread nD τ).loc main_arg2)) (idx_ext1 rfl))

/-- The shift, which the host has reshaped to one row, at every point. -/
theorem blk_b (c : Dev nD) (t : Fin cfg0.N) (q : Fin 4096) : (iblk m c 3 t : S1x4096.Idx → EReal) (ix2 0 q)
    = (m ((c : Thread nD τ).loc main_arg3) : S4096.Idx → EReal) (ix1 q) := by
  have h := idx_facts t
  have hv : V m c main_v1 = shapeCast S1x4096 (m ((c : Thread nD τ).loc main_arg3)) shapeCasts_S4096_S1x4096 := by
    show StableHlo.after hostOps0 _ (Proc.devRef .tc main_v1) = _
    after_results
    rfl
  refine (congrArg (V m c main_v1) (emb_at 0 q (win0_3.rect_emb_val t _ 0) (win0_3.rect_emb_val t _ 1) h.2.2.2.1.1 h.2.2.2.1.2 0 q rfl
    (by rw [Nat.zero_mul, Nat.zero_add]))).trans ?_
  rw [hv]
  exact (shapeCast_addUnit_apply ![4096] _ _ (ix2 0 q)).trans (congrArg (m ((c : Thread nD τ).loc main_arg3)) (idx_ext1 rfl))

/-- The body's value on the blocks of point `t` is the layer norm at the rows the point is on. -/
theorem body_eq (c : Dev nD) (t : Fin cfg0.N) (r : Fin 256) (q : Fin 4096) :
    (k0_pay1 (F := Ideal) (iblk m c 0 t) (iblk m c 1 t) (iblk m c 2 t) (iblk m c 3 t) (ix2 r q) : EReal) = G m c (ix2 (rowAt t r) q) := by
  refine (pay_apply _ _ _ _ r q).trans ?_
  rw [blk_g, blk_b]
  simp only [blk_x, blk_t]
  rfl

/-- What point `t` writes back to the first result is its tile of the layer norm. -/
theorem flushed_eq4 (c : Dev nD) (t : Fin cfg0.N) :
    (dats m 0 c).flushed 4 t = (win0_4.blk t).view.read (Elt Ideal) (G m c) := by
  rw [Value.flushed4]
  unfold out0_4
  rw [View.canon_unit_zero hz2, View.ld_unit_zero hz2, View.ld_unit_zero hz2, View.ld_unit_zero hz2, View.ld_unit_zero hz2]
  have h := idx_facts t
  funext y
  obtain ⟨r, q, rfl⟩ : ∃ (r : Fin 256) (q : Fin 4096), y = ix2 r q := ⟨y 0, y 1, eq_ix2 y⟩
  exact (body_eq m c t r q).trans (congrArg (G m c) (emb_at (e := (win0_4.rect t).emb) r q (win0_4.rect_emb_val t _ 0) (win0_4.rect_emb_val t _ 1)
    h.2.2.2.2.1.1 h.2.2.2.2.1.2 (rowAt t r) q rfl (by rw [Nat.zero_mul, Nat.zero_add])).symm)

/-- What point `t` writes back to the second result is the same tile. -/
theorem flushed_eq5 (c : Dev nD) (t : Fin cfg0.N) :
    (dats m 0 c).flushed 5 t = (win0_5.blk t).view.read (Elt Ideal) (G m c) := by
  rw [Value.flushed5]
  unfold out0_5
  rw [View.canon_unit_zero hz2, View.ld_unit_zero hz2, View.ld_unit_zero hz2, View.ld_unit_zero hz2, View.ld_unit_zero hz2]
  have h := idx_facts t
  funext y
  obtain ⟨r, q, rfl⟩ : ∃ (r : Fin 256) (q : Fin 4096), y = ix2 r q := ⟨y 0, y 1, eq_ix2 y⟩
  exact (body_eq m c t r q).trans (congrArg (G m c) (emb_at (e := (win0_5.rect t).emb) r q (win0_5.rect_emb_val t _ 0) (win0_5.rect_emb_val t _ 1)
    h.2.2.2.2.2.1 h.2.2.2.2.2.2 (rowAt t r) q rfl (by rw [Nat.zero_mul, Nat.zero_add])).symm)

/-- Row `i` is row `i % 256` of tile `i / 256`. -/
theorem point_lt (i : S8192x4096.Idx) : (i 0).val / 256 < cfg0.N := by
  have h0 : (i 0).val < 8192 := (i 0).isLt
  have hN : cfg0.N = 32 := N_0
  omega

/-- Every element of the first result is in the tile of some point. -/
theorem cover4 (i : S8192x4096.Idx) : ∃ t : Fin cfg0.N, (cfg0.win 4).flush t = true ∧ i ∈ ((cfg0.win 4).blk t).view.set := by
  have h := idx_facts ⟨_, point_lt i⟩
  have h1 : (i 1).val < 4096 := (i 1).isLt
  refine ⟨⟨_, point_lt i⟩, flush0_4 _, Finset.mem_map.mpr ⟨_, Finset.mem_univ _, tile_emb i (win0_4.rect ⟨_, point_lt i⟩).emb (by decide) (by decide)
    (fun y => (win0_4.rect_emb_val _ y 0).trans (congrArg (· * 256 + (y 0).val) h.2.2.2.2.1.1))
    (fun y => (win0_4.rect_emb_val _ y 1).trans (congrArg (· * 4096 + (y 1).val) (h.2.2.2.2.1.2.trans ?_)))⟩⟩
  exact (Nat.div_eq_of_lt h1).symm

/-- Every element of the second result is in the tile of some point. -/
theorem cover5 (i : S8192x4096.Idx) : ∃ t : Fin cfg0.N, (cfg0.win 5).flush t = true ∧ i ∈ ((cfg0.win 5).blk t).view.set := by
  have h := idx_facts ⟨_, point_lt i⟩
  have h1 : (i 1).val < 4096 := (i 1).isLt
  refine ⟨⟨_, point_lt i⟩, flush0_5 _, Finset.mem_map.mpr ⟨_, Finset.mem_univ _, tile_emb i (win0_5.rect ⟨_, point_lt i⟩).emb (by decide) (by decide)
    (fun y => (win0_5.rect_emb_val _ y 0).trans (congrArg (· * 256 + (y 0).val) h.2.2.2.2.2.1))
    (fun y => (win0_5.rect_emb_val _ y 1).trans (congrArg (· * 4096 + (y 1).val) (h.2.2.2.2.2.2.trans ?_)))⟩⟩
  exact (Nat.div_eq_of_lt h1).symm

open NormRefIdeal.Read in
/-- The reference's mean of a row. -/
theorem ref_mean (x t : S8192x4096.Idx → EReal) (i : Fin 8192) :
    (val_main_v6 (F := Ideal) x t (ix2 i 0) : EReal) = mean (fun k => x (ix2 i k)) (fun k => t (ix2 i k)) := by
  unfold mean pre
  pointwise [val_main_v6, val_main_v5, val_main_cst_1, val_main_v4, val_main_v3, val_main_cst_0, val_main_v2, val_main_v1, val_main_v0, val_main_cst]

open NormRefIdeal.Read in
/-- The reference's variance of a row. -/
theorem ref_var (x t : S8192x4096.Idx → EReal) (i : Fin 8192) :
    (val_main_v13 (F := Ideal) x t (ix2 i 0) : EReal) = var (fun k => x (ix2 i k)) (fun k => t (ix2 i k)) := by
  unfold var
  rw [← ref_mean]
  unfold pre
  pointwise [val_main_v13, val_main_v12, val_main_v11, val_main_v10, val_main_v9, val_main_v8, val_main_v7, val_main_cst_2, val_main_cst_3,
    val_main_v2, val_main_v1, val_main_v0, val_main_cst]

open NormRefIdeal.Read in
/-- The reference is the layer norm. -/
theorem ref_eq (x t : S8192x4096.Idx → EReal) (g b : S4096.Idx → EReal) : val_main_v26 (F := Ideal) x t g b = layerNorm x t g b := by
  funext i
  obtain ⟨p, q, rfl⟩ : ∃ (p : Fin 8192) (q : Fin 4096), i = ix2 p q := ⟨i 0, i 1, eq_ix2 i⟩
  show _ = normed (fun k => x (ix2 p k)) (fun k => t (ix2 p k)) (g (ix1 q)) (b (ix1 q)) q
  unfold normed
  rw [← ref_mean, ← ref_var]
  unfold pre
  pointwise [val_main_v26, val_main_v25, val_main_v24, val_main_v23, val_main_v22, val_main_v21, val_main_v20, val_main_v19, val_main_v18,
    val_main_v17, val_main_v16, val_main_v15, val_main_v14, val_main_cst_4, val_main_v2, val_main_v1, val_main_v0, val_main_cst]

/-- The tiled layer norm and the reference end with the same two results from the same arguments. -/
theorem algebraic : Cert.algebraic_NormIdeal_NormRefIdeal := fun m ρ m' ρ' _ hag =>
  have ref (c : Dev nD) : NormRefIdeal.Read.val_main_v26 (F := Ideal) (m' ((c : Thread nD τ).loc NormRefIdeal.main_arg0))
      (m' ((c : Thread nD τ).loc NormRefIdeal.main_arg1)) (m' ((c : Thread nD τ).loc NormRefIdeal.main_arg2))
      (m' ((c : Thread nD τ).loc NormRefIdeal.main_arg3)) = G m c := by
    obtain ⟨e0, e1, e2, e3⟩ := hag c
    rw [ref_eq, e0, e1, e2, e3]
  ⟨fun c => G m c, fun c => G m c,
    (θ_run Cert.NormIdeal.defs _ _).mono (fun _ h c =>
      ⟨(h c).1.trans ((dats m 0 c).arrAt_eq_of_cover 4 (G m c) (fun t _ => flushed_eq4 m c t) cover4),
        (h c).2.1.trans ((dats m 0 c).arrAt_eq_of_cover 5 (G m c) (fun t _ => flushed_eq5 m c t) cover5), (h c).2.2⟩)
      (Value.run_blocks (F := Ideal) m ρ),
    (θ_run Cert.NormRefIdeal.defs _ _).mono (fun _ h c => ⟨(h c).1.trans (ref c), (h c).2.1.trans (ref c), (h c).2.2⟩)
      (Cert.NormRefIdeal.Value.run (F := Ideal) m' ρ')⟩

/-- The reference runs, leaves its arguments as launched, and has no semaphore to leave raised. -/
theorem frame_ref : Cert.quiescent_NormRefIdeal := fun m ρ _ =>
  (θ_run Cert.NormRefIdeal.defs _ _).mono (fun r h => ⟨fun c => (h c).2.2, sem_eq_zero_of_no_sems (by decide) r.2⟩)
    (Cert.NormRefIdeal.Value.run (F := Ideal) m ρ)

end Cert.NormValue

end
-- ==== Proof.ConvValue.lean ====
/-
  The gated convolution of three taps: what the tiled kernel leaves is each position's gated sum over its own input and the two before it,
  with zeros before the sequence begins, together with the last two inputs, and so does the reference.
-/
module

public import proofs.«01_k».proof.Defs
public import proofs.«01_k».proof.Proof.Common
public import proofs.«01_k».proof.Proof.Gen.ConvIdeal.Value
public import proofs.«01_k».proof.Proof.Gen.ConvRefIdeal.Run
public import proofs.«01_k».proof.Proof.Gen.ConvRefIdeal.Read
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.ConvValue

open Cert.ConvIdeal Cert.ConvIdeal.Gen Cert.Common

/-- The convolution's input of batch `b` at padded position `n`, channel `q`: zero at the two positions before the sequence, then the product
    of the two column groups of `u`. -/
def past (u : S4x2048x10240.Idx → EReal) (b : Fin 4) (n : ℕ) (q : Fin 1024) : EReal :=
  if h : 2 ≤ n ∧ n < 2050 then
    u (ix3 b ⟨n - 2, by omega⟩ ⟨9216 + q.val, by have := q.isLt; omega⟩) * u (ix3 b ⟨n - 2, by omega⟩ ⟨7168 + q.val, by have := q.isLt; omega⟩)
  else 0

/-- The convolution of batch `b` at position `t`, channel `q`, gated by the third column group. -/
def convAt (u : S4x2048x10240.Idx → EReal) (w : S3x1024.Idx → EReal) (b : Fin 4) (t : Fin 2048) (q : Fin 1024) : EReal :=
  u (ix3 b t ⟨8192 + q.val, by have := q.isLt; omega⟩)
    * (w (ix2 0 q) * past u b t.val q + w (ix2 1 q) * past u b (t.val + 1) q + w (ix2 2 q) * past u b (t.val + 2) q)

/-- Before the sequence the input is zero. -/
theorem past_low (u : S4x2048x10240.Idx → EReal) (b : Fin 4) {n : ℕ} (q : Fin 1024) (h : n < 2) : past u b n q = 0 :=
  dif_neg fun h' => by omega

/-- Within it, padded position `s + 2` is position `s`. -/
theorem past_at (u : S4x2048x10240.Idx → EReal) (b : Fin 4) {n : ℕ} (s : Fin 2048) (q : Fin 1024) (h : s.val + 2 = n) :
    past u b n q = u (ix3 b s ⟨9216 + q.val, by have := q.isLt; omega⟩) * u (ix3 b s ⟨7168 + q.val, by have := q.isLt; omega⟩) := by
  subst h
  have := s.isLt
  exact dif_pos ⟨by omega, by omega⟩

/-- A choice by the equality of two words that hold small numbers is the choice by the numbers' equality. -/
theorem select_eq {n k : ℕ} (hn : n < 2 ^ 32) (hk : k < 2 ^ 32) (a b : EReal) :
    Scalar.select (IntOp.cmpi .eq (BitVec.ofNat 32 n) (BitVec.ofNat 32 k)) a b = if n = k then a else b := by
  unfold Scalar.select
  exact if_congr (WordCmp.cmpi_eq_ofNat_eq_one_iff hn hk) rfl rfl

/-- A choice by a word's being positive is the choice by the number's. -/
theorem select_pos {n : ℕ} (hn : n < 2 ^ 31) (a b : EReal) :
    Scalar.select (Scalar.cmpi .sgt (BitVec.ofNat 32 n) 0#32) a b = if 0 < n then a else b := by
  unfold Scalar.select
  exact if_congr (WordCmp.cmpi_sgt_ofNat_eq_one_iff (w := 32) (b := 0) hn (by decide)) rfl rfl

/-- The product of the two groups over the tile. -/
theorem pay3_apply (v0 v2 : FVec Ideal S1x512x1024 .f32) (r : Fin 512) (q : Fin 1024) :
    (k0_pay3 (F := Ideal) v0 v2 (ix2 r q) : EReal) = v0 (ix3 0 r q) * v2 (ix3 0 r q) := by
  unfold_payloads
  pointwise

/-- The same over the eight rows before it, and zero in the first tile. -/
theorem pay4_apply (i : grid0.Coords) (v5 v7 : FVec Ideal S1x8x1024 .f32) (r : Fin 8) (q : Fin 1024) (hi : (i 1).val < 2 ^ 31) :
    (k0_pay4 (F := Ideal) i v5 v7 (ix2 r q) : EReal) = if 0 < (i 1).val then v5 (ix3 0 r q) * v7 (ix3 0 r q) else 0 := by
  refine Eq.trans ?_ (select_pos hi _ _)
  unfold_payloads
  pointwise

/-- The input one row earlier. -/
theorem pay5_apply (i : grid0.Coords) (v0 v2 : FVec Ideal S1x512x1024 .f32) (v5 v7 : FVec Ideal S1x8x1024 .f32) (r : Fin 512) (q : Fin 1024) :
    (k0_pay5 (F := Ideal) i v0 v2 v5 v7 (ix2 r q) : EReal) = if r.val = 0 then k0_pay4 (F := Ideal) i v5 v7 (ix2 7 q)
      else k0_pay3 (F := Ideal) v0 v2 (ix2 ⟨(r.val + 512 - 1) % 512, Nat.mod_lt _ (by decide)⟩ q) := by
  refine Eq.trans ?_ (select_eq (n := r.val) (k := 0) (by have := r.isLt; omega) (by decide) _ _)
  unfold k0_pay5
  pointwise

/-- The input two rows earlier, except at row 0. -/
theorem pay7_apply (i : grid0.Coords) (v0 v2 : FVec Ideal S1x512x1024 .f32) (v5 v7 : FVec Ideal S1x8x1024 .f32) (r : Fin 512) (q : Fin 1024) :
    (k0_pay7 (F := Ideal) i v0 v2 v5 v7 (ix2 r q) : EReal) = if r.val = 1 then k0_pay4 (F := Ideal) i v5 v7 (ix2 7 q)
      else k0_pay3 (F := Ideal) v0 v2 (ix2 ⟨(r.val + 512 - 2) % 512, Nat.mod_lt _ (by decide)⟩ q) := by
  refine Eq.trans ?_ (select_eq (n := r.val) (k := 1) (by have := r.isLt; omega) (by decide) _ _)
  unfold k0_pay7
  pointwise

/-- The row above the one before the tile. -/
theorem pay6_apply (i : grid0.Coords) (v5 v7 : FVec Ideal S1x8x1024 .f32) (q : Fin 1024) :
    (k0_pay6 (F := Ideal) i v5 v7 (ix2 0 q) : EReal) = k0_pay4 (F := Ideal) i v5 v7 (ix2 6 q) := by
  unfold k0_pay6
  pointwise

/-- The mark of row 0. -/
theorem pay8_apply (r : Fin 512) (q : Fin 1024) : k0_pay8 (ix2 r q) = IntOp.cmpi .eq (BitVec.ofNat 32 r.val) (BitVec.ofNat 32 0) := by
  unfold k0_pay8
  pointwise

/-- The gated sum of the three taps, stored at an element. -/
theorem pay1_apply (z z1 : FVec Ideal S512x1024 .f32) (e : FVec Ideal S1x1024 .f32) (z2 : FVec Ideal S512x1024 .f32) (c : IVec S512x1024 1)
    (w0 w1 w2 : FVec Ideal S1x1024 .f32) (g : FVec Ideal S1x512x1024 .f32) (r : Fin 512) (q : Fin 1024) :
    (k0_pay1 (F := Ideal) z z1 e z2 c w0 w1 w2 g (ix3 0 r q) : EReal)
      = g (ix3 0 r q) * (w0 (ix2 0 q) * Scalar.select (c (ix2 r q)) (e (ix2 0 q)) (z2 (ix2 r q)) + w1 (ix2 0 q) * z1 (ix2 r q)
        + w2 (ix2 0 q) * z (ix2 r q)) := by
  unfold k0_pay1
  pointwise

/-- The last two rows of the tile's inputs, stored at an element. -/
theorem pay2_apply (z : FVec Ideal S512x1024 .f32) (r : Fin 2) (q : Fin 1024) :
    (k0_pay2 (F := Ideal) z (ix3 0 r q) : EReal) = z (ix2 ⟨510 + r.val, by have := r.isLt; omega⟩ q) := by
  unfold k0_pay2
  pointwise

variable (m : (ℓ : Loc nD τ sig) → Buf (Elt Ideal) ℓ) (ρ : Dev nD → PrngReg)

/-- The columns the convolution reads, as launched. -/
abbrev U (c : Dev nD) : S4x2048x10240.Idx → EReal := m ((c : Thread nD τ).loc main_arg0)

/-- Its taps, as launched. -/
abbrev W (c : Dev nD) : S3x1024.Idx → EReal := m ((c : Thread nD τ).loc main_arg1)

/-- The first result. -/
abbrev G (c : Dev nD) : S4x2048x1024.Idx → EReal := fun i => convAt (U m c) (W m c) (i 0) (i 1) (i 2)

/-- The second: the inputs of the last two positions. -/
abbrev H (c : Dev nD) : S4x2x1024.Idx → EReal := fun i => past (U m c) (i 0) (2048 + (i 1).val) (i 2)

/-- Where each window is at point `t`: the batch is `t / 4` and the tile of positions `t % 4`; the two small windows are on the eight rows
    before the tile. -/
theorem idx_facts : ∀ t : Fin grid0.N, (win0_0.index t 0 = 0 ∧ win0_0.index t 1 = 0)
    ∧ (win0_1.index t 0 = t.val / 4 ∧ win0_1.index t 1 = t.val % 4 ∧ win0_1.index t 2 = 7)
    ∧ (win0_2.index t 0 = t.val / 4 ∧ win0_2.index t 1 = t.val % 4 ∧ win0_2.index t 2 = 8)
    ∧ (win0_3.index t 0 = t.val / 4 ∧ win0_3.index t 1 = t.val % 4 ∧ win0_3.index t 2 = 9)
    ∧ (win0_4.index t 0 = t.val / 4 ∧ win0_4.index t 1 = t.val % 4 * 64 - 1 ∧ win0_4.index t 2 = 7)
    ∧ (win0_5.index t 0 = t.val / 4 ∧ win0_5.index t 1 = t.val % 4 * 64 - 1 ∧ win0_5.index t 2 = 9)
    ∧ (win0_6.index t 0 = t.val / 4 ∧ win0_6.index t 1 = t.val % 4 ∧ win0_6.index t 2 = 0)
    ∧ (win0_7.index t 0 = t.val / 4 ∧ win0_7.index t 1 = 0 ∧ win0_7.index t 2 = 0)
    ∧ (grid0.coords t 1).val = t.val % 4 := by decide +kernel

/-- The batch of point `t`. -/
def batchAt (t : Fin cfg0.N) : Fin 4 := ⟨t.val / 4, by have hN : cfg0.N = 16 := N_0; have := t.isLt; omega⟩

/-- The position that row `r` of a tile is at point `t`. -/
def rowAt (t : Fin cfg0.N) (r : Fin 512) : Fin 2048 := ⟨t.val % 4 * 512 + r.val, by have := r.isLt; omega⟩

/-- The position that row `r` of the eight rows before the tile is at point `t`. -/
def prevAt (t : Fin cfg0.N) (r : Fin 8) : Fin 2048 := ⟨(t.val % 4 * 64 - 1) * 8 + r.val, by have := r.isLt; omega⟩

/-- The tile's first group of columns. -/
theorem blk_x (c : Dev nD) (t : Fin cfg0.N) (r : Fin 512) (q : Fin 1024) : (iblk m c 1 t : S1x512x1024.Idx → EReal) (ix3 0 r q)
    = U m c (ix3 (batchAt t) (rowAt t r) ⟨7168 + q.val, by have := q.isLt; omega⟩) := by
  have h := idx_facts t
  exact congrArg (U m c) (emb_at3 0 r q (win0_1.rect_emb_val t _ 0) (win0_1.rect_emb_val t _ 1) (win0_1.rect_emb_val t _ 2)
    h.2.1.1 h.2.1.2.1 h.2.1.2.2 (batchAt t) (rowAt t r) ⟨7168 + q.val, by have := q.isLt; omega⟩ (Nat.mul_one _) rfl rfl)

/-- Its gate. -/
theorem blk_g (c : Dev nD) (t : Fin cfg0.N) (r : Fin 512) (q : Fin 1024) : (iblk m c 2 t : S1x512x1024.Idx → EReal) (ix3 0 r q)
    = U m c (ix3 (batchAt t) (rowAt t r) ⟨8192 + q.val, by have := q.isLt; omega⟩) := by
  have h := idx_facts t
  exact congrArg (U m c) (emb_at3 0 r q (win0_2.rect_emb_val t _ 0) (win0_2.rect_emb_val t _ 1) (win0_2.rect_emb_val t _ 2)
    h.2.2.1.1 h.2.2.1.2.1 h.2.2.1.2.2 (batchAt t) (rowAt t r) ⟨8192 + q.val, by have := q.isLt; omega⟩ (Nat.mul_one _) rfl rfl)

/-- Its second group of columns. -/
theorem blk_y (c : Dev nD) (t : Fin cfg0.N) (r : Fin 512) (q : Fin 1024) : (iblk m c 3 t : S1x512x1024.Idx → EReal) (ix3 0 r q)
    = U m c (ix3 (batchAt t) (rowAt t r) ⟨9216 + q.val, by have := q.isLt; omega⟩) := by
  have h := idx_facts t
  exact congrArg (U m c) (emb_at3 0 r q (win0_3.rect_emb_val t _ 0) (win0_3.rect_emb_val t _ 1) (win0_3.rect_emb_val t _ 2)
    h.2.2.2.1.1 h.2.2.2.1.2.1 h.2.2.2.1.2.2 (batchAt t) (rowAt t r) ⟨9216 + q.val, by have := q.isLt; omega⟩ (Nat.mul_one _) rfl rfl)

/-- The first group over the eight rows before the tile. -/
theorem blk_px (c : Dev nD) (t : Fin cfg0.N) (r : Fin 8) (q : Fin 1024) : (iblk m c 4 t : S1x8x1024.Idx → EReal) (ix3 0 r q)
    = U m c (ix3 (batchAt t) (prevAt t r) ⟨7168 + q.val, by have := q.isLt; omega⟩) := by
  have h := idx_facts t
  exact congrArg (U m c) (emb_at3 0 r q (win0_4.rect_emb_val t _ 0) (win0_4.rect_emb_val t _ 1) (win0_4.rect_emb_val t _ 2)
    h.2.2.2.2.1.1 h.2.2.2.2.1.2.1 h.2.2.2.2.1.2.2 (batchAt t) (prevAt t r) ⟨7168 + q.val, by have := q.isLt; omega⟩ (Nat.mul_one _) rfl rfl)

/-- The second group over those rows. -/
theorem blk_py (c : Dev nD) (t : Fin cfg0.N) (r : Fin 8) (q : Fin 1024) : (iblk m c 5 t : S1x8x1024.Idx → EReal) (ix3 0 r q)
    = U m c (ix3 (batchAt t) (prevAt t r) ⟨9216 + q.val, by have := q.isLt; omega⟩) := by
  have h := idx_facts t
  exact congrArg (U m c) (emb_at3 0 r q (win0_5.rect_emb_val t _ 0) (win0_5.rect_emb_val t _ 1) (win0_5.rect_emb_val t _ 2)
    h.2.2.2.2.2.1.1 h.2.2.2.2.2.1.2.1 h.2.2.2.2.2.1.2.2 (batchAt t) (prevAt t r) ⟨9216 + q.val, by have := q.isLt; omega⟩ (Nat.mul_one _) rfl rfl)

/-- The taps, at every point. -/
theorem blk_w (c : Dev nD) (t : Fin cfg0.N) (r : Fin 3) (q : Fin 1024) : (iblk m c 0 t : S3x1024.Idx → EReal) (ix2 r q) = W m c (ix2 r q) := by
  have h := idx_facts t
  exact congrArg (W m c) (emb_at r q (win0_0.rect_emb_val t _ 0) (win0_0.rect_emb_val t _ 1) h.1.1 h.1.2 r q
    (by rw [Nat.zero_mul, Nat.zero_add]) (by rw [Nat.zero_mul, Nat.zero_add]))

/-- The tile's inputs are the padded sequence's, two positions on. -/
theorem tile_past (c : Dev nD) (t : Fin cfg0.N) (r : Fin 512) (q : Fin 1024) {n : ℕ} (hn : t.val % 4 * 512 + r.val + 2 = n) :
    (k0_pay3 (F := Ideal) (iblk m c 3 t) (iblk m c 1 t) (ix2 r q) : EReal) = past (U m c) (batchAt t) n q := by
  rw [past_at (U m c) (batchAt t) (rowAt t r) q hn]
  refine (pay3_apply _ _ r q).trans ?_
  rw [blk_y, blk_x]

/-- The last two of the eight rows before the tile are the padded sequence's at the tile's first position and the next. -/
theorem prev_past (c : Dev nD) (t : Fin cfg0.N) (r : Fin 8) (hr : 6 ≤ r.val) (q : Fin 1024) {n : ℕ} (hn : t.val % 4 * 512 + r.val = n + 6) :
    (k0_pay4 (F := Ideal) (grid0.coords t) (iblk m c 5 t) (iblk m c 4 t) (ix2 r q) : EReal) = past (U m c) (batchAt t) n q := by
  obtain ⟨_, _, _, _, _, _, _, _, hc⟩ := idx_facts t
  have h8 := r.isLt
  refine (pay4_apply _ _ _ r q (by rw [hc]; omega)).trans ?_
  rw [hc]
  by_cases h : 0 < t.val % 4
  · rw [if_pos h, past_at (U m c) (batchAt t) (prevAt t r) q (by show (t.val % 4 * 64 - 1) * 8 + r.val + 2 = n; omega), blk_py, blk_px]
  · rw [if_neg h, past_low (U m c) (batchAt t) q (by omega)]

/-- One row of the taps, loaded. -/
theorem ld_tap (w : S3x1024.Idx → EReal) (q : Fin 1024) :
    View.ld (Val := Elt Ideal) (e' := .f32) w r0_2 (ix2 0 q) = w (ix2 0 q) ∧ View.ld (Val := Elt Ideal) (e' := .f32) w r0_3 (ix2 0 q) = w (ix2 1 q)
      ∧ View.ld (Val := Elt Ideal) (e' := .f32) w r0_4 (ix2 0 q) = w (ix2 2 q) := by
  refine ⟨congrArg w (Shape.idx_ext₂ ?_ ?_), congrArg w (Shape.idx_ext₂ ?_ ?_), congrArg w (Shape.idx_ext₂ ?_ ?_)⟩
  all_goals first | rfl | exact (Nat.zero_add _).trans (Nat.one_mul _) | exact Nat.zero_add _

/-- What point `t` writes back to the first result is its tile of the convolution. -/
theorem flushed_eq6 (c : Dev nD) (t : Fin cfg0.N) :
    (dats m 0 c).flushed 6 t = (win0_6.blk t).view.read (Elt Ideal) (G m c) := by
  rw [Value.flushed6]
  unfold_out out0_6
  rw [View.canon_unit_zero hz3, View.ld_unit_zero hz3, View.ld_unit_zero hz3, View.ld_unit_zero hz3, View.ld_unit_zero hz3, View.ld_unit_zero hz3]
  obtain ⟨_, _, _, _, _, _, ⟨h0, h1, h2⟩, _, _⟩ := idx_facts t
  funext y
  obtain ⟨p, r, q, rfl⟩ : ∃ (p : Fin 1) (r : Fin 512) (q : Fin 1024), y = ix3 p r q := ⟨y 0, y 1, y 2, eq_ix3 y⟩
  obtain rfl : p = 0 := Subsingleton.elim _ _
  have hr := r.isLt
  refine Eq.trans ?_ (congrArg (G m c) (emb_at3 (e := (win0_6.rect t).emb) 0 r q (win0_6.rect_emb_val t _ 0) (win0_6.rect_emb_val t _ 1)
    (win0_6.rect_emb_val t _ 2) h0 h1 h2 (batchAt t) (rowAt t r) q (Nat.mul_one _) rfl (by rw [Nat.zero_mul, Nat.zero_add])).symm)
  refine (pay1_apply _ _ _ _ _ _ _ _ _ r q).trans ?_
  obtain ⟨e0, e1, e2⟩ := ld_tap (iblk m c 0 t) q
  have e2' : Scalar.select (k0_pay8 (ix2 r q)) (k0_pay6 (F := Ideal) (grid0.coords t) (iblk m c 5 t) (iblk m c 4 t) (ix2 0 q) : EReal)
      (k0_pay7 (F := Ideal) (grid0.coords t) (iblk m c 3 t) (iblk m c 1 t) (iblk m c 5 t) (iblk m c 4 t) (ix2 r q))
      = past (U m c) (batchAt t) (rowAt t r).val q := by
    rw [pay8_apply, select_eq (by omega) (by decide), pay6_apply, pay7_apply]
    by_cases hr0 : r.val = 0
    · rw [if_pos hr0, prev_past m c t 6 (by decide) q (n := (rowAt t r).val) (by show _ = t.val % 4 * 512 + r.val + 6; rw [hr0]; rfl)]
    · rw [if_neg hr0]
      by_cases hr1 : r.val = 1
      · rw [if_pos hr1, prev_past m c t 7 (by decide) q (n := (rowAt t r).val) (by show _ = t.val % 4 * 512 + r.val + 6; rw [hr1]; rfl)]
      · rw [if_neg hr1, tile_past m c t _ q (n := (rowAt t r).val)
          (by show t.val % 4 * 512 + (r.val + 512 - 2) % 512 + 2 = t.val % 4 * 512 + r.val; omega)]
  have e1' : (k0_pay5 (F := Ideal) (grid0.coords t) (iblk m c 3 t) (iblk m c 1 t) (iblk m c 5 t) (iblk m c 4 t) (ix2 r q) : EReal)
      = past (U m c) (batchAt t) ((rowAt t r).val + 1) q := by
    rw [pay5_apply]
    by_cases hr0 : r.val = 0
    · rw [if_pos hr0, prev_past m c t 7 (by decide) q (n := (rowAt t r).val + 1) (by show _ = t.val % 4 * 512 + r.val + 1 + 6; rw [hr0]; rfl)]
    · rw [if_neg hr0, tile_past m c t _ q (n := (rowAt t r).val + 1)
        (by show t.val % 4 * 512 + (r.val + 512 - 1) % 512 + 2 = t.val % 4 * 512 + r.val + 1; omega)]
  rw [e2', e1', e0, e1, e2, blk_w, blk_w, blk_w, blk_g, tile_past m c t r q (n := (rowAt t r).val + 2) rfl]
  rfl

/-- What the last point of a batch writes back to the second result is the batch's last two inputs. -/
theorem flushed_eq7 (c : Dev nD) (t : Fin cfg0.N) (hf : (cfg0.win 7).flush t = true) :
    (dats m 0 c).flushed 7 t = (win0_7.blk t).view.read (Elt Ideal) (H m c) := by
  have ht : t.val % 4 = 3 := (flush0_7 t).mp hf
  rw [Value.flushed7]
  unfold_out out0_7
  rw [View.canon_unit_zero hz3, View.ld_unit_zero hz3, View.ld_unit_zero hz3]
  obtain ⟨_, _, _, _, _, _, _, ⟨h0, h1, h2⟩, _⟩ := idx_facts t
  funext y
  obtain ⟨p, r, q, rfl⟩ : ∃ (p : Fin 1) (r : Fin 2) (q : Fin 1024), y = ix3 p r q := ⟨y 0, y 1, y 2, eq_ix3 y⟩
  obtain rfl : p = 0 := Subsingleton.elim _ _
  refine Eq.trans ?_ (congrArg (H m c) (emb_at3 (e := (win0_7.rect t).emb) 0 r q (win0_7.rect_emb_val t _ 0) (win0_7.rect_emb_val t _ 1)
    (win0_7.rect_emb_val t _ 2) h0 h1 h2 (batchAt t) r q (Nat.mul_one _) (by rw [Nat.zero_mul, Nat.zero_add]) (by rw [Nat.zero_mul, Nat.zero_add])).symm)
  refine (pay2_apply _ r q).trans ?_
  exact tile_past m c t _ q (by show t.val % 4 * 512 + (510 + r.val) + 2 = 2048 + r.val; omega)

/-- Every element of the first result is in the tile of some point. -/
theorem cover6 (i : S4x2048x1024.Idx) : ∃ t : Fin cfg0.N, (cfg0.win 6).flush t = true ∧ i ∈ ((cfg0.win 6).blk t).view.set := by
  have hN : cfg0.N = 16 := N_0
  have h0 : (i 0).val < 4 := (i 0).isLt
  have h1 : (i 1).val < 2048 := (i 1).isLt
  have ht : (i 0).val * 4 + (i 1).val / 512 < cfg0.N := by omega
  obtain ⟨_, _, _, _, _, _, ⟨e0, e1, e2⟩, _, _⟩ := idx_facts ⟨_, ht⟩
  refine ⟨⟨_, ht⟩, flush0_6 _, Finset.mem_map.mpr ⟨ix3 (0 : Fin 1) (⟨(i 1).val % 512, Nat.mod_lt _ (by decide)⟩ : Fin 512) (i 2), Finset.mem_univ _,
    (emb_at3 (e := (win0_6.rect ⟨_, ht⟩).emb) 0 _ _ (win0_6.rect_emb_val _ _ 0) (win0_6.rect_emb_val _ _ 1) (win0_6.rect_emb_val _ _ 2) e0 e1 e2
      (i 0) (i 1) (i 2) ?_ ?_ (by rw [Nat.zero_mul, Nat.zero_add])).trans (eq_ix3 i).symm⟩⟩
  · show ((i 0).val * 4 + (i 1).val / 512) / 4 * 1 + 0 = (i 0).val
    omega
  · show ((i 0).val * 4 + (i 1).val / 512) % 4 * 512 + (i 1).val % 512 = (i 1).val
    omega

/-- Every element of the second result is in the block of the last point of its batch. -/
theorem cover7 (i : S4x2x1024.Idx) : ∃ t : Fin cfg0.N, (cfg0.win 7).flush t = true ∧ i ∈ ((cfg0.win 7).blk t).view.set := by
  have hN : cfg0.N = 16 := N_0
  have h0 : (i 0).val < 4 := (i 0).isLt
  have ht : (i 0).val * 4 + 3 < cfg0.N := by omega
  obtain ⟨_, _, _, _, _, _, _, ⟨e0, e1, e2⟩, _⟩ := idx_facts ⟨_, ht⟩
  refine ⟨⟨_, ht⟩, (flush0_7 _).mpr (by show ((i 0).val * 4 + 3) % 4 = 3; omega), Finset.mem_map.mpr ⟨ix3 (0 : Fin 1) (i 1) (i 2), Finset.mem_univ _,
    (emb_at3 (e := (win0_7.rect ⟨_, ht⟩).emb) 0 _ _ (win0_7.rect_emb_val _ _ 0) (win0_7.rect_emb_val _ _ 1) (win0_7.rect_emb_val _ _ 2) e0 e1 e2
      (i 0) (i 1) (i 2) ?_ (by rw [Nat.zero_mul, Nat.zero_add]) (by rw [Nat.zero_mul, Nat.zero_add])).trans (eq_ix3 i).symm⟩⟩
  show ((i 0).val * 4 + 3) / 4 * 1 + 0 = (i 0).val
  omega

open ConvRefIdeal.Read in
/-- The reference's padded inputs. -/
theorem ref_past (u : S4x2048x10240.Idx → EReal) (b : Fin 4) (n : Fin 2050) (q : Fin 1024) :
    (val_main_v5 (F := Ideal) u (ix3 b n q) : EReal) = past u b n.val q := by
  pointwise [val_main_v5, val_main_v4, val_main_cst, val_main_v3, val_main_v2, val_main_v0]
  have hn := n.isLt
  by_cases h : n.val < 2
  · rw [dif_pos h, past_low u b q h]
  · rw [dif_neg h, past_at u b ⟨n.val - 2, by omega⟩ q (by show n.val - 2 + 2 = n.val; omega)]

open ConvRefIdeal.Read in
/-- The reference's first result is the convolution. -/
theorem ref_conv (u : S4x2048x10240.Idx → EReal) (w : S3x1024.Idx → EReal) :
    (val_main_v27 (F := Ideal) u w : S4x2048x1024.Idx → EReal) = fun i => convAt u w (i 0) (i 1) (i 2) := by
  funext i
  obtain ⟨b, t, q, rfl⟩ : ∃ (b : Fin 4) (t : Fin 2048) (q : Fin 1024), i = ix3 b t q := ⟨i 0, i 1, i 2, eq_ix3 i⟩
  have ht := t.isLt
  have e0 := ref_past u b ⟨t.val, by omega⟩ q
  have e1 := ref_past u b ⟨1 + t.val, by omega⟩ q
  have e2 := ref_past u b ⟨2 + t.val, by omega⟩ q
  show _ = convAt u w b t q
  unfold convAt
  rw [Nat.add_comm t.val 1, Nat.add_comm t.val 2]
  refine Eq.trans ?_ (congrArg₂ (· * ·) rfl (congrArg₂ (· + ·) (congrArg₂ (· + ·) (congrArg₂ (· * ·) rfl e0) (congrArg₂ (· * ·) rfl e1)) (congrArg₂ (· * ·) rfl e2)))
  pointwise [val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9,
    val_main_v8, val_main_v7, val_main_v6, val_main_v1]

open ConvRefIdeal.Read in
/-- Its second is the last two inputs. -/
theorem ref_tail (u : S4x2048x10240.Idx → EReal) :
    (val_main_v28 (F := Ideal) u : S4x2x1024.Idx → EReal) = fun i => past u (i 0) (2048 + (i 1).val) (i 2) := by
  funext i
  obtain ⟨b, t, q, rfl⟩ : ∃ (b : Fin 4) (t : Fin 2) (q : Fin 1024), i = ix3 b t q := ⟨i 0, i 1, i 2, eq_ix3 i⟩
  refine Eq.trans ?_ (ref_past u b ⟨2048 + t.val, by have := t.isLt; omega⟩ q)
  pointwise [val_main_v28]

/-- The tiled convolution and the reference end with the same two results from the same arguments. -/
theorem algebraic : Cert.algebraic_ConvIdeal_ConvRefIdeal := fun m ρ m' ρ' _ hag =>
  ⟨fun c => G m c, fun c => H m c,
    (θ_run Cert.ConvIdeal.defs _ _).mono (fun _ h c =>
      ⟨(h c).1.trans ((dats m 0 c).arrAt_eq_of_cover 6 (G m c) (fun t _ => flushed_eq6 m c t) cover6),
        (h c).2.1.trans ((dats m 0 c).arrAt_eq_of_cover 7 (H m c) (fun t hf => flushed_eq7 m c t hf) cover7), (h c).2.2⟩)
      (Value.run_blocks (F := Ideal) m ρ),
    (θ_run Cert.ConvRefIdeal.defs _ _).mono (fun _ h c =>
      ⟨(h c).1.trans ((ref_conv _ _).trans (by rw [(hag c).1, (hag c).2])), (h c).2.1.trans ((ref_tail _).trans (by rw [(hag c).1])), (h c).2.2⟩)
      (Cert.ConvRefIdeal.Value.run (F := Ideal) m' ρ')⟩

/-- The reference runs, leaves its arguments as launched, and has no semaphore to leave raised. -/
theorem frame_ref : Cert.quiescent_ConvRefIdeal := fun m ρ _ =>
  (θ_run Cert.ConvRefIdeal.defs _ _).mono (fun r h => ⟨fun c => (h c).2.2, sem_eq_zero_of_no_sems (by decide) r.2⟩)
    (Cert.ConvRefIdeal.Value.run (F := Ideal) m ρ)

end Cert.ConvValue

end
-- ==== Proof.ConvSampleBody.lean ====
/-
  The convolution of the sample batch, its kernel's body: what it leaves in the two result blocks. Each row of the first result is half of
  its words, so the body loads the pair of rows that the words hold, puts the row in and stores the pair; two such stores leave a pair
  whose rows are both the body's, whatever the block held.
-/
module

public import proofs.«01_k».proof.Proof.Common
public import proofs.«01_k».proof.Proof.Gen.ConvSampleIdeal.Frame
public import Idealize.ShloMosaic.Lib.Pipeline.ValueKit.Tiles

@[expose] public section

set_option maxRecDepth 16384

noncomputable section

namespace Cert.ConvSampleBody

open Cert.ConvSampleIdeal Cert.ConvSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource model the body is run over. -/
abbrev Model (F : FTy → Type) : Type := MT nD τ sig Unit (Elt F) ℕ (UR sig nD τ) ℕ

/-! ## The values -/

/-- Row `k` of the three taps. -/
abbrev tapRow (k : Fin 3) : Rect S3x1024 :=
  Rect.unit (s := S3x1024) ![k.val, 0] S1x1024.size fun a => by fin_cases k <;> fin_cases a <;> decide

/-- Row `k` of the two rows of state. -/
abbrev stateRow (k : Fin 2) : Rect S8x2x1024 :=
  Rect.unit (s := S8x2x1024) ![0, k.val, 0] S8x1x1024.size fun a => by fin_cases k <;> fin_cases a <;> decide

/-- Row `k` of the four positions. -/
abbrev posRow (k : Fin 4) : Rect S8x4x1024 :=
  Rect.unit (s := S8x4x1024) ![0, k.val, 0] S8x1x1024.size fun a => by fin_cases k <;> fin_cases a <;> decide

/-- The pair of positions `2k` and `2k + 1`. -/
abbrev pairRows (k : Fin 2) : Rect S8x4x1024 :=
  Rect.unit (s := S8x4x1024) ![0, 2 * k.val, 0] S8x2x1024.size fun a => by fin_cases k <;> fin_cases a <;> decide

/-- A loaded row, its unit axis dropped. -/
def flat (v : Vec F S8x1x1024 .f32) : FVec F S8x1024 .f32 := shapeCast S8x1024 v shapeCasts_S8x1x1024_S8x1024

/-- The convolution's six inputs: the two rows of state, then each position's product of its two column groups. -/
def inputRow (st : Vec F S8x2x1024 .f32) (xc gc : Vec F S8x4x1024 .f32) : Fin 6 → FVec F S8x1024 .f32
  | 0 => flat (View.ld st (stateRow 0))
  | 1 => flat (View.ld st (stateRow 1))
  | 2 => mulf (flat (View.ld gc (posRow 0))) (flat (View.ld xc (posRow 0)))
  | 3 => mulf (flat (View.ld gc (posRow 1))) (flat (View.ld xc (posRow 1)))
  | 4 => mulf (flat (View.ld gc (posRow 2))) (flat (View.ld xc (posRow 2)))
  | 5 => mulf (flat (View.ld gc (posRow 3))) (flat (View.ld xc (posRow 3)))

/-- A tap's row, repeated for each sequence. -/
def tap (w : Vec F S3x1024 .f32) (k : Fin 3) : FVec F S8x1024 .f32 := broadcastTo S8x1024 (View.ld w (tapRow k)) broadcasts_S1x1024_S8x1024

/-- The gated sum of three inputs by the three taps, rounded and given back its unit axis. -/
def convRow (w : Vec F S3x1024 .f32) (a b d : FVec F S8x1024 .f32) (g : Vec F S8x1x1024 .f32) : FVec F S8x1x1024 .bf16 :=
  shapeCast S8x1x1024
    (truncf .bf16 (mulf (flat g) (addf (addf (mulf (tap w 0) a) (mulf (tap w 1) b)) (mulf (tap w 2) d))) bitsLt_bf16_f32)
    shapeCasts_S8x1024_S8x1x1024

/-- The first result's row of each position. -/
def outRow (w : Vec F S3x1024 .f32) (st : Vec F S8x2x1024 .f32) (xc gb gc : Vec F S8x4x1024 .f32) : Fin 4 → FVec F S8x1x1024 .bf16
  | 0 => convRow w (inputRow st xc gc 0) (inputRow st xc gc 1) (inputRow st xc gc 2) (View.ld gb (posRow 0))
  | 1 => convRow w (inputRow st xc gc 1) (inputRow st xc gc 2) (inputRow st xc gc 3) (View.ld gb (posRow 1))
  | 2 => convRow w (inputRow st xc gc 2) (inputRow st xc gc 3) (inputRow st xc gc 4) (View.ld gb (posRow 2))
  | 3 => convRow w (inputRow st xc gc 3) (inputRow st xc gc 4) (inputRow st xc gc 5) (View.ld gb (posRow 3))

/-- The second result's two rows: the last two inputs. -/
def newRow (st : Vec F S8x2x1024 .f32) (xc gc : Vec F S8x4x1024 .f32) : Fin 2 → FVec F S8x1x1024 .f32
  | 0 => shapeCast S8x1x1024 (inputRow st xc gc 4) shapeCasts_S8x1024_S8x1x1024
  | 1 => shapeCast S8x1x1024 (inputRow st xc gc 5) shapeCasts_S8x1024_S8x1x1024

/-- What the body leaves in the first result's block. -/
def outBlock (w : Vec F S3x1024 .f32) (st : Vec F S8x2x1024 .f32) (xc gb gc : Vec F S8x4x1024 .f32) : Vec F S8x4x1024 .bf16 :=
  fun y => outRow w st xc gb gc (y 1) (ix3 (y 0) (0 : Fin 1) (y 2))

/-- What it leaves in the second's. -/
def newBlock (st : Vec F S8x2x1024 .f32) (xc gc : Vec F S8x4x1024 .f32) : Vec F S8x2x1024 .f32 :=
  fun y => newRow st xc gc (y 1) (ix3 (y 0) (0 : Fin 1) (y 2))

/-! ## The stores -/

/-- A pair of rows with its first row replaced. -/
def putFirst {α : Type} (old : S8x2x1024.Idx → α) (a : S8x1x1024.Idx → α) : S8x2x1024.Idx → α :=
  updateSlice old a ![0, 0, 0] slices_S8x2x1024_S8x1x1024_0_0_0

/-- A pair of rows with its second row replaced. -/
def putSecond {α : Type} (old : S8x2x1024.Idx → α) (b : S8x1x1024.Idx → α) : S8x2x1024.Idx → α :=
  updateSlice old b ![0, 1, 0] slices_S8x2x1024_S8x1x1024_0_1_0

/-- The first row of a pair whose first row has been replaced. -/
theorem putFirst_zero {α : Type} (old : S8x2x1024.Idx → α) (a : S8x1x1024.Idx → α) (p : Fin 8) (q : Fin 1024) :
    putFirst old a (ix3 p (0 : Fin 2) q) = a (ix3 p (0 : Fin 1) q) := by
  unfold putFirst
  pointwise

/-- Replacing the second row leaves the first. -/
theorem putSecond_zero {α : Type} (old : S8x2x1024.Idx → α) (b : S8x1x1024.Idx → α) (p : Fin 8) (q : Fin 1024) :
    putSecond old b (ix3 p (0 : Fin 2) q) = old (ix3 p (0 : Fin 2) q) := by
  unfold putSecond
  pointwise

/-- The second row of a pair whose second row has been replaced. -/
theorem putSecond_one {α : Type} (old : S8x2x1024.Idx → α) (b : S8x1x1024.Idx → α) (p : Fin 8) (q : Fin 1024) :
    putSecond old b (ix3 p (1 : Fin 2) q) = b (ix3 p (0 : Fin 1) q) := by
  unfold putSecond
  pointwise

/-- A pair both of whose rows have been replaced, the second last, holds the two rows. -/
theorem put_both {α : Type} (old : S8x2x1024.Idx → α) (P : Fin 2 → S8x1x1024.Idx → α) (x : S8x2x1024.Idx) :
    putSecond (putFirst old (P 0)) (P 1) x = P (x 1) (ix3 (x 0) (0 : Fin 1) (x 2)) := by
  obtain ⟨p, k, q, rfl⟩ : ∃ (p : Fin 8) (k : Fin 2) (q : Fin 1024), x = ix3 p k q := ⟨x 0, x 1, x 2, eq_ix3 x⟩
  show _ = P k (ix3 p 0 q)
  match k with
  | 0 => exact (putSecond_zero _ _ p q).trans (putFirst_zero _ _ p q)
  | 1 => exact putSecond_one _ _ p q

/-- The pairs' indices in the block: row `j` of pair `k` is position `2k + j`. -/
theorem pairRows_emb (k : Fin 2) (p : Fin 8) (j : Fin 2) (q : Fin 1024) (n : Fin 4) (hn : 2 * k.val + j.val = n.val) :
    (pairRows k).emb (ix3 p j q) = ix3 p n q := by
  refine Cert.Common.idx_ext3 ?_ ?_ ?_
  · show 0 + 1 * p.val = p.val
    omega
  · show 2 * k.val + 1 * j.val = n.val
    omega
  · show 0 + 1 * q.val = q.val
    omega

/-- A position is in a pair exactly if it is one of its two. -/
theorem mem_pairRows (k : Fin 2) (p : Fin 8) (n : Fin 4) (q : Fin 1024) :
    (ix3 p n q : S8x4x1024.Idx) ∈ (pairRows k).set ↔ 2 * k.val ≤ n.val ∧ n.val < 2 * k.val + 2 := by
  refine Rect.mem_set_unit.trans ⟨fun h => h 1, fun h a => ?_⟩
  match a with
  | 0 => exact ⟨Nat.zero_le _, (Nat.zero_add 8).symm ▸ p.isLt⟩
  | 1 => exact h
  | 2 => exact ⟨Nat.zero_le _, (Nat.zero_add 1024).symm ▸ q.isLt⟩

/-- An element outside the last store's rectangle reads the earlier stores. -/
theorem read_cons_off {κ : Kind} {sp : Space} {s : Shape} {e : EltTy} (v : View sig κ sp s e) (f : v.ty.Contents (Elt F)) (r : Rect s)
    (w : r.shape.Idx → Elt F e) (L : List (View.Piece (Elt F) s e)) (y : s.Idx) (h : y ∉ r.set) :
    v.read (Elt F) (v.writes (Elt F) f (⟨r, w⟩ :: L)) y = v.read (Elt F) (v.writes (Elt F) f L) y := by
  rw [View.writes_cons]
  exact View.read_slice_write_of_not_mem r _ _ _ (by rwa [Rect.map_emb_univ])

/-- The stores of positions 0 and 1, last first. -/
def lowStores {κ : Kind} {sp : Space} (v : View sig κ sp S8x4x1024 .bf16) (old : S8x2x1024.Idx → Elt F .bf16)
    (P : Fin 4 → S8x1x1024.Idx → Elt F .bf16) : List (View.Piece (Elt F) S8x4x1024 .bf16) :=
  [⟨pairRows 0, putSecond (v.readCov (Val := Elt F) [⟨pairRows 0, putFirst old (P 0)⟩] (pairRows 0).toLoadRect) (P 1)⟩,
    ⟨pairRows 0, putFirst old (P 0)⟩]

/-- Four stores of rows, each into the pair that holds it, leave the four rows. -/
theorem read_rows {κ : Kind} {sp : Space} (v : View sig κ sp S8x4x1024 .bf16) (f : v.ty.Contents (Elt F)) (old0 old1 : S8x2x1024.Idx → Elt F .bf16)
    (P : Fin 4 → S8x1x1024.Idx → Elt F .bf16) :
    v.read (Elt F) (v.writes (Elt F) f
        (⟨pairRows 1, putSecond (v.readCov (Val := Elt F) (⟨pairRows 1, putFirst old1 (P 2)⟩ :: lowStores v old0 P) (pairRows 1).toLoadRect) (P 3)⟩
          :: ⟨pairRows 1, putFirst old1 (P 2)⟩ :: lowStores v old0 P))
      = fun y => P (y 1) (ix3 (y 0) (0 : Fin 1) (y 2)) := by
  unfold lowStores
  rw [View.readCov_cons_toLoadRect, View.readCov_cons_toLoadRect]
  funext y
  obtain ⟨p, n, q, rfl⟩ : ∃ (p : Fin 8) (n : Fin 4) (q : Fin 1024), y = ix3 p n q := ⟨y 0, y 1, y 2, eq_ix3 y⟩
  show _ = P n (ix3 p 0 q)
  by_cases h : n.val < 2
  · have off : (ix3 p n q : S8x4x1024.Idx) ∉ (pairRows 1).set := fun h' => absurd ((mem_pairRows 1 p n q).mp h').1 (by show ¬ 2 ≤ n.val; omega)
    rw [read_cons_off v f _ _ _ _ off, read_cons_off v f _ _ _ _ off, ← pairRows_emb 0 p ⟨n.val, h⟩ q n (by show 0 + n.val = n.val; omega),
      View.read_writes_cons_emb]
    refine (put_both old0 (fun k => P ⟨k.val, by omega⟩) _).trans rfl
  · have hn := n.isLt
    rw [← pairRows_emb 1 p ⟨n.val - 2, by omega⟩ q n (by show 2 + (n.val - 2) = n.val; omega), View.read_writes_cons_emb]
    refine (put_both old1 (fun k => P ⟨2 + k.val, by omega⟩) _).trans ?_
    exact congrArg (fun k => P k (ix3 p 0 q)) (Fin.ext (by show 2 + (n.val - 2) = n.val; omega))

/-- Two stores of the rows of state leave the two rows. -/
theorem read_new {κ : Kind} {sp : Space} (v : View sig κ sp S8x2x1024 .f32) (f : v.ty.Contents (Elt F)) (P : Fin 2 → S8x1x1024.Idx → Elt F .f32) :
    v.read (Elt F) (v.writes (Elt F) f [⟨stateRow 1, P 1⟩, ⟨stateRow 0, P 0⟩]) = fun y => P (y 1) (ix3 (y 0) (0 : Fin 1) (y 2)) := by
  funext y
  obtain ⟨p, n, q, rfl⟩ : ∃ (p : Fin 8) (n : Fin 2) (q : Fin 1024), y = ix3 p n q := ⟨y 0, y 1, y 2, eq_ix3 y⟩
  show _ = P n (ix3 p 0 q)
  have emb (k : Fin 2) : (stateRow k).emb (ix3 p (0 : Fin 1) q) = ix3 p k q := by
    refine Cert.Common.idx_ext3 ?_ ?_ ?_
    · show 0 + 1 * p.val = p.val
      omega
    · show k.val + 1 * 0 = k.val
      omega
    · show 0 + 1 * q.val = q.val
      omega
  match n with
  | 1 => rw [← emb 1, View.read_writes_cons_emb]
  | 0 =>
    have off : (ix3 p (0 : Fin 2) q : S8x2x1024.Idx) ∉ (stateRow 1).set := fun h => absurd (Rect.mem_set_unit.mp h 1).1 (by show ¬ 1 ≤ 0; omega)
    rw [read_cons_off v f _ _ _ _ off, ← emb 0, View.read_writes_cons_emb]

/-! ## The body -/

set_option maxHeartbeats 1000000 in
/-- The body on the five input blocks and any contents of the two result blocks leaves the inputs as they were, the first result's block at
    `outBlock` of them and the second's at `newBlock`. -/
theorem sound_kernel (c : Dev nD) (E : Set ℕ) (i : grid0.Coords)
    (arg1 : Memref sig .tc .vmem S3x1024 .f32) (harg1 : arg1.IsWhole) (arg2 : Memref sig .tc .vmem S8x2x1024 .f32) (harg2 : arg2.IsWhole)
    (arg3 : Memref sig .tc .vmem S8x4x1024 .f32) (harg3 : arg3.IsWhole) (arg4 : Memref sig .tc .vmem S8x4x1024 .f32) (harg4 : arg4.IsWhole)
    (arg5 : Memref sig .tc .vmem S8x4x1024 .f32) (harg5 : arg5.IsWhole) (arg6 : Memref sig .tc .vmem S8x4x1024 .bf16) (harg6 : arg6.IsWhole)
    (arg7 : Memref sig .tc .vmem S8x2x1024 .f32) (harg7 : arg7.IsWhole)
    (w : Vec F S3x1024 .f32) (st : Vec F S8x2x1024 .f32) (xc gb gc : Vec F S8x4x1024 .f32) (K : PUnit → sProp (Model F)) :
    iprop(owns (c : Thread nD τ) arg1 fullShare w ∗ owns (c : Thread nD τ) arg2 fullShare st
        ∗ owns (c : Thread nD τ) arg3 fullShare xc ∗ owns (c : Thread nD τ) arg4 fullShare gb ∗ owns (c : Thread nD τ) arg5 fullShare gc
        ∗ (∃ d, owns (c : Thread nD τ) arg6 fullShare d) ∗ (∃ d, owns (c : Thread nD τ) arg7 fullShare d)
        ∗ (iprop(owns (c : Thread nD τ) arg1 fullShare w ∗ owns (c : Thread nD τ) arg2 fullShare st
            ∗ owns (c : Thread nD τ) arg3 fullShare xc ∗ owns (c : Thread nD τ) arg4 fullShare gb ∗ owns (c : Thread nD τ) arg5 fullShare gc
            ∗ owns (c : Thread nD τ) arg6 fullShare (outBlock w st xc gb gc)
            ∗ owns (c : Thread nD τ) arg7 fullShare (newBlock st xc gc)) -∗ K ⟨⟩))
      ⊢ wp frame (wpE (defs₀ (F := F)) Variants.none c none) E
          (cc0_conv_sample i arg1 harg1 arg2 harg2 arg3 harg3 arg4 harg4 arg5 harg5 arg6 harg6 arg7 harg7) K := by
  unfold owns cc0_conv_sample
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, Hk⟩
  subst h1 h2 h3 h4 h5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact read_rows arg6.view f6 _ _ (outRow (arg1.view.read (Elt F) f1) (arg2.view.read (Elt F) f2) (arg3.view.read (Elt F) f3)
      (arg4.view.read (Elt F) f4) (arg5.view.read (Elt F) f5))
  iexists _; isplitr
  swap; · iexact H7
  ipureintro
  exact read_new arg7.view f7 (newRow (arg2.view.read (Elt F) f2) (arg3.view.read (Elt F) f3) (arg5.view.read (Elt F) f5))

end Cert.ConvSampleBody

end
-- ==== Proof.ConvSampleFrame.lean ====
/-
  The convolution of the sample batch run to its end: from any memory it stops without fault, its arguments as launched, its two results at
  the blocks the body leaves, and no semaphore raised. The bits program and the idealized one are the same text, so one run serves both.
-/
module

public import proofs.«01_k».proof.Defs
public import proofs.«01_k».proof.Proof.ConvSampleBody
public import proofs.«01_k».proof.Proof.Gen.ConvSample
public import Idealize.ShloMosaic.Lib.Claim

@[expose] public section

set_option maxRecDepth 16384

noncomputable section

namespace Cert.ConvSampleFrame

open Cert.ConvSampleIdeal Cert.ConvSampleIdeal.Gen Cert.ConvSampleBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (m : (ℓ : Loc nD τ sig) → Buf (Elt F) ℓ) (ρ : Dev nD → PrngReg)

/-- The first result's block after point `t`. -/
def outAt (c : Dev nD) (t : Fin cfg0.N) : Vec F S8x4x1024 .bf16 :=
  outBlock (iblk m c 0 t) (iblk m c 1 t) (iblk m c 2 t) (iblk m c 3 t) (iblk m c 4 t)

/-- The second result's. -/
def newAt (c : Dev nD) (t : Fin cfg0.N) : Vec F S8x2x1024 .f32 :=
  newBlock (iblk m c 1 t) (iblk m c 2 t) (iblk m c 4 t)

/-- The data of the run: the arrays as launched; after the body each input's block as it was and each result's at the body's value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => newAt m c t
  Φ _ := Pipeline.ΦA spec0 c
  q w := Pipeline.shareOf spec0 w
  owed _ := 0

/-- The arrays are the launched ones. -/
theorem A_eq (c : Dev nD) (w : Fin cfg0.W) : (dats m 0 c).A w = V m c (Pipeline.arrRef spec0 w) := by dsimp only [dats]

/-- The blocks after the body, window by window. -/
theorem after_eq (c : Dev nD) (t : Fin cfg0.N) : (dats m 0 c).after 0 t = iblk m c 0 t ∧ (dats m 0 c).after 1 t = iblk m c 1 t
    ∧ (dats m 0 c).after 2 t = iblk m c 2 t ∧ (dats m 0 c).after 3 t = iblk m c 3 t ∧ (dats m 0 c).after 4 t = iblk m c 4 t
    ∧ (dats m 0 c).after 5 t = outAt m c t ∧ (dats m 0 c).after 6 t = newAt m c t := by
  refine ⟨?_, ?_, ?_, ?_, ?_, ?_, ?_⟩ <;> dsimp only [dats]

/-- Before the body each input's buffer holds its block. -/
theorem before_eq (c : Dev nD) (t : Fin cfg0.N) : (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t)
    ∧ (∀ d, (dats m 0 c).before 4 t d = iblk m c 4 t) :=
  ⟨before0_0_of m (dats m 0 c) (A_eq m c 0) (fun t => (after_eq m c t).1) t,
    before0_1_of m (dats m 0 c) (A_eq m c 1) (fun t => (after_eq m c t).2.1) t,
    before0_2_of m (dats m 0 c) (A_eq m c 2) (fun t => (after_eq m c t).2.2.1) t,
    before0_3_of m (dats m 0 c) (A_eq m c 3) (fun t => (after_eq m c t).2.2.2.1) t,
    before0_4_of m (dats m 0 c) (A_eq m c 4) (fun t => (after_eq m c t).2.2.2.2.1) t⟩

/-- What the body is called with at point `t`. -/
def bodyPre (c : Dev nD) (t : Fin cfg0.N) : sProp (Model F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp (Model F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  obtain ⟨b0, b1, b2, b3, b4⟩ := before_eq m c t
  obtain ⟨a0, a1, a2, a3, a4, a5, a6⟩ := after_eq m c t
  unfold bodyPre bodyPost bodyAt0
  simp only [b0, b1, b2, b3, b4]
  rw [show (dats m 0 c).Φ t.succ = (dats m 0 c).Φ t.castSucc from rfl,
    show (dats m 0 c).owesAt () t.succ = (dats m 0 c).owesAt () t.castSucc from rfl, a0, a1, a2, a3, a4, a5, a6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at the point's buffers is the body. -/
theorem defs₀_row (t : Fin cfg0.N) : defs₀ (F := F) .tc cfg0.body (cfg0.bodyArgs t (cfg0.slots t)) = bodyAt0 t := by
  unfold defs₀
  rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array at its data's end, and no semaphore raised. -/
theorem run : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Its arguments end as launched, and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

/-- Its results end at what the data say, its arguments as launched. -/
theorem run_results : θ_run defs (onTc (τ := τ) (main (F := F))) ⟨m, fun _ => 0, ρ⟩ (fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.2 c).1 5, (h.2 c).1 6, h.1.1 c⟩)
    (θ_run_and (frame m ρ) ((θ_run defs _ _).mono (fun _ h => h.1) (run m ρ)))

/-- The idealized program runs, leaves its arguments as launched, and no semaphore raised. -/
theorem frame_ideal : Cert.quiescent_ConvSampleIdeal := fun m ρ _ => frame (F := Ideal) m ρ

/-- The two programs' kernels are one. -/
theorem body_same : @Cert.ConvSample.cc0_conv_sample F _ _ = @cc0_conv_sample F _ _ := rfl

/-- So are their body tables. -/
theorem table_same : @Cert.ConvSample.defs₀ F _ _ = @defs₀ F _ _ := by
  refine congrArg Defs.onTc (funext fun l => ?_)
  match l with
  | 0 => rfl

/-- And the tables with the launch's own labels. -/
theorem defs_same : @Cert.ConvSample.defs F _ _ = @defs F _ _ := congrArg (Pipeline.defs pcfgs) table_same

/-- The bits program, which is the same text, likewise. -/
theorem frame_bits : Cert.quiescent_ConvSample := fun m ρ _ =>
  Eq.subst (motive := fun d => θ_run d (onTc (τ := τ) (main (F := Bits))) ⟨m, fun _ => 0, ρ⟩ _) (defs_same (F := Bits)).symm (frame (F := Bits) m ρ)

end Cert.ConvSampleFrame

end
-- ==== Proof.ConvSampleValue.lean ====
/-
  The convolution of the sample batch: what the kernel leaves is each position's gated sum of its own input and the two before it, the two
  rows of state standing before the first, together with the last two inputs, and so does the reference.
-/
module

public import proofs.«01_k».proof.Proof.ConvSampleFrame
public import proofs.«01_k».proof.Proof.Gen.ConvSampleRefIdeal.Run
public import proofs.«01_k».proof.Proof.Gen.ConvSampleRefIdeal.Read

@[expose] public section

set_option maxRecDepth 16384

noncomputable section

open Idealize.ShloMosaic Idealize.ShloMosaic.TcCoe Idealize.SL.Sem
open Idealize.ShloMosaic.Pipeline (Dat)

namespace Cert.ConvSampleValue

open Cert.ConvSampleIdeal Cert.ConvSampleIdeal.Gen Cert.Common Cert.ConvSampleBody Cert.ConvSampleFrame

/-- The convolution's input of sequence `b` at place `n`, channel `q`: the two rows of state, then each position's product of the two column
    groups of `u`. -/
def past (u : S8x4x10240.Idx → EReal) (s : S8x2x1024.Idx → EReal) (b : Fin 8) (n : ℕ) (q : Fin 1024) : EReal :=
  if h : n < 2 then s (ix3 b ⟨n, h⟩ q)
  else if h' : n - 2 < 4 then
    u (ix3 b ⟨n - 2, h'⟩ ⟨9216 + q.val, by have := q.isLt; omega⟩) * u (ix3 b ⟨n - 2, h'⟩ ⟨7168 + q.val, by have := q.isLt; omega⟩)
  else 0

/-- The convolution of sequence `b` at position `t`, channel `q`, gated by the third column group. -/
def convAt (u : S8x4x10240.Idx → EReal) (s : S8x2x1024.Idx → EReal) (w : S3x1024.Idx → EReal) (b : Fin 8) (t : Fin 4) (q : Fin 1024) : EReal :=
  u (ix3 b t ⟨8192 + q.val, by have := q.isLt; omega⟩)
    * (w (ix2 0 q) * past u s b t.val q + w (ix2 1 q) * past u s b (t.val + 1) q + w (ix2 2 q) * past u s b (t.val + 2) q)

/-- A loaded row, its unit axis dropped, at an element. -/
theorem flat_apply (v : Vec Ideal S8x1x1024 .f32) (b : Fin 8) (q : Fin 1024) : (flat (F := Ideal) v (ix2 b q) : EReal) = v (ix3 b 0 q) := by
  unfold flat
  pointwise

/-- A row of the four positions, loaded. -/
theorem ld_pos (x : S8x4x1024.Idx → EReal) (k : Fin 4) (b : Fin 8) (q : Fin 1024) :
    View.ld (Val := Elt Ideal) (e' := .f32) x (posRow k) (ix3 b (0 : Fin 1) q) = x (ix3 b k q) := by
  refine congrArg x (idx_ext3 ?_ ?_ ?_)
  · show 0 + 1 * b.val = b.val
    omega
  · show k.val + 1 * 0 = k.val
    omega
  · show 0 + 1 * q.val = q.val
    omega

/-- A row of the state, loaded. -/
theorem ld_state (x : S8x2x1024.Idx → EReal) (k : Fin 2) (b : Fin 8) (q : Fin 1024) :
    View.ld (Val := Elt Ideal) (e' := .f32) x (stateRow k) (ix3 b (0 : Fin 1) q) = x (ix3 b k q) := by
  refine congrArg x (idx_ext3 ?_ ?_ ?_)
  · show 0 + 1 * b.val = b.val
    omega
  · show k.val + 1 * 0 = k.val
    omega
  · show 0 + 1 * q.val = q.val
    omega

/-- A tap, at an element: the same for every sequence. -/
theorem tap_apply (w : S3x1024.Idx → EReal) (k : Fin 3) (b : Fin 8) (q : Fin 1024) : (tap (F := Ideal) w k (ix2 b q) : EReal) = w (ix2 k q) := by
  have e : (tap (F := Ideal) w k (ix2 b q) : EReal) = View.ld (Val := Elt Ideal) (e' := .f32) w (tapRow k) (ix2 (0 : Fin 1) q) := by
    unfold tap
    pointwise
  refine e.trans (congrArg w (Shape.idx_ext₂ ?_ ?_))
  · show k.val + 1 * 0 = k.val
    omega
  · show 0 + 1 * q.val = q.val
    omega

/-- The gated sum of three inputs, at an element. -/
theorem convRow_apply (w : S3x1024.Idx → EReal) (x y z : FVec Ideal S8x1024 .f32) (g : Vec Ideal S8x1x1024 .f32) (b : Fin 8) (q : Fin 1024) :
    (convRow (F := Ideal) w x y z g (ix3 b (0 : Fin 1) q) : EReal)
      = g (ix3 b 0 q) * (w (ix2 0 q) * x (ix2 b q) + w (ix2 1 q) * y (ix2 b q) + w (ix2 2 q) * z (ix2 b q)) := by
  have e : (convRow (F := Ideal) w x y z g (ix3 b (0 : Fin 1) q) : EReal)
      = flat (F := Ideal) g (ix2 b q) * (tap (F := Ideal) w 0 (ix2 b q) * x (ix2 b q) + tap (F := Ideal) w 1 (ix2 b q) * y (ix2 b q)
        + tap (F := Ideal) w 2 (ix2 b q) * z (ix2 b q)) := by
    unfold convRow
    pointwise
  rw [e, flat_apply, tap_apply, tap_apply, tap_apply]

variable (m : (ℓ : Loc nD τ sig) → Buf (Elt Ideal) ℓ) (ρ : Dev nD → PrngReg)

/-- The columns the convolution reads, as launched. -/
abbrev U (c : Dev nD) : S8x4x10240.Idx → EReal := m ((c : Thread nD τ).loc main_arg0)

/-- The state, as launched. -/
abbrev S (c : Dev nD) : S8x2x1024.Idx → EReal := m ((c : Thread nD τ).loc main_arg1)

/-- The taps, as launched. -/
abbrev W (c : Dev nD) : S3x1024.Idx → EReal := m ((c : Thread nD τ).loc main_arg2)

/-- The first result. -/
abbrev G (c : Dev nD) : S8x4x1024.Idx → EReal := fun i => convAt (U m c) (S m c) (W m c) (i 0) (i 1) (i 2)

/-- The second: the inputs of the last two positions. -/
abbrev H (c : Dev nD) : S8x2x1024.Idx → EReal := fun i => past (U m c) (S m c) (i 0) (4 + (i 1).val) (i 2)

/-- Where each window is at the one point: the three column groups of `u` are blocks 7, 8 and 9, every other window is its whole array. -/
theorem idx_facts : ∀ t : Fin grid0.N, (win0_0.index t 0 = 0 ∧ win0_0.index t 1 = 0)
    ∧ (win0_1.index t 0 = 0 ∧ win0_1.index t 1 = 0 ∧ win0_1.index t 2 = 0)
    ∧ (win0_2.index t 0 = 0 ∧ win0_2.index t 1 = 0 ∧ win0_2.index t 2 = 7)
    ∧ (win0_3.index t 0 = 0 ∧ win0_3.index t 1 = 0 ∧ win0_3.index t 2 = 8)
    ∧ (win0_4.index t 0 = 0 ∧ win0_4.index t 1 = 0 ∧ win0_4.index t 2 = 9)
    ∧ (win0_5.index t 0 = 0 ∧ win0_5.index t 1 = 0 ∧ win0_5.index t 2 = 0)
    ∧ (win0_6.index t 0 = 0 ∧ win0_6.index t 1 = 0 ∧ win0_6.index t 2 = 0) := by decide +kernel

/-- Block 0 of `n` places is at the place itself. -/
theorem at_zero (n k : ℕ) : 0 * n + k = k := by omega

/-- The taps' block. -/
theorem blk_w (c : Dev nD) (t : Fin cfg0.N) : (iblk m c 0 t : S3x1024.Idx → EReal) = W m c := by
  have h := idx_facts t
  funext y
  obtain ⟨k, q, rfl⟩ : ∃ (k : Fin 3) (q : Fin 1024), y = ix2 k q := ⟨y 0, y 1, eq_ix2 y⟩
  exact congrArg (W m c) (emb_at k q (win0_0.rect_emb_val t _ 0) (win0_0.rect_emb_val t _ 1) h.1.1 h.1.2 k q (at_zero _ _) (at_zero _ _))

/-- The state's. -/
theorem blk_s (c : Dev nD) (t : Fin cfg0.N) : (iblk m c 1 t : S8x2x1024.Idx → EReal) = S m c := by
  have h := idx_facts t
  funext y
  obtain ⟨b, k, q, rfl⟩ : ∃ (b : Fin 8) (k : Fin 2) (q : Fin 1024), y = ix3 b k q := ⟨y 0, y 1, y 2, eq_ix3 y⟩
  exact congrArg (S m c) (emb_at3 b k q (win0_1.rect_emb_val t _ 0) (win0_1.rect_emb_val t _ 1) (win0_1.rect_emb_val t _ 2)
    h.2.1.1 h.2.1.2.1 h.2.1.2.2 b k q (at_zero _ _) (at_zero _ _) (at_zero _ _))

/-- The first column group. -/
theorem blk_x (c : Dev nD) (t : Fin cfg0.N) (b : Fin 8) (k : Fin 4) (q : Fin 1024) : (iblk m c 2 t : S8x4x1024.Idx → EReal) (ix3 b k q)
    = U m c (ix3 b k ⟨7168 + q.val, by have := q.isLt; omega⟩) := by
  have h := idx_facts t
  exact congrArg (U m c) (emb_at3 b k q (win0_2.rect_emb_val t _ 0) (win0_2.rect_emb_val t _ 1) (win0_2.rect_emb_val t _ 2)
    h.2.2.1.1 h.2.2.1.2.1 h.2.2.1.2.2 b k ⟨7168 + q.val, by have := q.isLt; omega⟩ (at_zero _ _) (at_zero _ _) rfl)

/-- The gate. -/
theorem blk_g (c : Dev nD) (t : Fin cfg0.N) (b : Fin 8) (k : Fin 4) (q : Fin 1024) : (iblk m c 3 t : S8x4x1024.Idx → EReal) (ix3 b k q)
    = U m c (ix3 b k ⟨8192 + q.val, by have := q.isLt; omega⟩) := by
  have h := idx_facts t
  exact congrArg (U m c) (emb_at3 b k q (win0_3.rect_emb_val t _ 0) (win0_3.rect_emb_val t _ 1) (win0_3.rect_emb_val t _ 2)
    h.2.2.2.1.1 h.2.2.2.1.2.1 h.2.2.2.1.2.2 b k ⟨8192 + q.val, by have := q.isLt; omega⟩ (at_zero _ _) (at_zero _ _) rfl)

/-- The second column group. -/
theorem blk_y (c : Dev nD) (t : Fin cfg0.N) (b : Fin 8) (k : Fin 4) (q : Fin 1024) : (iblk m c 4 t : S8x4x1024.Idx → EReal) (ix3 b k q)
    = U m c (ix3 b k ⟨9216 + q.val, by have := q.isLt; omega⟩) := by
  have h := idx_facts t
  exact congrArg (U m c) (emb_at3 b k q (win0_4.rect_emb_val t _ 0) (win0_4.rect_emb_val t _ 1) (win0_4.rect_emb_val t _ 2)
    h.2.2.2.2.1.1 h.2.2.2.2.1.2.1 h.2.2.2.2.1.2.2 b k ⟨9216 + q.val, by have := q.isLt; omega⟩ (at_zero _ _) (at_zero _ _) rfl)

/-- The product of the two column groups at a position is the input two places on. -/
theorem prod_past (c : Dev nD) (t : Fin cfg0.N) (k : Fin 4) (b : Fin 8) (q : Fin 1024) :
    (mulf (flat (F := Ideal) (View.ld (iblk m c 4 t) (posRow k))) (flat (F := Ideal) (View.ld (iblk m c 2 t) (posRow k))) (ix2 b q) : EReal)
      = past (U m c) (S m c) b (k.val + 2) q := by
  have hk := k.isLt
  unfold past
  rw [dif_neg (by omega), dif_pos (by omega)]
  refine Eq.trans ?_ (congrArg₂ (· * ·) (blk_y m c t b k q) (blk_x m c t b k q))
  exact congrArg₂ (· * ·) ((flat_apply _ b q).trans (ld_pos _ k b q)) ((flat_apply _ b q).trans (ld_pos _ k b q))

/-- The body's six inputs are the convolution's. -/
theorem input_past (c : Dev nD) (t : Fin cfg0.N) (n : Fin 6) (b : Fin 8) (q : Fin 1024) :
    (inputRow (F := Ideal) (iblk m c 1 t) (iblk m c 2 t) (iblk m c 4 t) n (ix2 b q) : EReal) = past (U m c) (S m c) b n.val q := by
  have state (k : Fin 2) : (flat (F := Ideal) (View.ld (iblk m c 1 t) (stateRow k)) (ix2 b q) : EReal) = past (U m c) (S m c) b k.val q := by
    unfold past
    rw [dif_pos k.isLt]
    exact (flat_apply _ b q).trans ((ld_state _ k b q).trans (congrFun (blk_s m c t) _))
  match n with
  | 0 => exact state 0
  | 1 => exact state 1
  | 2 => exact prod_past m c t 0 b q
  | 3 => exact prod_past m c t 1 b q
  | 4 => exact prod_past m c t 2 b q
  | 5 => exact prod_past m c t 3 b q

/-- The body's row of each position is the convolution there. -/
theorem out_conv (c : Dev nD) (t : Fin cfg0.N) (k : Fin 4) (b : Fin 8) (q : Fin 1024) :
    (outRow (F := Ideal) (iblk m c 0 t) (iblk m c 1 t) (iblk m c 2 t) (iblk m c 3 t) (iblk m c 4 t) k (ix3 b (0 : Fin 1) q) : EReal)
      = convAt (U m c) (S m c) (W m c) b k q := by
  have row (x y z : Fin 6) (hx : x.val = k.val) (hy : y.val = k.val + 1) (hz : z.val = k.val + 2) :
      (convRow (F := Ideal) (iblk m c 0 t) (inputRow (iblk m c 1 t) (iblk m c 2 t) (iblk m c 4 t) x) (inputRow (iblk m c 1 t) (iblk m c 2 t) (iblk m c 4 t) y)
        (inputRow (iblk m c 1 t) (iblk m c 2 t) (iblk m c 4 t) z) (View.ld (iblk m c 3 t) (posRow k)) (ix3 b (0 : Fin 1) q) : EReal)
        = convAt (U m c) (S m c) (W m c) b k q := by
    refine (convRow_apply _ _ _ _ _ b q).trans ?_
    rw [input_past, input_past, input_past, hx, hy, hz, blk_w]
    exact congrArg (· * _) ((ld_pos _ k b q).trans (blk_g m c t b k q))
  match k, row with
  | 0, row => exact row 0 1 2 rfl rfl rfl
  | 1, row => exact row 1 2 3 rfl rfl rfl
  | 2, row => exact row 2 3 4 rfl rfl rfl
  | 3, row => exact row 3 4 5 rfl rfl rfl

/-- The body's two rows of new state are the last two inputs. -/
theorem new_past (c : Dev nD) (t : Fin cfg0.N) (k : Fin 2) (b : Fin 8) (q : Fin 1024) :
    (newRow (F := Ideal) (iblk m c 1 t) (iblk m c 2 t) (iblk m c 4 t) k (ix3 b (0 : Fin 1) q) : EReal) = past (U m c) (S m c) b (4 + k.val) q := by
  have row (v : FVec Ideal S8x1024 .f32) (h : S8x1024.ShapeCasts S8x1x1024) :
      (shapeCast S8x1x1024 v h (ix3 b (0 : Fin 1) q) : EReal) = v (ix2 b q) := by pointwise
  match k with
  | 0 => exact (row _ _).trans (input_past m c t 4 b q)
  | 1 => exact (row _ _).trans (input_past m c t 5 b q)

/-- What the point writes back to the first result is the convolution. -/
theorem flushed_eq5 (c : Dev nD) (t : Fin cfg0.N) : (dats m 0 c).flushed 5 t = (win0_5.blk t).view.read (Elt Ideal) (G m c) := by
  show (cfg0.win 5).cut (grid0.coords t) ((dats m 0 c).after 5 t) = _
  obtain ⟨_, _, _, _, _, a5, _⟩ := after_eq m c t
  rw [a5]
  obtain ⟨_, _, _, _, _, ⟨h0, h1, h2⟩, _⟩ := idx_facts t
  funext y
  obtain ⟨b, k, q, rfl⟩ : ∃ (b : Fin 8) (k : Fin 4) (q : Fin 1024), y = ix3 b k q := ⟨y 0, y 1, y 2, eq_ix3 y⟩
  refine Eq.trans ?_ (congrArg (G m c) (emb_at3 (e := (win0_5.rect t).emb) b k q (win0_5.rect_emb_val t _ 0) (win0_5.rect_emb_val t _ 1)
    (win0_5.rect_emb_val t _ 2) h0 h1 h2 b k q (at_zero _ _) (at_zero _ _) (at_zero _ _)).symm)
  exact out_conv m c t k b q

/-- What it writes back to the second is the last two inputs. -/
theorem flushed_eq6 (c : Dev nD) (t : Fin cfg0.N) : (dats m 0 c).flushed 6 t = (win0_6.blk t).view.read (Elt Ideal) (H m c) := by
  show (cfg0.win 6).cut (grid0.coords t) ((dats m 0 c).after 6 t) = _
  obtain ⟨_, _, _, _, _, _, a6⟩ := after_eq m c t
  rw [a6]
  obtain ⟨_, _, _, _, _, _, ⟨h0, h1, h2⟩⟩ := idx_facts t
  funext y
  obtain ⟨b, k, q, rfl⟩ : ∃ (b : Fin 8) (k : Fin 2) (q : Fin 1024), y = ix3 b k q := ⟨y 0, y 1, y 2, eq_ix3 y⟩
  refine Eq.trans ?_ (congrArg (H m c) (emb_at3 (e := (win0_6.rect t).emb) b k q (win0_6.rect_emb_val t _ 0) (win0_6.rect_emb_val t _ 1)
    (win0_6.rect_emb_val t _ 2) h0 h1 h2 b k q (at_zero _ _) (at_zero _ _) (at_zero _ _)).symm)
  exact new_past m c t k b q

/-- Every element of the first result is in the point's block. -/
theorem cover5 (i : S8x4x1024.Idx) : ∃ t : Fin cfg0.N, (cfg0.win 5).flush t = true ∧ i ∈ ((cfg0.win 5).blk t).view.set := by
  obtain ⟨_, _, _, _, _, ⟨h0, h1, h2⟩, _⟩ := idx_facts t0_0
  exact ⟨t0_0, flush0_5 _, Finset.mem_map.mpr ⟨ix3 (i 0) (i 1) (i 2), Finset.mem_univ _, (emb_at3 (e := (win0_5.rect t0_0).emb) (i 0) (i 1) (i 2)
    (win0_5.rect_emb_val _ _ 0) (win0_5.rect_emb_val _ _ 1) (win0_5.rect_emb_val _ _ 2) h0 h1 h2 (i 0) (i 1) (i 2)
    (at_zero _ _) (at_zero _ _) (at_zero _ _)).trans (eq_ix3 i).symm⟩⟩

/-- Every element of the second likewise. -/
theorem cover6 (i : S8x2x1024.Idx) : ∃ t : Fin cfg0.N, (cfg0.win 6).flush t = true ∧ i ∈ ((cfg0.win 6).blk t).view.set := by
  obtain ⟨_, _, _, _, _, _, ⟨h0, h1, h2⟩⟩ := idx_facts t0_0
  exact ⟨t0_0, flush0_6 _, Finset.mem_map.mpr ⟨ix3 (i 0) (i 1) (i 2), Finset.mem_univ _, (emb_at3 (e := (win0_6.rect t0_0).emb) (i 0) (i 1) (i 2)
    (win0_6.rect_emb_val _ _ 0) (win0_6.rect_emb_val _ _ 1) (win0_6.rect_emb_val _ _ 2) h0 h1 h2 (i 0) (i 1) (i 2)
    (at_zero _ _) (at_zero _ _) (at_zero _ _)).trans (eq_ix3 i).symm⟩⟩

open ConvSampleRefIdeal.Read in
/-- The reference's joined inputs. -/
theorem ref_past (u : S8x4x10240.Idx → EReal) (s : S8x2x1024.Idx → EReal) (b : Fin 8) (n : Fin 6) (q : Fin 1024) :
    (val_main_v4 (F := Ideal) u s (ix3 b n q) : EReal) = past u s b n.val q := by
  have hn := n.isLt
  pointwise [val_main_v4, val_main_v3, val_main_v2, val_main_v0]
  unfold past
  by_cases h : n.val < 2
  · rw [dif_pos h, dif_pos h]
  · rw [dif_neg h, dif_neg h, dif_pos (by omega)]

open ConvSampleRefIdeal.Read in
/-- The reference's first result is the convolution. -/
theorem ref_conv (u : S8x4x10240.Idx → EReal) (s : S8x2x1024.Idx → EReal) (w : S3x1024.Idx → EReal) :
    (val_main_v26 (F := Ideal) u s w : S8x4x1024.Idx → EReal) = fun i => convAt u s w (i 0) (i 1) (i 2) := by
  funext i
  obtain ⟨b, t, q, rfl⟩ : ∃ (b : Fin 8) (t : Fin 4) (q : Fin 1024), i = ix3 b t q := ⟨i 0, i 1, i 2, eq_ix3 i⟩
  have ht := t.isLt
  have e0 := ref_past u s b ⟨t.val, by omega⟩ q
  have e1 := ref_past u s b ⟨1 + t.val, by omega⟩ q
  have e2 := ref_past u s b ⟨2 + t.val, by omega⟩ q
  show _ = convAt u s w b t q
  unfold convAt
  rw [Nat.add_comm t.val 1, Nat.add_comm t.val 2]
  refine Eq.trans ?_ (congrArg₂ (· * ·) rfl (congrArg₂ (· + ·) (congrArg₂ (· + ·) (congrArg₂ (· * ·) rfl e0) (congrArg₂ (· * ·) rfl e1)) (congrArg₂ (· * ·) rfl e2)))
  pointwise [val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9,
    val_main_v8, val_main_v7, val_main_v6, val_main_v5, val_main_v1]

open ConvSampleRefIdeal.Read in
/-- Its second is the last two inputs. -/
theorem ref_tail (u : S8x4x10240.Idx → EReal) (s : S8x2x1024.Idx → EReal) :
    (val_main_v27 (F := Ideal) u s : S8x2x1024.Idx → EReal) = fun i => past u s (i 0) (4 + (i 1).val) (i 2) := by
  funext i
  obtain ⟨b, t, q, rfl⟩ : ∃ (b : Fin 8) (t : Fin 2) (q : Fin 1024), i = ix3 b t q := ⟨i 0, i 1, i 2, eq_ix3 i⟩
  refine Eq.trans ?_ (ref_past u s b ⟨4 + t.val, by have := t.isLt; omega⟩ q)
  pointwise [val_main_v27]

/-- The kernel and the reference end with the same two results from the same arguments. -/
theorem algebraic : Cert.algebraic_ConvSampleIdeal_ConvSampleRefIdeal := fun m ρ m' ρ' _ hag =>
  ⟨fun c => G m c, fun c => H m c,
    (θ_run Cert.ConvSampleIdeal.defs _ _).mono (fun _ h c =>
      ⟨(h c).1.trans ((dats m 0 c).arrAt_eq_of_cover 5 (G m c) (fun t _ => flushed_eq5 m c t) cover5),
        (h c).2.1.trans ((dats m 0 c).arrAt_eq_of_cover 6 (H m c) (fun t _ => flushed_eq6 m c t) cover6), (h c).2.2⟩)
      (run_results (F := Ideal) m ρ),
    (θ_run Cert.ConvSampleRefIdeal.defs _ _).mono (fun _ h c =>
      ⟨(h c).1.trans ((ref_conv _ _ _).trans (by rw [(hag c).1, (hag c).2.1, (hag c).2.2])),
        (h c).2.1.trans ((ref_tail _ _).trans (by rw [(hag c).1, (hag c).2.1])), (h c).2.2⟩)
      (Cert.ConvSampleRefIdeal.Value.run (F := Ideal) m' ρ')⟩

/-- The reference runs, leaves its arguments as launched, and has no semaphore to leave raised. -/
theorem frame_ref : Cert.quiescent_ConvSampleRefIdeal := fun m ρ _ =>
  (θ_run Cert.ConvSampleRefIdeal.defs _ _).mono (fun r h => ⟨fun c => (h c).2.2, sem_eq_zero_of_no_sems (by decide) r.2⟩)
    (Cert.ConvSampleRefIdeal.Value.run (F := Ideal) m ρ)

end Cert.ConvSampleValue

end
-- ==== Proof.NormSampleValue.lean ====
/-
  The residual layer norm of the sample batch, whose 32 rows are one tile: both results are the normalised residual sum, row by row the
  same function as for the prompt, and so are the reference's.
-/
module

public import proofs.«01_k».proof.Proof.NormValue
public import proofs.«01_k».proof.Proof.Gen.NormSampleIdeal.Value
public import proofs.«01_k».proof.Proof.Gen.NormSampleRefIdeal.Run
public import proofs.«01_k».proof.Proof.Gen.NormSampleRefIdeal.Read

@[expose] public section

set_option maxRecDepth 16384

noncomputable section

open Idealize.ShloMosaic Idealize.ShloMosaic.TcCoe Idealize.SL.Sem
open Idealize.ShloMosaic.Pipeline (Dat)

namespace Cert.NormSampleValue

open Cert.NormSampleIdeal Cert.NormSampleIdeal.Gen Cert.Common
open Cert.NormValue (pre mean var normed)

/-- The layer norm of the 32 rows. -/
def layerNorm (x t : S32x4096.Idx → EReal) (g b : S4096.Idx → EReal) : S32x4096.Idx → EReal := fun i =>
  normed (fun k => x (ix2 (i 0) k)) (fun k => t (ix2 (i 0) k)) (g (ix1 (i 1))) (b (ix1 (i 1))) (i 1)

/-- The body's value at an element. -/
theorem pay_apply (x t : FVec Ideal S32x4096 .f32) (g b : FVec Ideal S1x4096 .f32) (r : Fin 32) (q : Fin 4096) :
    (k0_pay1 (F := Ideal) x t g b (ix2 r q) : EReal)
      = normed (fun k => x (ix2 r k)) (fun k => t (ix2 r k)) (g (ix2 0 q)) (b (ix2 0 q)) q := by
  unfold_payloads
  unfold normed var mean pre
  pointwise

variable (m : (ℓ : Loc nD τ sig) → Buf (Elt Ideal) ℓ) (ρ : Dev nD → PrngReg)

/-- The layer norm of the arguments, as launched. -/
abbrev G (c : Dev nD) : S32x4096.Idx → EReal :=
  layerNorm (m ((c : Thread nD τ).loc main_arg0)) (m ((c : Thread nD τ).loc main_arg1)) (m ((c : Thread nD τ).loc main_arg2))
    (m ((c : Thread nD τ).loc main_arg3))

/-- Every window is its whole array. -/
theorem idx_facts : ∀ t : Fin grid0.N, (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0) := by decide +kernel

/-- Block 0 of `n` places is at the place itself. -/
theorem at_zero (n k : ℕ) : 0 * n + k = k := by omega

/-- The first array's block. -/
theorem blk_x (c : Dev nD) (t : Fin cfg0.N) (r : Fin 32) (k : Fin 4096) : (iblk m c 0 t : S32x4096.Idx → EReal) (ix2 r k)
    = (m ((c : Thread nD τ).loc main_arg0) : _ → EReal) (ix2 r k) := by
  have h := idx_facts t
  refine Eq.trans (show _ = V m c main_arg0 ((win0_0.rect t).emb (ix2 r k)) from rfl) ?_
  rw [V_main_arg0]
  exact congrArg (m ((c : Thread nD τ).loc main_arg0)) (emb_at r k (win0_0.rect_emb_val t _ 0) (win0_0.rect_emb_val t _ 1)
    h.1.1 h.1.2 r k (at_zero _ _) (at_zero _ _))

/-- The second's. -/
theorem blk_t (c : Dev nD) (t : Fin cfg0.N) (r : Fin 32) (k : Fin 4096) : (iblk m c 1 t : S32x4096.Idx → EReal) (ix2 r k)
    = (m ((c : Thread nD τ).loc main_arg1) : _ → EReal) (ix2 r k) := by
  have h := idx_facts t
  refine Eq.trans (show _ = V m c main_arg1 ((win0_1.rect t).emb (ix2 r k)) from rfl) ?_
  rw [V_main_arg1]
  exact congrArg (m ((c : Thread nD τ).loc main_arg1)) (emb_at r k (win0_1.rect_emb_val t _ 0) (win0_1.rect_emb_val t _ 1)
    h.2.1.1 h.2.1.2 r k (at_zero _ _) (at_zero _ _))

/-- A vector reshaped to one row, at an element. -/
theorem row_apply (v : S4096.Idx → EReal) (h : S4096.ShapeCasts S1x4096) (q : Fin 4096) :
    shapeCast S1x4096 v h (ix2 0 q) = v (ix1 q) :=
  (shapeCast_addUnit_apply ![4096] _ _ (ix2 0 q)).trans (congrArg v (idx_ext1 rfl))

/-- The gain's block, which the host has reshaped to one row. -/
theorem blk_g (c : Dev nD) (t : Fin cfg0.N) (q : Fin 4096) : (iblk m c 2 t : S1x4096.Idx → EReal) (ix2 0 q)
    = (m ((c : Thread nD τ).loc main_arg2) : S4096.Idx → EReal) (ix1 q) := by
  have h := idx_facts t
  have hv : V m c main_v0 = shapeCast S1x4096 (m ((c : Thread nD τ).loc main_arg2)) shapeCasts_S4096_S1x4096 := by
    show StableHlo.after hostOps0 _ (Proc.devRef .tc main_v0) = _
    after_results
    rfl
  refine (congrArg (V m c main_v0) (emb_at 0 q (win0_2.rect_emb_val t _ 0) (win0_2.rect_emb_val t _ 1) h.2.2.1.1 h.2.2.1.2 0 q
    (at_zero _ _) (at_zero _ _))).trans ?_
  rw [hv]
  exact row_apply _ _ q

/-- The shift's likewise. -/
theorem blk_b (c : Dev nD) (t : Fin cfg0.N) (q : Fin 4096) : (iblk m c 3 t : S1x4096.Idx → EReal) (ix2 0 q)
    = (m ((c : Thread nD τ).loc main_arg3) : S4096.Idx → EReal) (ix1 q) := by
  have h := idx_facts t
  have hv : V m c main_v1 = shapeCast S1x4096 (m ((c : Thread nD τ).loc main_arg3)) shapeCasts_S4096_S1x4096 := by
    show StableHlo.after hostOps0 _ (Proc.devRef .tc main_v1) = _
    after_results
    rfl
  refine (congrArg (V m c main_v1) (emb_at 0 q (win0_3.rect_emb_val t _ 0) (win0_3.rect_emb_val t _ 1) h.2.2.2.1.1 h.2.2.2.1.2 0 q
    (at_zero _ _) (at_zero _ _))).trans ?_
  rw [hv]
  exact row_apply _ _ q

/-- The body's value on the blocks is the layer norm. -/
theorem body_eq (c : Dev nD) (t : Fin cfg0.N) (r : Fin 32) (q : Fin 4096) :
    (k0_pay1 (F := Ideal) (iblk m c 0 t) (iblk m c 1 t) (iblk m c 2 t) (iblk m c 3 t) (ix2 r q) : EReal) = G m c (ix2 r q) := by
  refine (pay_apply _ _ _ _ r q).trans ?_
  rw [blk_g, blk_b]
  simp only [blk_x, blk_t]
  rfl

/-- What is written back to the first result is the layer norm. -/
theorem flushed_eq4 (c : Dev nD) (t : Fin cfg0.N) :
    (dats m 0 c).flushed 4 t = (win0_4.blk t).view.read (Elt Ideal) (G m c) := by
  rw [Value.flushed4]
  unfold out0_4
  rw [View.canon_unit_zero hz2, View.ld_unit_zero hz2, View.ld_unit_zero hz2, View.ld_unit_zero hz2, View.ld_unit_zero hz2]
  obtain ⟨_, _, _, _, ⟨h0, h1⟩, _⟩ := idx_facts t
  funext y
  obtain ⟨r, q, rfl⟩ : ∃ (r : Fin 32) (q : Fin 4096), y = ix2 r q := ⟨y 0, y 1, eq_ix2 y⟩
  exact (body_eq m c t r q).trans (congrArg (G m c) (emb_at (e := (win0_4.rect t).emb) r q (win0_4.rect_emb_val t _ 0) (win0_4.rect_emb_val t _ 1)
    h0 h1 r q (at_zero _ _) (at_zero _ _)).symm)

/-- What is written back to the second is the same. -/
theorem flushed_eq5 (c : Dev nD) (t : Fin cfg0.N) :
    (dats m 0 c).flushed 5 t = (win0_5.blk t).view.read (Elt Ideal) (G m c) := by
  rw [Value.flushed5]
  unfold out0_5
  rw [View.canon_unit_zero hz2, View.ld_unit_zero hz2, View.ld_unit_zero hz2, View.ld_unit_zero hz2, View.ld_unit_zero hz2]
  obtain ⟨_, _, _, _, _, ⟨h0, h1⟩⟩ := idx_facts t
  funext y
  obtain ⟨r, q, rfl⟩ : ∃ (r : Fin 32) (q : Fin 4096), y = ix2 r q := ⟨y 0, y 1, eq_ix2 y⟩
  exact (body_eq m c t r q).trans (congrArg (G m c) (emb_at (e := (win0_5.rect t).emb) r q (win0_5.rect_emb_val t _ 0) (win0_5.rect_emb_val t _ 1)
    h0 h1 r q (at_zero _ _) (at_zero _ _)).symm)

/-- Every element of the first result is in the one point's block. -/
theorem cover4 (i : S32x4096.Idx) : ∃ t : Fin cfg0.N, (cfg0.win 4).flush t = true ∧ i ∈ ((cfg0.win 4).blk t).view.set := by
  obtain ⟨_, _, _, _, ⟨h0, h1⟩, _⟩ := idx_facts t0_0
  exact ⟨t0_0, flush0_4 _, Finset.mem_map.mpr ⟨ix2 (i 0) (i 1), Finset.mem_univ _, (emb_at (e := (win0_4.rect t0_0).emb) (i 0) (i 1)
    (win0_4.rect_emb_val _ _ 0) (win0_4.rect_emb_val _ _ 1) h0 h1 (i 0) (i 1) (at_zero _ _) (at_zero _ _)).trans (eq_ix2 i).symm⟩⟩

/-- Every element of the second likewise. -/
theorem cover5 (i : S32x4096.Idx) : ∃ t : Fin cfg0.N, (cfg0.win 5).flush t = true ∧ i ∈ ((cfg0.win 5).blk t).view.set := by
  obtain ⟨_, _, _, _, _, ⟨h0, h1⟩⟩ := idx_facts t0_0
  exact ⟨t0_0, flush0_5 _, Finset.mem_map.mpr ⟨ix2 (i 0) (i 1), Finset.mem_univ _, (emb_at (e := (win0_5.rect t0_0).emb) (i 0) (i 1)
    (win0_5.rect_emb_val _ _ 0) (win0_5.rect_emb_val _ _ 1) h0 h1 (i 0) (i 1) (at_zero _ _) (at_zero _ _)).trans (eq_ix2 i).symm⟩⟩

open NormSampleRefIdeal.Read in
/-- The reference's mean of a row. -/
theorem ref_mean (x t : S32x4096.Idx → EReal) (i : Fin 32) :
    (val_main_v6 (F := Ideal) x t (ix2 i 0) : EReal) = mean (fun k => x (ix2 i k)) (fun k => t (ix2 i k)) := by
  unfold mean pre
  pointwise [val_main_v6, val_main_v5, val_main_cst_1, val_main_v4, val_main_v3, val_main_cst_0, val_main_v2, val_main_v1, val_main_v0, val_main_cst]

open NormSampleRefIdeal.Read in
/-- The reference's variance of a row. -/
theorem ref_var (x t : S32x4096.Idx → EReal) (i : Fin 32) :
    (val_main_v13 (F := Ideal) x t (ix2 i 0) : EReal) = var (fun k => x (ix2 i k)) (fun k => t (ix2 i k)) := by
  unfold var
  rw [← ref_mean]
  unfold pre
  pointwise [val_main_v13, val_main_v12, val_main_v11, val_main_v10, val_main_v9, val_main_v8, val_main_v7, val_main_cst_2, val_main_cst_3,
    val_main_v2, val_main_v1, val_main_v0, val_main_cst]

open NormSampleRefIdeal.Read in
/-- The reference is the layer norm. -/
theorem ref_eq (x t : S32x4096.Idx → EReal) (g b : S4096.Idx → EReal) : val_main_v26 (F := Ideal) x t g b = layerNorm x t g b := by
  funext i
  obtain ⟨p, q, rfl⟩ : ∃ (p : Fin 32) (q : Fin 4096), i = ix2 p q := ⟨i 0, i 1, eq_ix2 i⟩
  show _ = normed (fun k => x (ix2 p k)) (fun k => t (ix2 p k)) (g (ix1 q)) (b (ix1 q)) q
  unfold normed
  rw [← ref_mean, ← ref_var]
  unfold pre
  pointwise [val_main_v26, val_main_v25, val_main_v24, val_main_v23, val_main_v22, val_main_v21, val_main_v20, val_main_v19, val_main_v18,
    val_main_v17, val_main_v16, val_main_v15, val_main_v14, val_main_cst_4, val_main_v2, val_main_v1, val_main_v0, val_main_cst]

/-- The layer norm and the reference end with the same two results from the same arguments. -/
theorem algebraic : Cert.algebraic_NormSampleIdeal_NormSampleRefIdeal := fun m ρ m' ρ' _ hag =>
  have ref (c : Dev nD) : NormSampleRefIdeal.Read.val_main_v26 (F := Ideal) (m' ((c : Thread nD τ).loc NormSampleRefIdeal.main_arg0))
      (m' ((c : Thread nD τ).loc NormSampleRefIdeal.main_arg1)) (m' ((c : Thread nD τ).loc NormSampleRefIdeal.main_arg2))
      (m' ((c : Thread nD τ).loc NormSampleRefIdeal.main_arg3)) = G m c := by
    obtain ⟨e0, e1, e2, e3⟩ := hag c
    rw [ref_eq, e0, e1, e2, e3]
  ⟨fun c => G m c, fun c => G m c,
    (θ_run Cert.NormSampleIdeal.defs _ _).mono (fun _ h c =>
      ⟨(h c).1.trans ((dats m 0 c).arrAt_eq_of_cover 4 (G m c) (fun t _ => flushed_eq4 m c t) cover4),
        (h c).2.1.trans ((dats m 0 c).arrAt_eq_of_cover 5 (G m c) (fun t _ => flushed_eq5 m c t) cover5), (h c).2.2⟩)
      (Value.run_blocks (F := Ideal) m ρ),
    (θ_run Cert.NormSampleRefIdeal.defs _ _).mono (fun _ h c => ⟨(h c).1.trans (ref c), (h c).2.1.trans (ref c), (h c).2.2⟩)
      (Cert.NormSampleRefIdeal.Value.run (F := Ideal) m' ρ')⟩

/-- The reference runs, leaves its arguments as launched, and has no semaphore to leave raised. -/
theorem frame_ref : Cert.quiescent_NormSampleRefIdeal := fun m ρ _ =>
  (θ_run Cert.NormSampleRefIdeal.defs _ _).mono (fun r h => ⟨fun c => (h c).2.2, sem_eq_zero_of_no_sems (by decide) r.2⟩)
    (Cert.NormSampleRefIdeal.Value.run (F := Ideal) m ρ)

end Cert.NormSampleValue

end
-- ==== Proof.MobaSelect.lean ====
/-
  Choosing the greatest gates: taking the first greatest one three times over leaves the same choice as the first three
  positions of the stable sort, greatest first.
-/
module

public import proofs.«01_k».proof.Proof.Common
public import Idealize.ShloMosaic.Lib.PlanTiles.StableSort

@[expose] public section

noncomputable section

open Idealize.ShloMosaic

namespace Cert.MobaSelect

variable {n : ℕ} (g : Fin n → EReal)

/-- Position `a` comes before position `b` in the order "greater first, then lower position". -/
def Ahead (a b : Fin n) : Prop := g b < g a ∨ (g a = g b ∧ a < b)

/-- How many positions hold a smaller value than position `a`. -/
def rank (a : Fin n) : ℕ := (Finset.univ.filter fun b => g b < g a).card

/-- The rank orders the positions as their values do. -/
theorem rank_lt_iff (a b : Fin n) : rank g b < rank g a ↔ g b < g a := by
  constructor
  · intro h
    by_contra hc
    refine absurd h (not_lt.2 (Finset.card_le_card fun c hc' => ?_))
    simp only [Finset.mem_filter, Finset.mem_univ, true_and] at hc' ⊢
    exact lt_of_lt_of_le hc' (not_lt.1 hc)
  · intro h
    refine Finset.card_lt_card ⟨fun c hc => ?_, fun hs => ?_⟩
    · simp only [Finset.mem_filter, Finset.mem_univ, true_and] at hc ⊢
      exact hc.trans h
    · have hb := hs (show b ∈ Finset.univ.filter fun c => g c < g a by simpa using h)
      simp at hb

/-- The stable sort, greatest first: which position comes `j`-th. -/
def order : Fin n → Fin n := sortedFrom fun a b => decide (g b < g a)

/-- No two places hold one position. -/
theorem order_injective : Function.Injective (order g) := sortedFrom_injective _

/-- Every position has a place. -/
theorem order_surjective : Function.Surjective (order g) := sortedFrom_surjective _

/-- An earlier place holds a position ahead of a later place's. -/
theorem order_ahead {i j : Fin n} (hij : i < j) : Ahead g (order g i) (order g j) := by
  have hb : (fun a b : Fin n => decide (g b < g a)) = fun a b => decide (rank g b < rank g a) := by
    funext a b
    simp only [rank_lt_iff]
  have hp := List.pairwise_iff_get.mp
    (PlanTiles.pairwise_stableSort_lex (rank g) (· < ·) (List.finRange n) (List.pairwise_lt_finRange n))
  have h := hp (Fin.cast (length_sortPositions n _).symm i) (Fin.cast (length_sortPositions n _).symm j)
    (by simp only [Fin.lt_def, Fin.val_cast]; exact hij)
  unfold order sortedFrom
  rw [hb]
  rcases h with h | ⟨h, hlt⟩
  · exact Or.inl ((rank_lt_iff g _ _).1 h)
  · refine Or.inr ⟨?_, hlt⟩
    rcases lt_trichotomy (g ((sortPositions n fun a b => decide (rank g b < rank g a)).get (Fin.cast (length_sortPositions n _).symm i)))
      (g ((sortPositions n fun a b => decide (rank g b < rank g a)).get (Fin.cast (length_sortPositions n _).symm j))) with h' | h' | h'
    · exact absurd h (ne_of_lt ((rank_lt_iff g _ _).2 h'))
    · exact h'
    · exact absurd h.symm (ne_of_lt ((rank_lt_iff g _ _).2 h'))

/-- Position `a` is the first of those that hold the greatest value. -/
def First (f : Fin n → EReal) (a : Fin n) : Prop := (∀ b, f b ≤ f a) ∧ ∀ b, b < a → f b ≠ f a

/-- Only one position is the first greatest. -/
theorem First.unique {f : Fin n → EReal} {a b : Fin n} (ha : First f a) (hb : First f b) : a = b := by
  rcases lt_trichotomy a b with h | h | h
  · exact absurd (le_antisymm (hb.1 a) (ha.1 b)) (hb.2 a h)
  · exact h
  · exact absurd (le_antisymm (ha.1 b) (hb.1 a)) (ha.2 b h)

open Classical in
/-- The values with the first greatest one struck out. -/
def strike (f : Fin n → EReal) (a : Fin n) : EReal := if First f a then ⊥ else f a

open Classical in
/-- The values with the positions of the first `k` places struck out. -/
def struck (k : ℕ) (a : Fin n) : EReal := if ∃ j : Fin n, j.val < k ∧ order g j = a then ⊥ else g a

/-- Nothing struck out. -/
theorem struck_zero : struck g 0 = g := by
  funext a
  simp [struck]

/-- The first greatest value after `k` are struck out stands at place `k`. -/
theorem first_struck (hg : ∀ a, g a ≠ ⊥) (k a : Fin n) : First (struck g k.val) a ↔ order g k = a := by
  have hk : struck g k.val (order g k) = g (order g k) := by
    refine if_neg ?_
    rintro ⟨j, hj, he⟩
    exact absurd (congrArg Fin.val (order_injective g he)) (by omega)
  have hF : First (struck g k.val) (order g k) := by
    have hcase : ∀ b, struck g k.val b ≤ g (order g k) ∧ (b < order g k → struck g k.val b ≠ g (order g k)) := by
      intro b
      obtain ⟨j, rfl⟩ := order_surjective g b
      rcases lt_trichotomy j k with h | h | h
      · have hb : struck g k.val (order g j) = ⊥ := if_pos ⟨j, h, rfl⟩
        rw [hb]
        exact ⟨bot_le, fun _ => (hg _).symm⟩
      · subst h
        rw [hk]
        exact ⟨le_refl _, fun hlt => absurd hlt (lt_irrefl _)⟩
      · have hb : struck g k.val (order g j) = g (order g j) := by
          refine if_neg ?_
          rintro ⟨i, hi, he⟩
          have := congrArg Fin.val (order_injective g he)
          have := Fin.lt_def.1 h
          omega
        rw [hb]
        rcases order_ahead g h with h' | ⟨h', hlt⟩
        · exact ⟨h'.le, fun _ => h'.ne⟩
        · exact ⟨h'.symm.le, fun hlt' => absurd hlt' (not_lt.2 hlt.le)⟩
    exact ⟨fun b => by rw [hk]; exact (hcase b).1, fun b hb => by rw [hk]; exact (hcase b).2 hb⟩
  exact ⟨fun h => hF.unique h, fun h => h ▸ hF⟩

/-- Striking out the first greatest value once more. -/
theorem strike_struck (hg : ∀ a, g a ≠ ⊥) (k : Fin n) : strike (struck g k.val) = struck g (k.val + 1) := by
  funext a
  unfold strike
  rw [first_struck g hg k a]
  by_cases h : order g k = a
  · rw [if_pos h]
    exact (if_pos ⟨k, Nat.lt_succ_self _, h⟩).symm
  · rw [if_neg h]
    unfold struck
    refine if_congr ⟨?_, ?_⟩ rfl rfl
    · rintro ⟨j, hj, he⟩
      exact ⟨j, by omega, he⟩
    · rintro ⟨j, hj, he⟩
      refine ⟨j, ?_, he⟩
      rcases Nat.lt_succ_iff_lt_or_eq.1 hj with h' | h'
      · exact h'
      · exact absurd (Fin.ext h' ▸ he) h

end Cert.MobaSelect

end
-- ==== Proof.MobaRef.lean ====
/-
  The block-sparse attention of the prompt, in plain functions, and the reading of the reference as those functions.
-/
module

public import proofs.«01_k».proof.Proof.Common
public import proofs.«01_k».proof.Proof.KernelRef
public import proofs.«01_k».proof.Proof.MobaSelect
public import proofs.«01_k».proof.Proof.Gen.MobaRefIdeal.Run
public import proofs.«01_k».proof.Proof.Gen.MobaRefIdeal.Read
public import Idealize.ShloMosaic.Lib.WordCmp

@[expose] public section

set_option maxRecDepth 16384

noncomputable section

open Idealize.ShloMosaic Idealize.ShloMosaic.TcCoe Idealize.SL.Sem

namespace Cert.MobaRef

open Cert.MobaRefIdeal Cert.MobaRefIdeal.Gen Cert.MobaRefIdeal.Read Cert.Common Cert.MobaSelect
open Cert.KernelRef (rowMax soft)

/-- Head `h`'s query of row `q`, -/
def qv (u : S4x2048x10240.Idx → EReal) (b : Fin 4) (h : Fin 8) (q : Fin 2048) (d : Fin 128) : EReal :=
  u (ix3 b q ⟨4096 + (h.val * 128 + d.val), by omega⟩)
/-- its key, -/
def kv (u : S4x2048x10240.Idx → EReal) (b : Fin 4) (h : Fin 8) (q : Fin 2048) (d : Fin 128) : EReal :=
  u (ix3 b q ⟨5120 + (h.val * 128 + d.val), by omega⟩)
/-- and its value. -/
def vv (u : S4x2048x10240.Idx → EReal) (b : Fin 4) (h : Fin 8) (q : Fin 2048) (d : Fin 128) : EReal :=
  u (ix3 b q ⟨6144 + (h.val * 128 + d.val), by omega⟩)

/-- The gate of query row `q` towards key block `n`: the query times the block's mean key, if the block is past. -/
def gate (u : S4x2048x10240.Idx → EReal) (b : Fin 4) (h : Fin 8) (q : Fin 2048) (n : Fin 8) : EReal :=
  if n.val < q.val / 256 then
    ∑ d : Fin 128, qv u b h q d * Ideal.div (∑ r : Fin 256, kv u b h ⟨n.val * 256 + r.val, by omega⟩ d) (Ideal.ofBits .f32 1132462080#32)
  else Ideal.ofBits .f32 4048155338#32

/-- Whether block `n` is among the three first, greatest gate first. -/
def picked (u : S4x2048x10240.Idx → EReal) (b : Fin 4) (h : Fin 8) (q : Fin 2048) (n : Fin 8) : Prop :=
  ∃ p : Fin 8, p.val < 3 ∧ order (gate u b h q) p = n

/-- The key block of a row. -/
def blk (j : Fin 2048) : Fin 8 := ⟨j.val / 256, by omega⟩

/-- Whether query row `q` may attend to key row `j`: its block picked and past, or its own, and the row not later. -/
def ok (u : S4x2048x10240.Idx → EReal) (b : Fin 4) (h : Fin 8) (q j : Fin 2048) : Prop :=
  ((picked u b h q (blk j) ∧ j.val / 256 < q.val / 256) ∨ j.val / 256 = q.val / 256) ∧ j.val ≤ q.val

open Classical in
/-- The masked, scaled score of query row `q` against key row `j`. -/
def score (u : S4x2048x10240.Idx → EReal) (b : Fin 4) (h : Fin 8) (q j : Fin 2048) : EReal :=
  if ok u b h q j then (∑ d : Fin 128, qv u b h q d * kv u b h j d) * Ideal.ofBits .f32 1035273459#32 else Ideal.ofBits .f32 4048155338#32

/-- Column `e` of head `h`'s attention at row `q`. -/
def att (u : S4x2048x10240.Idx → EReal) (b : Fin 4) (h : Fin 8) (q : Fin 2048) (e : Fin 128) : EReal :=
  ∑ j : Fin 2048, soft (score u b h q) j * vv u b h j e

/-- The whole attention: column `e` of the result belongs to head `e / 128`. -/
def moba (u : S4x2048x10240.Idx → EReal) : S4x2048x1024.Idx → EReal := fun i =>
  att u (i 0) ⟨(i 2).val / 128, tile_lt (a := 8) (i 2).isLt⟩ (i 1) ⟨(i 2).val % 128, Nat.mod_lt _ (by decide)⟩

variable (u : S4x2048x10240.Idx → EReal)

/-- The queries the reference takes. -/
theorem r1 (b : Fin 4) (q : Fin 2048) (h : Fin 8) (d : Fin 128) :
    (val_main_v1 (F := Ideal) u (ix4 b q h d) : EReal) = qv u b h q d := by
  unfold qv
  pointwise [val_main_v1, val_main_v0]
/-- The keys the reference takes. -/
theorem r3 (b : Fin 4) (q : Fin 2048) (h : Fin 8) (d : Fin 128) :
    (val_main_v3 (F := Ideal) u (ix4 b q h d) : EReal) = kv u b h q d := by
  unfold kv
  pointwise [val_main_v3, val_main_v2]
/-- The values the reference takes. -/
theorem r5 (b : Fin 4) (q : Fin 2048) (h : Fin 8) (d : Fin 128) :
    (val_main_v5 (F := Ideal) u (ix4 b q h d) : EReal) = vv u b h q d := by
  unfold vv
  pointwise [val_main_v5, val_main_v4]
/-- The block numbers of the rows. -/
theorem r9 (q : Fin 2048) : val_main_v9 (F := Ideal) (ix1 q) = BitVec.ofNat 32 (q.val / 256) := by
  rw [val_main_v9_apply, val_main_v8_apply, val_main_v7_apply]
  refine congrArg (BitVec.ofNat 32) ?_
  rfl
/-- Which blocks are past. -/
theorem r20 (q : Fin 2048) (n : Fin 8) :
    val_main_v20 (F := Ideal) (ix2 q n) = IntOp.cmpi .slt (BitVec.ofNat 32 n.val) (BitVec.ofNat 32 (q.val / 256)) := by
  rw [val_main_v20_apply, val_main_v18_apply, val_main_v16_apply, val_main_v7_apply, val_main_v19_apply, val_main_v17_apply, ← r9]
  rfl
/-- Which block is a row's own. -/
theorem r36 (q : Fin 2048) (n : Fin 8) :
    val_main_v36 (F := Ideal) (ix2 q n) = IntOp.cmpi .eq (BitVec.ofNat 32 n.val) (BitVec.ofNat 32 (q.val / 256)) := by
  rw [val_main_v36_apply, val_main_v34_apply, val_main_v32_apply, val_main_v7_apply, val_main_v35_apply, val_main_v33_apply, ← r9]
  rfl
/-- The mean keys. -/
theorem r13 (b : Fin 4) (n h : Fin 8) (d : Fin 128) :
    (val_main_v13 (F := Ideal) u (ix4 b n h d) : EReal)
      = Ideal.div (∑ r : Fin 256, kv u b h ⟨n.val * 256 + r.val, by omega⟩ d) (Ideal.ofBits .f32 1132462080#32) := by
  have hs : (val_main_v11 (F := Ideal) u (ix4 b n h d) : EReal) = ∑ r : Fin 256, kv u b h ⟨n.val * 256 + r.val, by omega⟩ d := by
    rw [val_main_v11_apply, val_main_cst_apply]
    refine (congrArg₂ (· + ·) (Ideal.ofBits_zero_f32) (Finset.sum_congr rfl fun r _ => ?_)).trans (zero_add _)
    rw [← r3]
    generalize hy : val_main_v3 (F := Ideal) u = y
    unfold val_main_v10
    rw [hy]
    pointwise
    exact congrArg y (funext fun a => match a with | ⟨0, _⟩ => rfl | ⟨1, _⟩ => rfl | ⟨2, _⟩ => rfl | ⟨3, _⟩ => rfl)
  rw [val_main_v13_apply, hs, val_main_v12_apply, val_main_cst_0_apply]
  rfl
/-- The gates before the mask. -/
theorem r15 (b : Fin 4) (q : Fin 2048) (h n : Fin 8) :
    (val_main_v15 (F := Ideal) u (ix4 b q h n) : EReal)
      = ∑ d : Fin 128, qv u b h q d * Ideal.div (∑ r : Fin 256, kv u b h ⟨n.val * 256 + r.val, by omega⟩ d) (Ideal.ofBits .f32 1132462080#32) := by
  rw [val_main_v15_apply, val_main_v14_apply]
  refine Finset.sum_congr rfl fun d _ => ?_
  rw [show lidx_main_v14 (idx_main_v15 (ix4 b q h n)) d = ix4 b n h d from
    funext fun a => match a with | ⟨0, _⟩ => rfl | ⟨1, _⟩ => rfl | ⟨2, _⟩ => rfl | ⟨3, _⟩ => rfl,
    show ridx_main_v14 (idx_main_v15 (ix4 b q h n)) d = ix4 b q h d from
    funext fun a => match a with | ⟨0, _⟩ => rfl | ⟨1, _⟩ => rfl | ⟨2, _⟩ => rfl | ⟨3, _⟩ => rfl, r13, r1, mul_comm]

/-- A select by a comparison of small numbers is a choice by that comparison. -/
theorem select_slt {a b : ℕ} (ha : a < 2 ^ 31) (hb : b < 2 ^ 31) (x y : EReal) :
    Scalar.select (IntOp.cmpi .slt (BitVec.ofNat 32 a) (BitVec.ofNat 32 b)) x y = if a < b then x else y :=
  if_congr (WordCmp.cmpi_slt_ofNat_eq_one_iff ha hb) rfl rfl

/-- The gates. -/
theorem r22 (b : Fin 4) (q : Fin 2048) (h n : Fin 8) :
    (val_main_v22 (F := Ideal) u (ix4 b q h n) : EReal) = gate u b h q n := by
  rw [val_main_v22_apply, r15, val_main_call0_v1_apply, val_main_v21_apply, val_main_call0_v2_apply, val_main_call0_v0_apply, val_main_cst_1_apply]
  rw [show idx_main_v21 (idx_main_call0_v1 (ix4 b q h n)) = ix2 q n from funext fun a => match a with | ⟨0, _⟩ => rfl | ⟨1, _⟩ => rfl, r20]
  exact select_slt (by omega) (by omega) _ _

/-- Where the first three places of a row of eight stand in the row. -/
def wide (j : S4x2048x8x3.Idx) : S4x2048x8x8.Idx :=
  fun a => ⟨0 + (j (a.cast sliceFits_S4x2048x8x8_S4x2048x8x3.1.symm)).val,
    Nat.lt_of_lt_of_le (Nat.add_lt_add_left (j _).isLt _) (sliceFits_S4x2048x8x8_S4x2048x8x3.2 a)⟩

/-- The positions a choice of the three greatest returns are the first three of the stable sort. -/
theorem topK_indices (y : S4x2048x8x8.Idx → EReal) (j : S4x2048x8x3.Idx) :
    (Host.topK S4x2048x8x3 3 (FloatOps.cmpfTotal (F := Ideal) (φ := .f32) .gt) y sliceFits_S4x2048x8x8_S4x2048x8x3).2 j
      = BitVec.ofNat 32 (sortedFrom (fun k k' : Fin 8 => Ideal.cmpTotal .gt (y ((wide j).along 3 k)) (y ((wide j).along 3 k')) == 1#1) (wide j 3)).val := by
  rfl

/-- The positions of the three greatest gates. -/
theorem rI (b : Fin 4) (q : Fin 2048) (h : Fin 8) (p : Fin 3) :
    val_main_indices (F := Ideal) u (ix4 b q h p) = BitVec.ofNat 32 (order (gate u b h q) ⟨p.val, by omega⟩).val := by
  have hg : ∀ n, (val_main_v22 (F := Ideal) u (ix4 b q h n) : EReal) = gate u b h q n := fun n => r22 u b q h n
  unfold val_main_indices
  generalize val_main_v22 (F := Ideal) u = y at hg
  have hj : ∀ (j : S4x2048x8x8.Idx) (k : Fin 8), (j 0).val = b.val → (j 1).val = q.val → (j 2).val = h.val → j.along 3 k = ix4 b q h k := by
    intro j k h0 h1 h2
    funext a
    match a with
    | ⟨0, _⟩ => exact Fin.ext h0
    | ⟨1, _⟩ => exact Fin.ext h1
    | ⟨2, _⟩ => exact Fin.ext h2
    | ⟨3, _⟩ => exact rfl
  have hb : (fun k k' : Fin 8 => Ideal.cmpTotal .gt (y (ix4 b q h k)) (y (ix4 b q h k')) == 1#1)
      = fun k k' => decide (gate u b h q k' < gate u b h q k) := by
    funext k k'
    rw [hg, hg]
    show (BitVec.ofBool (decide (gate u b h q k' < gate u b h q k)) == 1#1) = _
    cases decide (gate u b h q k' < gate u b h q k) <;> rfl
  refine (topK_indices y (ix4 b q h p)).trans ?_
  refine congrArg₂ (fun f (x : Fin 8) => BitVec.ofNat 32 (sortedFrom f x).val) (Eq.trans ?_ hb) (Fin.ext (Nat.zero_add _))
  funext k k'
  rw [hj _ k (Nat.zero_add _) (Nat.zero_add _) (Nat.zero_add _), hj _ k' (Nat.zero_add _) (Nat.zero_add _) (Nat.zero_add _)]

/-- A disjunction of bits is set just when one of them is. -/
theorem fold_ori_eq_one_iff {ι : Type} (s : Finset ι) (f : ι → BitVec 1) :
    s.fold IntOp.ori 0#1 f = 1#1 ↔ ∃ p ∈ s, f p = 1#1 := by
  classical
  induction s using Finset.induction_on with
  | empty => simp
  | insert a s ha ih =>
    rw [Finset.fold_insert ha]
    have ho : ∀ x y : BitVec 1, IntOp.ori x y = 1#1 ↔ (x = 1#1 ∨ y = 1#1) := by decide
    rw [ho, ih]
    simp

/-- Which blocks are among the three first. -/
theorem r28 (b : Fin 4) (q : Fin 2048) (h n : Fin 8) :
    val_main_v28 (F := Ideal) u (ix4 b q h n) = 1#1 ↔ picked u b h q n := by
  have h27 : ∀ p : Fin 3, val_main_v27 (F := Ideal) u (ix5 b q h p n)
      = IntOp.cmpi .eq (BitVec.ofNat 32 (order (gate u b h q) ⟨p.val, by omega⟩).val) (BitVec.ofNat 32 n.val) := by
    intro p
    rw [val_main_v27_apply, val_main_v25_apply, val_main_v23_apply, val_main_v26_apply, val_main_v24_apply, val_main_v7_apply, ← rI]
    rw [show idx_main_v23 (idx_main_v25 (ix5 b q h p n)) = ix4 b q h p from
      funext fun a => match a with | ⟨0, _⟩ => rfl | ⟨1, _⟩ => rfl | ⟨2, _⟩ => rfl | ⟨3, _⟩ => rfl]
    rfl
  have hf : val_main_v28 (F := Ideal) u (ix4 b q h n)
      = Finset.univ.fold IntOp.ori 0#1 (fun p : Fin 3 => val_main_v27 (F := Ideal) u (ix5 b q h p n)) := by
    unfold val_main_v28
    generalize val_main_v27 (F := Ideal) u = y0
    refine (Host.reduce_eq_fold_single IntOp.ori y0 _ reducesTo_S4x2048x8x3x8_S4x2048x8x8_d3 (by decide) h_S_ _).trans ?_
    refine Finset.fold_congr fun s _ => ?_
    exact congrArg y0 (funext fun a => Fin.ext (by match a with | ⟨0, _⟩ => rfl | ⟨1, _⟩ => rfl | ⟨2, _⟩ => rfl | ⟨3, _⟩ => rfl | ⟨4, _⟩ => rfl))
  rw [hf, fold_ori_eq_one_iff]
  constructor
  · rintro ⟨p, -, hp⟩
    rw [h27, WordCmp.cmpi_eq_ofNat_eq_one_iff (by omega) (by omega)] at hp
    exact ⟨⟨p.val, by omega⟩, p.isLt, Fin.ext hp⟩
  · rintro ⟨p, hp, he⟩
    refine ⟨⟨p.val, hp⟩, Finset.mem_univ _, ?_⟩
    rw [h27, WordCmp.cmpi_eq_ofNat_eq_one_iff (by omega) (by omega)]
    exact congrArg Fin.val he

/-- The bit of the reference's mask over blocks. -/
theorem r39 (b : Fin 4) (q : Fin 2048) (h n : Fin 8) :
    val_main_v39 (F := Ideal) u (ix4 b q h n) = 1#1 ↔ (picked u b h q n ∧ n.val < q.val / 256) ∨ n.val = q.val / 256 := by
  have ho : ∀ x y : BitVec 1, IntOp.ori x y = 1#1 ↔ (x = 1#1 ∨ y = 1#1) := by decide
  have ha : ∀ x y : BitVec 1, IntOp.andi x y = 1#1 ↔ (x = 1#1 ∧ y = 1#1) := by decide
  rw [val_main_v39_apply, val_main_v31_apply, val_main_v30_apply, val_main_v29_apply, val_main_v38_apply, val_main_v37_apply, ho, ha, r28]
  rw [show idx_main_v29 (idx_main_v30 (ix4 b q h n)) = ix2 q n from funext fun a => match a with | ⟨0, _⟩ => rfl | ⟨1, _⟩ => rfl,
    show idx_main_v37 (idx_main_v38 (ix4 b q h n)) = ix2 q n from funext fun a => match a with | ⟨0, _⟩ => rfl | ⟨1, _⟩ => rfl, r20, r36,
    WordCmp.cmpi_slt_ofNat_eq_one_iff (by omega) (by omega), WordCmp.cmpi_eq_ofNat_eq_one_iff (by omega) (by omega)]

/-- The bit of the reference's mask over rows. -/
theorem r49 (b : Fin 4) (q : Fin 2048) (h : Fin 8) (j : Fin 2048) :
    val_main_v49 (F := Ideal) u (ix4 b q h j) = 1#1 ↔ ok u b h q j := by
  have ha : ∀ x y : BitVec 1, IntOp.andi x y = 1#1 ↔ (x = 1#1 ∧ y = 1#1) := by decide
  have h41 : val_main_v41 (F := Ideal) u (ix4 b q h j) = val_main_v39 (F := Ideal) u (ix4 b q h (blk j)) := by
    rw [val_main_v41_apply, val_main_v40_apply]
    generalize val_main_v39 (F := Ideal) u = y
    refine congrArg y (funext fun a => Fin.ext ?_)
    match a with
    | ⟨0, _⟩ => show (((b.val * 2048 + q.val) * 8 + h.val) * 2048 + j.val) / 33554432 = b.val; omega
    | ⟨1, _⟩ => show (((b.val * 2048 + q.val) * 8 + h.val) * 2048 + j.val) / 16384 % 2048 = q.val; omega
    | ⟨2, _⟩ => show (((b.val * 2048 + q.val) * 8 + h.val) * 2048 + j.val) / 2048 % 8 = h.val; omega
    | ⟨3, _⟩ => show (((b.val * 2048 + q.val) * 8 + h.val) * 2048 + j.val) / 256 % 8 = j.val / 256; omega
  have h48 : val_main_v48 (F := Ideal) (ix4 b q h j) = 1#1 ↔ j.val ≤ q.val := by
    rw [val_main_v48_apply, val_main_v47_apply, val_main_v46_apply, val_main_v44_apply, val_main_v45_apply, val_main_v42_apply, val_main_v43_apply,
      val_main_v6_apply, val_main_v6_apply]
    exact WordCmp.cmpi_sle_ofNat_eq_one_iff (show j.val < _ by omega) (show q.val < _ by omega)
  rw [val_main_v49_apply, ha, h41, r39, h48]
  exact Iff.rfl

/-- The masked scores. -/
theorem r54 (b : Fin 4) (q : Fin 2048) (h : Fin 8) (j : Fin 2048) :
    (val_main_v54 (F := Ideal) u (ix4 b q h j) : EReal) = score u b h q j := by
  have h51 : (val_main_v51 (F := Ideal) u (ix4 b q h j) : EReal) = ∑ d : Fin 128, qv u b h q d * kv u b h j d := by
    rw [val_main_v51_apply, val_main_v50_apply]
    refine Finset.sum_congr rfl fun d _ => ?_
    rw [show lidx_main_v50 (idx_main_v51 (ix4 b q h j)) d = ix4 b j h d from
      funext fun a => match a with | ⟨0, _⟩ => rfl | ⟨1, _⟩ => rfl | ⟨2, _⟩ => rfl | ⟨3, _⟩ => rfl,
      show ridx_main_v50 (idx_main_v51 (ix4 b q h j)) d = ix4 b q h d from
      funext fun a => match a with | ⟨0, _⟩ => rfl | ⟨1, _⟩ => rfl | ⟨2, _⟩ => rfl | ⟨3, _⟩ => rfl, r3, r1, mul_comm]
  rw [val_main_v54_apply, val_main_v53_apply, h51, val_main_v52_apply, val_main_cst_2_apply]
  classical
  unfold score
  exact if_congr (r49 u b q h j) rfl rfl

/-- A maximum over the last axis, as the plain maximum of a row. -/
theorem reduceMax (y0 : S4x2048x8x2048.Idx → EReal) (b : Fin 4) (q : Fin 2048) (h : Fin 8) :
    (Host.reduce (FloatOps.maximumf (F := Ideal) (φ := .f32)) y0 (val_main_cst_4 (F := Ideal)) reducesTo_S4x2048x8x2048_S4x2048x8_d3 h_S_ (ix3 b q h) : EReal)
      = rowMax fun s => y0 (ix4 b q h s) := by
  unfold rowMax
  refine (Host.reduce_eq_fold_single (FloatOps.maximumf (F := Ideal)) y0 _ reducesTo_S4x2048x8x2048_S4x2048x8_d3 (by decide) h_S_ _).trans ?_
  refine Finset.fold_congr fun s _ => ?_
  exact congrArg y0 (funext fun a => Fin.ext (by match a with | ⟨0, _⟩ => rfl | ⟨1, _⟩ => rfl | ⟨2, _⟩ => rfl | ⟨3, _⟩ => rfl))

/-- The greatest score of a row. -/
theorem r55 (b : Fin 4) (q : Fin 2048) (h : Fin 8) :
    (val_main_v55 (F := Ideal) u (ix3 b q h) : EReal) = rowMax (score u b h q) :=
  (reduceMax (val_main_v54 (F := Ideal) u) b q h).trans (congrArg rowMax (funext fun s => r54 u b q h s))

/-- The second maximum with minus infinity changes nothing. -/
theorem r57 (b : Fin 4) (q : Fin 2048) (h : Fin 8) :
    (val_main_v57 (F := Ideal) u (ix3 b q h) : EReal) = rowMax (score u b h q) := by
  rw [val_main_v57_apply, r55, val_main_v56_apply, val_main_cst_5_apply]
  exact max_eq_right ((Finset.le_fold_max _).2 (Or.inl le_rfl))

/-- The exponentials. -/
theorem r61 (b : Fin 4) (q : Fin 2048) (h : Fin 8) (j : Fin 2048) :
    (val_main_v61 (F := Ideal) u (ix4 b q h j) : EReal) = Ideal.exp (score u b h q j - rowMax (score u b h q)) := by
  rw [val_main_v61_apply, val_main_v60_apply, val_main_v59_apply, val_main_v58_apply, r54]
  rw [show idx_main_v58 (idx_main_v59 (ix4 b q h j)) = ix3 b q h from
    funext fun a => match a with | ⟨0, _⟩ => rfl | ⟨1, _⟩ => rfl | ⟨2, _⟩ => rfl, r57]
  rfl

/-- The softmax. -/
theorem r65 (b : Fin 4) (q : Fin 2048) (h : Fin 8) (j : Fin 2048) :
    (val_main_v65 (F := Ideal) u (ix4 b q h j) : EReal) = soft (score u b h q) j := by
  have hd : (val_main_v62 (F := Ideal) u (ix3 b q h) : EReal) = ∑ k : Fin 2048, Ideal.exp (score u b h q k - rowMax (score u b h q)) := by
    rw [val_main_v62_apply, val_main_cst_6_apply]
    refine (congrArg₂ (· + ·) (Ideal.ofBits_zero_f32) (Finset.sum_congr rfl fun k _ => ?_)).trans (zero_add _)
    refine Eq.trans (congrArg _ ?_) (r61 u b q h k)
    exact funext fun a => match a with | ⟨0, _⟩ => rfl | ⟨1, _⟩ => rfl | ⟨2, _⟩ => rfl | ⟨3, _⟩ => rfl
  rw [val_main_v65_apply, r61, val_main_v64_apply, val_main_v63_apply]
  rw [show idx_main_v63 (idx_main_v64 (ix4 b q h j)) = ix3 b q h from
    funext fun a => match a with | ⟨0, _⟩ => rfl | ⟨1, _⟩ => rfl | ⟨2, _⟩ => rfl, hd]
  rfl

/-- The weighted values. -/
theorem r67 (b : Fin 4) (q : Fin 2048) (h : Fin 8) (e : Fin 128) :
    (val_main_v67 (F := Ideal) u (ix4 b q h e) : EReal) = att u b h q e := by
  rw [val_main_v67_apply, val_main_v66_apply]
  refine Finset.sum_congr rfl fun j _ => ?_
  rw [show lidx_main_v66 (idx_main_v67 (ix4 b q h e)) j = ix4 b j h e from
    funext fun a => match a with | ⟨0, _⟩ => rfl | ⟨1, _⟩ => rfl | ⟨2, _⟩ => rfl | ⟨3, _⟩ => rfl,
    show ridx_main_v66 (idx_main_v67 (ix4 b q h e)) j = ix4 b q h j from
    funext fun a => match a with | ⟨0, _⟩ => rfl | ⟨1, _⟩ => rfl | ⟨2, _⟩ => rfl | ⟨3, _⟩ => rfl, r5, r65, mul_comm]

/-- The reference's result. -/
theorem ref_eq : (val_main_v69 (F := Ideal) u : S4x2048x1024.Idx → EReal) = moba u := by
  funext i
  have h : (val_main_v69 (F := Ideal) u i : EReal)
      = val_main_v67 (F := Ideal) u (ix4 (i 0) (i 1) ⟨(i 2).val / 128, tile_lt (a := 8) (i 2).isLt⟩ ⟨(i 2).val % 128, Nat.mod_lt _ (by decide)⟩) := by
    rw [val_main_v69_apply, val_main_v68_apply]
    generalize val_main_v67 (F := Ideal) u = y
    have h0 : (i 0).val < 4 := (i 0).isLt
    have h1 : (i 1).val < 2048 := (i 1).isLt
    have h2 : (i 2).val < 1024 := (i 2).isLt
    refine congrArg y (funext fun a => Fin.ext ?_)
    match a with
    | ⟨0, _⟩ => show (((i 0).val * 2048 + (i 1).val) * 1024 + (i 2).val) / 2097152 = (i 0).val; omega
    | ⟨1, _⟩ => show (((i 0).val * 2048 + (i 1).val) * 1024 + (i 2).val) / 1024 % 2048 = (i 1).val; omega
    | ⟨2, _⟩ => show (((i 0).val * 2048 + (i 1).val) * 1024 + (i 2).val) / 128 % 8 = (i 2).val / 128; omega
    | ⟨3, _⟩ => show (((i 0).val * 2048 + (i 1).val) * 1024 + (i 2).val) % 128 = (i 2).val % 128; omega
  exact h.trans (r67 u _ _ _ _)

end Cert.MobaRef

end
-- ==== Proof.MobaBody.lean ====
/-
  The block-sparse attention kernel's body in a few vector expressions: the gates, the three rounds of picking, the masked
  scores, the softmax over the eight key blocks and the weighted values.
-/
module

public import proofs.«01_k».proof.Proof.Common
public import proofs.«01_k».proof.Proof.Gen.MobaIdeal.Frame

@[expose] public section

set_option maxRecDepth 16384

noncomputable section

open Idealize.ShloMosaic Idealize.ShloMosaic.TcCoe Idealize.SL.Sem

namespace Cert.MobaBody

open Cert.MobaIdeal Cert.MobaIdeal.Gen Cert.Common

/-- The 256 rows of key block `n`, from the rows of all the keys (or of all the values). -/
def rows (x : Vec Ideal S1x2048x128 .f32) : ℕ → Vec Ideal S1x256x128 .f32
  | 0 => View.ld x r0_1
  | 1 => View.ld x r0_2
  | 2 => View.ld x r0_3
  | 3 => View.ld x r0_4
  | 4 => View.ld x r0_5
  | 5 => View.ld x r0_6
  | 6 => View.ld x r0_7
  | _ => View.ld x r0_8

/-- The gates of a block of queries against key block `n`: the queries times the mean key, where the block is past. -/
def gateV (i : grid0.Coords) (q k : Vec Ideal S1x256x128 .f32) (n : ℕ) : FVec Ideal S256x1 .f32 :=
  select (cmpi .sgt (k0_pay4 i) (broadcast S256x1 (BitVec.ofNat 32 n)))
    (shapeCast S256x1 (multiReduction .add [1] S256 (mulf (k0_pay2 (F := Ideal) q) (broadcastTo S256x128
      (mulf (shapeCast S1x128 (multiReduction .add [0] S128 (shapeCast S256x128 k shapeCasts_S1x256x128_S256x128) 0x00000000#32 reduces_S256x128_S128 (.inl rfl) rfl) shapeCasts_S128_S1x128)
        (broadcast S1x128 (Scalar.ofBits .f32 0x3B800000#32))) broadcasts_S1x128_S256x128)) 0x00000000#32 reduces_S256x128_S256 (.inl rfl) rfl) shapeCasts_S256_S256x1)
    (broadcast S256x1 (Scalar.ofBits .f32 0xF149F2CA#32))

/-- The greatest of eight gates. -/
def top (g : ℕ → FVec Ideal S256x1 .f32) : FVec Ideal S256x1 .f32 :=
  maximumf (maximumf (maximumf (maximumf (maximumf (maximumf (maximumf (g 0) (g 1)) (g 2)) (g 3)) (g 4)) (g 5)) (g 6)) (g 7)

/-- Whether one of the first `n` gates is the greatest. -/
def seen (g : ℕ → FVec Ideal S256x1 .f32) : ℕ → IVec S256x1 1
  | 0 => broadcast S256x1 0#1
  | n + 1 => ori (seen g n) (andi (cmpf .oeq (g n) (top g)) (xori (seen g n) (constantI S256x1 1 1#1)))

/-- Whether gate `n` is the first greatest. -/
def pick (g : ℕ → FVec Ideal S256x1 .f32) (n : ℕ) : IVec S256x1 1 :=
  andi (cmpf .oeq (g n) (top g)) (xori (seen g n) (constantI S256x1 1 1#1))

/-- The gates with the first greatest one struck out. -/
def upd (g : ℕ → FVec Ideal S256x1 .f32) (n : ℕ) : FVec Ideal S256x1 .f32 :=
  select (pick g n) (broadcast S256x1 (Scalar.ofBits .f32 0xFF800000#32)) (g n)

/-- The gates of the block's queries, -/
def g0 (i : grid0.Coords) (x0 : Vec Ideal S1x256x128 .f32) (x1 : Vec Ideal S1x2048x128 .f32) (n : ℕ) : FVec Ideal S256x1 .f32 :=
  gateV i (View.ld x0 r0_0) (rows x1 n) n
/-- after one pick, -/
def g1 (i : grid0.Coords) (x0 : Vec Ideal S1x256x128 .f32) (x1 : Vec Ideal S1x2048x128 .f32) (n : ℕ) : FVec Ideal S256x1 .f32 :=
  upd (g0 i x0 x1) n
/-- and after two. -/
def g2 (i : grid0.Coords) (x0 : Vec Ideal S1x256x128 .f32) (x1 : Vec Ideal S1x2048x128 .f32) (n : ℕ) : FVec Ideal S256x1 .f32 :=
  upd (g1 i x0 x1) n

/-- Whether block `n` is picked in one of the three rounds. -/
def sel (i : grid0.Coords) (x0 : Vec Ideal S1x256x128 .f32) (x1 : Vec Ideal S1x2048x128 .f32) (n : ℕ) : IVec S256x1 1 :=
  ori (ori (ori (broadcast S256x1 0#1) (pick (g0 i x0 x1) n)) (pick (g1 i x0 x1) n)) (pick (g2 i x0 x1) n)

/-- The masked, scaled scores of a block of queries against key block `n`, where `s` says whether the block is picked. -/
def scoreV (i : grid0.Coords) (q k : Vec Ideal S1x256x128 .f32) (s : IVec S256x1 1) (n : ℕ) : FVec Ideal S256x256 .f32 :=
  select
    (andi (broadcastTo S256x256 (ori (andi s (cmpi .sgt (k0_pay4 i) (broadcast S256x1 (BitVec.ofNat 32 n))))
        (cmpi .eq (k0_pay4 i) (broadcast S256x1 (BitVec.ofNat 32 n)))) broadcasts_S256x1_S256x256)
      (cmpi .sle (broadcastTo S256x256 (addi (broadcast S1x256 (BitVec.ofNat 32 (n * 256))) (iota .tc S1x256 32 [1] iota_S1x256_d1_w32)) broadcasts_S1x256_S256x256)
        (broadcastTo S256x256 (k0_pay109 (k0_pay4 i) k0_pay108) broadcasts_S256x1_S256x256)))
    (mulf (matmul dot_S256x128_S256x128_S256x256_1_1_0_0_n_n none (k0_pay3 (F := Ideal) q)
      (truncf .bf16 (shapeCast S256x128 k shapeCasts_S1x256x128_S256x128) bitsLt_bf16_f32) (constant S256x256 .f32 0x00000000#32))
      (broadcast S256x256 (Scalar.ofBits .f32 0x3DB504F3#32)))
    (broadcast S256x256 (Scalar.ofBits .f32 0xF149F2CA#32))

/-- The block's scores against key block `n`. -/
def sc (i : grid0.Coords) (x0 : Vec Ideal S1x256x128 .f32) (x1 : Vec Ideal S1x2048x128 .f32) (n : ℕ) : FVec Ideal S256x256 .f32 :=
  scoreV i (View.ld x0 r0_0) (rows x1 n) (sel i x0 x1 n) n

/-- The greatest score of each row of a block. -/
def rmax (s : FVec Ideal S256x256 .f32) : FVec Ideal S256x1 .f32 :=
  shapeCast S256x1 (multiReduction .maximumf [1] S256 s 0xFF800000#32 reduces_S256x256_S256 (.inl rfl) rfl) shapeCasts_S256_S256x1

/-- The sum of each row of a block. -/
def rsum (s : FVec Ideal S256x256 .f32) : FVec Ideal S256x1 .f32 :=
  shapeCast S256x1 (multiReduction .add [1] S256 s 0x00000000#32 reduces_S256x256_S256 (.inl rfl) rfl) shapeCasts_S256_S256x1

/-- The exponentials of a block of scores less the rows' maximum over all eight blocks. -/
def expV (s : ℕ → FVec Ideal S256x256 .f32) (n : ℕ) : FVec Ideal S256x256 .f32 :=
  exp (subf (s n) (broadcastTo S256x256 (top fun n => rmax (s n)) broadcasts_S256x1_S256x256))

/-- The rows' sums over all eight blocks. -/
def sumV (p : ℕ → FVec Ideal S256x256 .f32) : FVec Ideal S256x1 .f32 :=
  addf (addf (addf (addf (addf (addf (addf (rsum (p 0)) (rsum (p 1))) (rsum (p 2))) (rsum (p 3))) (rsum (p 4))) (rsum (p 5))) (rsum (p 6))) (rsum (p 7))

/-- One block's weights times its values. -/
def partV (p : FVec Ideal S256x256 .f32) (l : FVec Ideal S256x1 .f32) (v : Vec Ideal S1x256x128 .f32) : FVec Ideal S256x128 .f32 :=
  matmul dot_S256x256_S256x128_S256x128_1_0_0_1_n_n none (truncf .bf16 (divf p (broadcastTo S256x256 l broadcasts_S256x1_S256x256)) bitsLt_bf16_f32)
    (truncf .bf16 (shapeCast S256x128 v shapeCasts_S1x256x128_S256x128) bitsLt_bf16_f32) (constant S256x128 .f32 0x00000000#32)

/-- The weighted values of all eight blocks. -/
def outV (p : ℕ → FVec Ideal S256x256 .f32) (v : ℕ → Vec Ideal S1x256x128 .f32) : FVec Ideal S256x128 .f32 :=
  addf (addf (addf (addf (addf (addf (addf (addf (broadcast S256x128 (Scalar.ofBits .f32 0x00000000#32))
    (partV (p 0) (sumV p) (v 0))) (partV (p 1) (sumV p) (v 1))) (partV (p 2) (sumV p) (v 2))) (partV (p 3) (sumV p) (v 3)))
    (partV (p 4) (sumV p) (v 4))) (partV (p 5) (sumV p) (v 5))) (partV (p 6) (sumV p) (v 6))) (partV (p 7) (sumV p) (v 7))

/-- What the body stores. -/
def body (i : grid0.Coords) (x0 : Vec Ideal S1x256x128 .f32) (x1 x2 : Vec Ideal S1x2048x128 .f32) : FVec Ideal S1x256x128 .bf16 :=
  shapeCast S1x256x128 (truncf .bf16 (outV (expV (sc i x0 x1)) (rows x2)) bitsLt_bf16_f32) shapeCasts_S256x128_S1x256x128

variable (i : grid0.Coords) (x0 : Vec Ideal S1x256x128 .f32) (x1 x2 : Vec Ideal S1x2048x128 .f32)

/-- The printed gates. -/
theorem gates : k0_pay148 i x0 x1 x2 = g0 i x0 x1 0 ∧ k0_pay149 i x0 x1 x2 = g0 i x0 x1 1 ∧ k0_pay150 i x0 x1 x2 = g0 i x0 x1 2
    ∧ k0_pay151 i x0 x1 x2 = g0 i x0 x1 3 ∧ k0_pay152 i x0 x1 x2 = g0 i x0 x1 4 ∧ k0_pay153 i x0 x1 x2 = g0 i x0 x1 5
    ∧ k0_pay154 i x0 x1 x2 = g0 i x0 x1 6 ∧ k0_pay157 i x0 x1 x2 = g0 i x0 x1 7 :=
  ⟨rfl, rfl, rfl, rfl, rfl, rfl, rfl, rfl⟩

/-- The last gate, masked where it is read. -/
theorem gate7 : k0_pay14 (k0_pay147 i x0 x1 x2) (k0_pay155 i x0 x1 x2) = g0 i x0 x1 7 := rfl

/-- The greatest gate, and what the first round has picked by the fourth gate. -/
theorem top1 : k0_pay158 i x0 x1 x2 = top (g0 i x0 x1) ∧ k0_pay161 i x0 x1 x2 = seen (g0 i x0 x1) 3
    ∧ k0_pay163 i x0 x1 x2 = cmpf .oeq (g0 i x0 x1 3) (top (g0 i x0 x1)) := by
  obtain ⟨h0, h1, h2, h3, h4, h5, h6, -⟩ := gates i x0 x1 x2
  unfold k0_pay158 k0_pay161 k0_pay163
  rw [h0, h1, h2, h3, h4, h5, h6]
  exact ⟨rfl, rfl, rfl⟩

/-- The gates after the first round. -/
theorem gates1 : k0_pay159 i x0 x1 x2 = g1 i x0 x1 0 ∧ k0_pay160 i x0 x1 x2 = g1 i x0 x1 1 ∧ k0_pay162 i x0 x1 x2 = g1 i x0 x1 2
    ∧ k0_pay164 i x0 x1 x2 = g1 i x0 x1 3 ∧ k0_pay165 i x0 x1 x2 = g1 i x0 x1 4 ∧ k0_pay166 i x0 x1 x2 = g1 i x0 x1 5
    ∧ k0_pay167 i x0 x1 x2 = g1 i x0 x1 6 ∧ k0_pay168 i x0 x1 x2 = g1 i x0 x1 7 := by
  obtain ⟨h0, h1, h2, h3, h4, h5, h6, h7⟩ := gates i x0 x1 x2
  obtain ⟨t, a, b⟩ := top1 i x0 x1 x2
  unfold k0_pay159 k0_pay160 k0_pay162 k0_pay164 k0_pay165 k0_pay166 k0_pay167 k0_pay168
  rw [h0, h1, h2, h3, h4, h5, h6, h7, t, a, b]
  exact ⟨rfl, rfl, rfl, rfl, rfl, rfl, rfl, rfl⟩

/-- The greatest gate of the second round, and what it has picked by the second gate. -/
theorem top2 : k0_pay169 i x0 x1 x2 = top (g1 i x0 x1) ∧ k0_pay170 i x0 x1 x2 = seen (g1 i x0 x1) 1 := by
  obtain ⟨h0, h1, h2, h3, h4, h5, h6, h7⟩ := gates i x0 x1 x2
  obtain ⟨t, a, b⟩ := top1 i x0 x1 x2
  obtain ⟨k0, k1, k2, k3, k4, k5, k6, k7⟩ := gates1 i x0 x1 x2
  unfold k0_pay169 k0_pay170
  rw [h3, h4, h5, h6, h7, t, a, b, k0, k1, k2]
  exact ⟨rfl, rfl⟩

/-- The gates after the second round, and the second round's last pick. -/
theorem gates2 : k0_pay171 i x0 x1 x2 = g2 i x0 x1 0 ∧ k0_pay172 i x0 x1 x2 = g2 i x0 x1 1 ∧ k0_pay173 i x0 x1 x2 = g2 i x0 x1 2
    ∧ k0_pay174 i x0 x1 x2 = g2 i x0 x1 3 ∧ k0_pay175 i x0 x1 x2 = g2 i x0 x1 4 ∧ k0_pay176 i x0 x1 x2 = g2 i x0 x1 5
    ∧ k0_pay177 i x0 x1 x2 = g2 i x0 x1 6 ∧ k0_pay178 i x0 x1 x2 = pick (g1 i x0 x1) 7 := by
  obtain ⟨h0, h1, h2, h3, h4, h5, h6, h7⟩ := gates i x0 x1 x2
  obtain ⟨t, a, b⟩ := top1 i x0 x1 x2
  obtain ⟨k0, k1, k2, k3, k4, k5, k6, k7⟩ := gates1 i x0 x1 x2
  obtain ⟨t2, a2⟩ := top2 i x0 x1 x2
  unfold k0_pay171 k0_pay172 k0_pay173 k0_pay174 k0_pay175 k0_pay176 k0_pay177 k0_pay178
  rw [h3, h4, h5, h6, h7, t, a, b, k0, k1, k2, k3, k4, k5, k6, k7, t2, a2]
  exact ⟨rfl, rfl, rfl, rfl, rfl, rfl, rfl, rfl⟩

/-- The scores of the first four blocks. -/
theorem scores : k0_pay181 i x0 x1 x2 = sc i x0 x1 0 ∧ k0_pay182 i x0 x1 x2 = sc i x0 x1 1 ∧ k0_pay183 i x0 x1 x2 = sc i x0 x1 2
    ∧ k0_pay184 i x0 x1 x2 = sc i x0 x1 3 ∧ k0_pay185 i x0 x1 x2 = sc i x0 x1 4 ∧ k0_pay186 i x0 x1 x2 = sc i x0 x1 5
    ∧ k0_pay187 i x0 x1 x2 = sc i x0 x1 6 ∧ k0_pay192 i x0 x1 x2 = sc i x0 x1 7 := by
  obtain ⟨h0, h1, h2, h3, h4, h5, h6, h7⟩ := gates i x0 x1 x2
  obtain ⟨t, a, b⟩ := top1 i x0 x1 x2
  obtain ⟨k0, k1, k2, k3, k4, k5, k6, k7⟩ := gates1 i x0 x1 x2
  obtain ⟨t2, a2⟩ := top2 i x0 x1 x2
  obtain ⟨l0, l1, l2, l3, l4, l5, l6, l7⟩ := gates2 i x0 x1 x2
  unfold k0_pay181 k0_pay182 k0_pay183 k0_pay184 k0_pay185 k0_pay186 k0_pay187 k0_pay192 k0_pay189
  rw [h0, h1, h2, h3, h4, h5, h6, h7, t, a, b, k0, k1, k2, k3, k4, k5, k6, k7, t2, a2, l0, l1, l2, l3, l4, l5, l6, l7]
  exact ⟨rfl, rfl, rfl, rfl, rfl, rfl, rfl, rfl⟩

/-- The exponentials, the rows' maximum and the rows' sum. -/
theorem exps : k0_pay193 i x0 x1 x2 = top (fun n => rmax (sc i x0 x1 n))
    ∧ k0_pay194 i x0 x1 x2 = expV (sc i x0 x1) 0 ∧ k0_pay195 i x0 x1 x2 = expV (sc i x0 x1) 1 ∧ k0_pay196 i x0 x1 x2 = expV (sc i x0 x1) 2
    ∧ k0_pay197 i x0 x1 x2 = expV (sc i x0 x1) 3 ∧ k0_pay198 i x0 x1 x2 = expV (sc i x0 x1) 4 ∧ k0_pay199 i x0 x1 x2 = expV (sc i x0 x1) 5 := by
  obtain ⟨h0, h1, h2, h3, h4, h5, h6, h7⟩ := scores i x0 x1 x2
  unfold k0_pay193 k0_pay194 k0_pay195 k0_pay196 k0_pay197 k0_pay198 k0_pay199
  have h7' : k0_pay128 (k0_pay146 i x0 x1 x2) (k0_pay188 i x0 x1 x2) (k0_pay189 i x0 x1 x2) (k0_pay190 i x0 x1 x2) (k0_pay191 i x0 x1 x2) = sc i x0 x1 7 := h7
  rw [h0, h1, h2, h3, h4, h5, h6]
  unfold k0_pay130 k0_pay131 k0_pay132 k0_pay133 k0_pay134 k0_pay135 k0_pay129
  rw [h7']
  exact ⟨rfl, rfl, rfl, rfl, rfl, rfl, rfl⟩

/-- The rows' sum. -/
theorem sums : k0_pay200 i x0 x1 x2 = sumV (expV (sc i x0 x1)) := by
  obtain ⟨h0, h1, h2, h3, h4, h5, h6, h7⟩ := scores i x0 x1 x2
  obtain ⟨t, p0, p1, p2, p3, p4, p5⟩ := exps i x0 x1 x2
  unfold k0_pay200
  rw [h6, h7, t, p0, p1, p2, p3, p4, p5]
  rfl

/-- What the body leaves in the result's buffer. -/
theorem out_eq : out0_3 i x0 x1 x2 = View.canon [⟨r0_0, body i x0 x1 x2⟩] := by
  obtain ⟨h0, h1, h2, h3, h4, h5, h6, h7⟩ := scores i x0 x1 x2
  obtain ⟨t, p0, p1, p2, p3, p4, p5⟩ := exps i x0 x1 x2
  unfold out0_3
  rw [sums i x0 x1 x2, h6, h7, t, p0, p1, p2, p3, p4, p5]
  rfl

end Cert.MobaBody

end
-- ==== Proof.MobaRead.lean ====
/-
  The block-sparse attention kernel's body at an element of what it stores.
-/
module

public import proofs.«01_k».proof.Proof.Common
public import proofs.«01_k».proof.Proof.KernelRef
public import proofs.«01_k».proof.Proof.MobaSelect
public import proofs.«01_k».proof.Proof.MobaBody
public import Idealize.ShloMosaic.Lib.WordCmp
public import Idealize.ShloMosaic.Lib.Pipeline.ValueKit.Tiles

@[expose] public section

set_option maxRecDepth 16384

noncomputable section

open Idealize.ShloMosaic Idealize.ShloMosaic.TcCoe Idealize.SL.Sem

namespace Cert.MobaRead

open Cert.MobaIdeal Cert.MobaIdeal.Gen Cert.Common Cert.MobaSelect Cert.MobaBody
open Cert.KernelRef (rowMax soft)

/-- Row `r` of key block `n` is row `256 n + r` of all the keys. -/
theorem rows_apply (x : Vec Ideal S1x2048x128 .f32) (n : Fin 8) (r : Fin 256) (d : Fin 128) :
    (rows x n.val (ix3 0 r d) : EReal) = x (ix3 0 ⟨n.val * 256 + r.val, by omega⟩ d) := by
  have h : ∀ (n : Fin 8) (o : ℕ) (inb : ∀ a, (![0, o, 0] : Fin 3 → ℕ) a + S1x256x128.size a ≤ S1x2048x128.size a), o = n.val * 256 →
      (View.ld x (Rect.unit (s := S1x2048x128) ![0, o, 0] S1x256x128.size inb) (ix3 0 r d) : EReal) = x (ix3 0 ⟨n.val * 256 + r.val, by omega⟩ d) := by
    intro n o inb ho
    refine View.ld_unit_apply_of x _ _ inb _ _ fun a => ?_
    match a with
    | ⟨0, _⟩ => rfl
    | ⟨1, _⟩ => show n.val * 256 + r.val = o + r.val; omega
    | ⟨2, _⟩ => show d.val = 0 + d.val; omega
  match n with
  | ⟨0, _⟩ => exact h _ 0 _ rfl
  | ⟨1, _⟩ => exact h _ 256 _ rfl
  | ⟨2, _⟩ => exact h _ 512 _ rfl
  | ⟨3, _⟩ => exact h _ 768 _ rfl
  | ⟨4, _⟩ => exact h _ 1024 _ rfl
  | ⟨5, _⟩ => exact h _ 1280 _ rfl
  | ⟨6, _⟩ => exact h _ 1536 _ rfl
  | ⟨7, _⟩ => exact h _ 1792 _ rfl

/-- A gate of a block of queries. -/
theorem gateV_apply (i : grid0.Coords) (q k : Vec Ideal S1x256x128 .f32) (n : ℕ) (r : Fin 256) :
    (gateV i q k n (ix2 r 0) : EReal)
      = Scalar.select (IntOp.cmpi .sgt (BitVec.ofNat 32 (i 2).val) (BitVec.ofNat 32 n))
          (∑ d : Fin 128, q (ix3 0 r d) * ((∑ j : Fin 256, k (ix3 0 j d)) * Ideal.ofBits .f32 998244352#32)) (Ideal.ofBits .f32 4048155338#32) := by
  unfold gateV
  unfold_payloads
  pointwise

/-- A masked score of a block of queries. -/
theorem scoreV_apply (i : grid0.Coords) (q k : Vec Ideal S1x256x128 .f32) (s : IVec S256x1 1) (n : ℕ) (r c : Fin 256) :
    (scoreV i q k s n (ix2 r c) : EReal)
      = Scalar.select
          (IntOp.andi (IntOp.ori (IntOp.andi (s (ix2 r 0)) (IntOp.cmpi .sgt (BitVec.ofNat 32 (i 2).val) (BitVec.ofNat 32 n)))
            (IntOp.cmpi .eq (BitVec.ofNat 32 (i 2).val) (BitVec.ofNat 32 n)))
            (IntOp.cmpi .sle (BitVec.ofNat 32 (n * 256 + c.val)) (BitVec.ofNat 32 ((i 2).val * 256 + r.val))))
          ((∑ d : Fin 128, q (ix3 0 r d) * k (ix3 0 c d)) * Ideal.ofBits .f32 1035273459#32) (Ideal.ofBits .f32 4048155338#32) := by
  have h : BitVec.ofNat 32 ((i 2).val * 256 + r.val)
      = IntOp.addi (IntOp.muli (BitVec.ofNat 32 (i 2).val) 256#32) (BitVec.ofNat 32 r.val) := by
    show _ = BitVec.ofNat 32 (i 2).val * 256#32 + BitVec.ofNat 32 r.val
    rw [BitVec.ofNat_add, BitVec.ofNat_mul]
  have h' : BitVec.ofNat 32 (n * 256 + c.val) = IntOp.addi (BitVec.ofNat 32 (n * 256)) (BitVec.ofNat 32 c.val) := by
    show _ = BitVec.ofNat 32 (n * 256) + BitVec.ofNat 32 c.val
    rw [BitVec.ofNat_add]
  rw [h, h']
  unfold scoreV
  unfold_payloads
  pointwise

/-- The greatest of a row of a block. -/
theorem rmax_apply (s : FVec Ideal S256x256 .f32) (r : Fin 256) :
    (rmax s (ix2 r 0) : EReal) = Finset.univ.fold max (Ideal.ofBits .f32 4286578688#32) fun c : Fin 256 => s (ix2 r c) := by
  unfold rmax
  pointwise

/-- The sum of a row of a block. -/
theorem rsum_apply (s : FVec Ideal S256x256 .f32) (r : Fin 256) : (rsum s (ix2 r 0) : EReal) = ∑ c : Fin 256, s (ix2 r c) := by
  unfold rsum
  pointwise

/-- An exponential of a row of a block. -/
theorem expV_apply (s : ℕ → FVec Ideal S256x256 .f32) (n : ℕ) (r c : Fin 256) :
    (expV s n (ix2 r c) : EReal) = Ideal.exp (s n (ix2 r c) - top (fun n => rmax (s n)) (ix2 r 0)) := by
  unfold expV
  generalize top (fun n => rmax (s n)) = t
  pointwise

/-- A weighted sum of values. -/
theorem partV_apply (p : FVec Ideal S256x256 .f32) (l : FVec Ideal S256x1 .f32) (v : Vec Ideal S1x256x128 .f32) (r : Fin 256) (e : Fin 128) :
    (partV p l v (ix2 r e) : EReal) = ∑ c : Fin 256, Ideal.div (p (ix2 r c)) (l (ix2 r 0)) * v (ix3 0 c e) := by
  unfold partV
  pointwise

/-- What is stored, from the weighted values. -/
theorem body_apply (i : grid0.Coords) (x0 : Vec Ideal S1x256x128 .f32) (x1 x2 : Vec Ideal S1x2048x128 .f32) (r : Fin 256) (e : Fin 128) :
    (body i x0 x1 x2 (ix3 0 r e) : EReal) = outV (expV (sc i x0 x1)) (rows x2) (ix2 r e) := by
  unfold body
  generalize outV (expV (sc i x0 x1)) (rows x2) = y
  pointwise

/-- A sum over all 2048 rows is the sum over the eight blocks of the sums over a block. -/
theorem sum_blocks (f : Fin 2048 → EReal) :
    ∑ j : Fin 2048, f j = ∑ n : Fin 8, ∑ c : Fin 256, f ⟨n.val * 256 + c.val, by omega⟩ := by
  rw [← Fintype.sum_prod_type' (f := fun (n : Fin 8) (c : Fin 256) => f ⟨n.val * 256 + c.val, by omega⟩)]
  refine (Fintype.sum_equiv (finProdFinEquiv (m := 8) (n := 256)) _ f fun x => congrArg f (Fin.ext ?_)).symm
  show x.1.val * 256 + x.2.val = x.2.val + 256 * x.1.val
  omega

section Pick

variable (g : ℕ → FVec Ideal S256x1 .f32) (x : S256x1.Idx)

/-- The greatest gate is the least bound of the eight. -/
theorem top_le_iff (y : EReal) : (top g x : EReal) ≤ y ↔ ∀ n : Fin 8, (g n.val x : EReal) ≤ y := by
  show max (max (max (max (max (max (max (g 0 x : EReal) (g 1 x)) (g 2 x)) (g 3 x)) (g 4 x)) (g 5 x)) (g 6 x)) (g 7 x) ≤ y ↔ _
  simp only [max_le_iff]
  constructor
  · rintro ⟨⟨⟨⟨⟨⟨⟨h0, h1⟩, h2⟩, h3⟩, h4⟩, h5⟩, h6⟩, h7⟩ n
    match n with
    | ⟨0, _⟩ => exact h0
    | ⟨1, _⟩ => exact h1
    | ⟨2, _⟩ => exact h2
    | ⟨3, _⟩ => exact h3
    | ⟨4, _⟩ => exact h4
    | ⟨5, _⟩ => exact h5
    | ⟨6, _⟩ => exact h6
    | ⟨7, _⟩ => exact h7
  · exact fun h => ⟨⟨⟨⟨⟨⟨⟨h 0, h 1⟩, h 2⟩, h 3⟩, h 4⟩, h 5⟩, h 6⟩, h 7⟩

/-- One of the first `n` gates has been seen to be the greatest. -/
theorem seen_iff (n : ℕ) : seen g n x = 1#1 ↔ ∃ b < n, (g b x : EReal) = top g x := by
  induction n with
  | zero => exact ⟨fun h => absurd h (by decide : ¬ (0#1 = 1#1)), fun ⟨b, hb, _⟩ => absurd hb (Nat.not_lt_zero b)⟩
  | succ n ih =>
    have hbit : ∀ (s : BitVec 1) (p : Bool), IntOp.ori s (IntOp.andi (BitVec.ofBool p) (IntOp.xori s 1#1)) = 1#1 ↔ (s = 1#1 ∨ p = true) := by decide
    refine Iff.trans (hbit (seen g n x) (decide ((g n x : EReal) = top g x))) ?_
    rw [ih, decide_eq_true_iff]
    constructor
    · rintro (⟨b, hb, h⟩ | h)
      · exact ⟨b, by omega, h⟩
      · exact ⟨n, Nat.lt_succ_self n, h⟩
    · rintro ⟨b, hb, h⟩
      rcases Nat.lt_succ_iff_lt_or_eq.1 hb with h' | rfl
      · exact Or.inl ⟨b, h', h⟩
      · exact Or.inr h

/-- A gate is picked just when it is the first greatest. -/
theorem pick_iff (n : Fin 8) : pick g n.val x = 1#1 ↔ First (fun n : Fin 8 => (g n.val x : EReal)) n := by
  have hbit : ∀ (s : BitVec 1) (p : Bool), IntOp.andi (BitVec.ofBool p) (IntOp.xori s 1#1) = 1#1 ↔ (p = true ∧ ¬ s = 1#1) := by decide
  refine Iff.trans (hbit (seen g n.val x) (decide ((g n.val x : EReal) = top g x))) ?_
  rw [seen_iff, decide_eq_true_iff]
  have hle : ∀ b : Fin 8, (g b.val x : EReal) ≤ top g x := (top_le_iff g x _).1 le_rfl
  constructor
  · rintro ⟨h, hs⟩
    refine ⟨fun b => (hle b).trans h.symm.le, fun b hb he => hs ⟨b.val, hb, ?_⟩⟩
    exact Eq.trans he h
  · rintro ⟨h, hs⟩
    have ht : (g n.val x : EReal) = top g x := le_antisymm (hle n) ((top_le_iff g x _).2 h)
    refine ⟨ht, ?_⟩
    rintro ⟨b, hb, he⟩
    exact hs ⟨b, by omega⟩ hb (he.trans ht.symm)

/-- Minus infinity, as the kernel writes it. -/
theorem bot_bits : Ideal.ofBits .f32 4286578688#32 = (⊥ : EReal) := by
  simp [Ideal.ofBits, Ideal.ieee]

/-- After a round the first greatest gate is struck out. -/
theorem upd_eq : (fun n : Fin 8 => (upd g n.val x : EReal)) = strike fun n : Fin 8 => (g n.val x : EReal) := by
  funext n
  classical
  unfold strike
  exact if_congr (pick_iff g x n) bot_bits rfl

end Pick

/-- A block is picked in one of the three rounds just when it is among the first three in the order of the gates. -/
theorem sel_iff (i : grid0.Coords) (x0 : Vec Ideal S1x256x128 .f32) (x1 : Vec Ideal S1x2048x128 .f32) (x : S256x1.Idx)
    (f : Fin 8 → EReal) (hf : ∀ n : Fin 8, (g0 i x0 x1 n.val x : EReal) = f n) (hb : ∀ n, f n ≠ ⊥) (n : Fin 8) :
    sel i x0 x1 n.val x = 1#1 ↔ ∃ p : Fin 8, p.val < 3 ∧ order f p = n := by
  have f0 : (fun n : Fin 8 => (g0 i x0 x1 n.val x : EReal)) = struck f (0 : Fin 8).val := (funext hf).trans (struck_zero f).symm
  have f1 : (fun n : Fin 8 => (g1 i x0 x1 n.val x : EReal)) = struck f (1 : Fin 8).val :=
    (upd_eq (g0 i x0 x1) x).trans ((congrArg strike f0).trans (strike_struck f hb 0))
  have f2 : (fun n : Fin 8 => (g2 i x0 x1 n.val x : EReal)) = struck f (2 : Fin 8).val :=
    (upd_eq (g1 i x0 x1) x).trans ((congrArg strike f1).trans (strike_struck f hb 1))
  have hbit : ∀ a b c : BitVec 1, IntOp.ori (IntOp.ori (IntOp.ori 0#1 a) b) c = 1#1 ↔ (a = 1#1 ∨ b = 1#1 ∨ c = 1#1) := by decide
  refine Iff.trans (hbit (pick (g0 i x0 x1) n.val x) (pick (g1 i x0 x1) n.val x) (pick (g2 i x0 x1) n.val x)) ?_
  rw [pick_iff, pick_iff, pick_iff, f0, f1, f2, first_struck f hb, first_struck f hb, first_struck f hb]
  constructor
  · rintro (h | h | h)
    · exact ⟨0, by decide, h⟩
    · exact ⟨1, by decide, h⟩
    · exact ⟨2, by decide, h⟩
  · rintro ⟨p, hp, h⟩
    match p, hp with
    | ⟨0, _⟩, _ => exact Or.inl h
    | ⟨1, _⟩, _ => exact Or.inr (Or.inl h)
    | ⟨2, _⟩, _ => exact Or.inr (Or.inr h)

/-- The body's store over a row of scores: their softmax over all 2048 keys applied to the values. -/
theorem body_row (i : grid0.Coords) (x0 : Vec Ideal S1x256x128 .f32) (x1 x2 : Vec Ideal S1x2048x128 .f32) (r : Fin 256) (e : Fin 128)
    (s : Fin 2048 → EReal) (hs : ∀ (n : Fin 8) (c : Fin 256), (sc i x0 x1 n.val (ix2 r c) : EReal) = s ⟨n.val * 256 + c.val, by omega⟩) :
    (body i x0 x1 x2 (ix3 0 r e) : EReal) = ∑ j : Fin 2048, soft s j * x2 (ix3 0 j e) := by
  rw [body_apply]
  generalize sc i x0 x1 = p at hs
  have hm : (top (fun n => rmax (p n)) (ix2 r 0) : EReal) = rowMax s := by
    refine eq_of_forall_ge_iff fun y => ?_
    rw [top_le_iff]
    unfold rowMax
    rw [Finset.fold_max_le]
    constructor
    · intro h
      refine ⟨?_, fun j _ => ?_⟩
      · have h0 := h 0
        rw [rmax_apply, Finset.fold_max_le] at h0
        exact h0.1
      · have hj := h ⟨j.val / 256, by omega⟩
        rw [rmax_apply, Finset.fold_max_le] at hj
        have := hj.2 ⟨j.val % 256, by omega⟩ (Finset.mem_univ _)
        rw [hs ⟨j.val / 256, by omega⟩] at this
        refine le_trans (le_of_eq (congrArg s (Fin.ext ?_))) this
        show j.val = j.val / 256 * 256 + j.val % 256
        omega
    · rintro ⟨h, h'⟩ n
      rw [rmax_apply, Finset.fold_max_le]
      exact ⟨h, fun c _ => (hs n c).le.trans (h' _ (Finset.mem_univ _))⟩
  have he : ∀ (n : Fin 8) (c : Fin 256), (expV p n.val (ix2 r c) : EReal) = Ideal.exp (s ⟨n.val * 256 + c.val, by omega⟩ - rowMax s) := by
    intro n c
    rw [expV_apply, hm, hs]
  have hl : (sumV (expV p) (ix2 r 0) : EReal) = ∑ j : Fin 2048, Ideal.exp (s j - rowMax s) := by
    rw [sum_blocks, Fin.sum_univ_eight]
    have hr : ∀ n : Fin 8, (rsum (expV p n.val) (ix2 r 0) : EReal) = ∑ c : Fin 256, Ideal.exp (s ⟨n.val * 256 + c.val, by omega⟩ - rowMax s) := by
      intro n
      rw [rsum_apply]
      exact Finset.sum_congr rfl fun c _ => he n c
    rw [← hr 0, ← hr 1, ← hr 2, ← hr 3, ← hr 4, ← hr 5, ← hr 6, ← hr 7]
    rfl
  rw [sum_blocks, Fin.sum_univ_eight]
  have hp : ∀ n : Fin 8, (partV (expV p n.val) (sumV (expV p)) (rows x2 n.val) (ix2 r e) : EReal)
      = ∑ c : Fin 256, soft s ⟨n.val * 256 + c.val, by omega⟩ * x2 (ix3 0 ⟨n.val * 256 + c.val, by omega⟩ e) := by
    intro n
    rw [partV_apply, hl]
    refine Finset.sum_congr rfl fun c _ => ?_
    rw [he, rows_apply]
    rfl
  rw [← hp 0, ← hp 1, ← hp 2, ← hp 3, ← hp 4, ← hp 5, ← hp 6, ← hp 7]
  refine Eq.trans ?_ (congrArg (fun z => ((((((z + _) + _) + _) + _) + _) + _) + _)
    (zero_add (partV (expV p 0) (sumV (expV p)) (rows x2 0) (ix2 r e) : EReal)))
  rw [← Ideal.ofBits_zero_f32]
  rfl

end Cert.MobaRead

end
-- ==== Proof.MobaValue.lean ====
/-
  The block-sparse attention of the prompt: of finite arguments, what the tiled kernel leaves is `moba` of them, and so does
  the reference.
-/
module

public import proofs.«01_k».proof.Defs
public import proofs.«01_k».proof.Proof.Common
public import proofs.«01_k».proof.Proof.MobaRef
public import proofs.«01_k».proof.Proof.MobaRead
public import proofs.«01_k».proof.Proof.Gen.MobaIdeal.Value
public import proofs.«01_k».proof.Proof.Gen.MobaRefIdeal.Run
public import proofs.«01_k».proof.Proof.Gen.Pre_finite

@[expose] public section

set_option maxRecDepth 16384

noncomputable section

open Idealize.ShloMosaic Idealize.ShloMosaic.TcCoe Idealize.SL.Sem
open Idealize.ShloMosaic.Pipeline (Dat)

namespace Cert.MobaValue

open Cert.MobaIdeal Cert.MobaIdeal.Gen Cert.Common Cert.MobaSelect Cert.MobaBody Cert.MobaRead Cert.MobaRef
open Cert.KernelRef (rowMax soft)

/-- A value that is a real number. -/
def Real' (x : EReal) : Prop := ∃ r : ℝ, x = (r : EReal)

/-- Sums of real numbers are real numbers. -/
theorem real_sum {ι : Type} (s : Finset ι) (f : ι → EReal) (h : ∀ i, Real' (f i)) : Real' (∑ i ∈ s, f i) := by
  refine Finset.sum_induction f Real' ?_ ⟨0, EReal.coe_zero.symm⟩ fun i _ => h i
  rintro _ _ ⟨x, rfl⟩ ⟨y, rfl⟩
  exact ⟨x + y, (EReal.coe_add x y).symm⟩

/-- Products of real numbers are real numbers. -/
theorem real_mul {x y : EReal} (hx : Real' x) (hy : Real' y) : Real' (x * y) := by
  obtain ⟨a, rfl⟩ := hx
  obtain ⟨b, rfl⟩ := hy
  exact ⟨a * b, (EReal.coe_mul a b).symm⟩

/-- The 256 the reference divides by. -/
theorem bits_256 : Ideal.ofBits .f32 1132462080#32 = ((256 : ℝ) : EReal) := by
  simp [Ideal.ofBits, Ideal.ieee, -EReal.coe_mul]
  norm_num

/-- The 1/256 the kernel multiplies by. -/
theorem bits_inv : Ideal.ofBits .f32 998244352#32 = ((256⁻¹ : ℝ) : EReal) := by
  simp [Ideal.ofBits, Ideal.ieee, -EReal.coe_mul]
  norm_num

/-- Dividing by 256 is multiplying by 1/256. -/
theorem div_256 (x : EReal) : Ideal.div x (Ideal.ofBits .f32 1132462080#32) = x * Ideal.ofBits .f32 998244352#32 := by
  rw [bits_256, bits_inv]
  unfold Ideal.div
  rw [if_neg (by norm_num), EReal.coe_inv]

/-- The value a masked gate gets is a real number. -/
theorem real_masked : Real' (Ideal.ofBits .f32 4048155338#32) := by
  simp [Ideal.ofBits, Ideal.ieee, -EReal.coe_mul]
  exact ⟨_, rfl⟩

/-- The gates of finite arguments are real numbers. -/
theorem real_gate (u : Cert.MobaRefIdeal.S4x2048x10240.Idx → EReal) (hu : ∀ i, Real' (u i)) (b : Fin 4) (h : Fin 8) (q : Fin 2048) (n : Fin 8) :
    Real' (gate u b h q n) := by
  unfold gate
  split
  · refine real_sum _ _ fun d => real_mul (hu _) ?_
    rw [div_256, bits_inv]
    exact real_mul (real_sum _ _ fun r => hu _) ⟨_, rfl⟩
  · exact real_masked

/-- A real number is not minus infinity. -/
theorem Real'.ne_bot {x : EReal} (h : Real' x) : x ≠ ⊥ := by
  obtain ⟨r, rfl⟩ := h
  exact EReal.coe_ne_bot r

/-- What the precondition says of an element. -/
theorem real_of_abs_lt {x : EReal} (h : max x (-x) < Ideal.ofBits .f32 2139095040#32) : Real' x := by
  have ht : Ideal.ofBits .f32 2139095040#32 = (⊤ : EReal) := by simp [Ideal.ofBits, Ideal.ieee]
  rw [ht, max_lt_iff] at h
  induction x with
  | bot => exact absurd h.2 (by simp)
  | top => exact absurd h.1 (by simp)
  | coe r => exact ⟨r, rfl⟩

section Block

variable (u : Cert.MobaRefIdeal.S4x2048x10240.Idx → EReal) (b : Fin 4) (h qi : Fin 8) (i : grid0.Coords)
variable (x0 : Vec Ideal S1x256x128 .f32) (x1 x2 : Vec Ideal S1x2048x128 .f32)

/-- The gates over the blocks are the gates of the arrays the blocks are cut from. -/
theorem gate_eq (hi : (i 2).val = qi.val) (hq : ∀ (r : Fin 256) (d : Fin 128), x0 (ix3 0 r d) = qv u b h ⟨qi.val * 256 + r.val, by omega⟩ d)
    (hk : ∀ (j : Fin 2048) (d : Fin 128), x1 (ix3 0 j d) = kv u b h j d) (r : Fin 256) (n : Fin 8) :
    (g0 i x0 x1 n.val (ix2 r 0) : EReal) = gate u b h ⟨qi.val * 256 + r.val, by omega⟩ n := by
  unfold g0
  rw [View.ld_unit_zero hz3, gateV_apply, hi]
  unfold gate
  refine if_congr (Iff.trans (WordCmp.cmpi_sgt_ofNat_eq_one_iff (by omega) (by omega)) ?_) (Finset.sum_congr rfl fun d _ => ?_) rfl
  · show n.val < qi.val ↔ n.val < (qi.val * 256 + r.val) / 256
    have : (qi.val * 256 + r.val) / 256 = qi.val := by omega
    rw [this]
  · rw [div_256, hq]
    refine congrArg (fun z => qv u b h _ d * (z * _)) (Finset.sum_congr rfl fun j _ => ?_)
    rw [rows_apply, hk]

/-- The scores over the blocks are the scores of the arrays the blocks are cut from. -/
theorem score_eq (hu : ∀ i, Real' (u i)) (hi : (i 2).val = qi.val)
    (hq : ∀ (r : Fin 256) (d : Fin 128), x0 (ix3 0 r d) = qv u b h ⟨qi.val * 256 + r.val, by omega⟩ d)
    (hk : ∀ (j : Fin 2048) (d : Fin 128), x1 (ix3 0 j d) = kv u b h j d) (r : Fin 256) (n : Fin 8) (c : Fin 256) :
    (sc i x0 x1 n.val (ix2 r c) : EReal) = score u b h ⟨qi.val * 256 + r.val, by omega⟩ ⟨n.val * 256 + c.val, by omega⟩ := by
  have hs := sel_iff i x0 x1 (ix2 r 0) (gate u b h ⟨qi.val * 256 + r.val, by omega⟩) (gate_eq u b h qi i x0 x1 hi hq hk r)
    (fun n => (real_gate u hu b h _ n).ne_bot) n
  have ho : ∀ x y : BitVec 1, IntOp.ori x y = 1#1 ↔ (x = 1#1 ∨ y = 1#1) := by decide
  have ha : ∀ x y : BitVec 1, IntOp.andi x y = 1#1 ↔ (x = 1#1 ∧ y = 1#1) := by decide
  unfold sc
  rw [View.ld_unit_zero hz3, scoreV_apply, hi]
  classical
  unfold score
  refine if_congr ?_ (congrArg (fun z => z * _) (Finset.sum_congr rfl fun d _ => ?_)) rfl
  · have hb : blk ⟨n.val * 256 + c.val, by omega⟩ = n := Fin.ext (by show (n.val * 256 + c.val) / 256 = n.val; omega)
    have hc : (n.val * 256 + c.val) / 256 = n.val := by omega
    have hr : (qi.val * 256 + r.val) / 256 = qi.val := by omega
    refine Iff.trans (ha _ _) ?_
    rw [ho, ha, hs, WordCmp.cmpi_sgt_ofNat_eq_one_iff (by omega) (by omega), WordCmp.cmpi_eq_ofNat_eq_one_iff (by omega) (by omega),
      WordCmp.cmpi_sle_ofNat_eq_one_iff (by omega) (by omega)]
    unfold ok
    rw [hb, hc, hr, eq_comm (a := qi.val)]
    exact Iff.rfl
  · rw [hq, rows_apply, hk]

/-- The body's store over the blocks is the attention of the arrays the blocks are cut from. -/
theorem out_apply (hu : ∀ i, Real' (u i)) (hi : (i 2).val = qi.val)
    (hq : ∀ (r : Fin 256) (d : Fin 128), x0 (ix3 0 r d) = qv u b h ⟨qi.val * 256 + r.val, by omega⟩ d)
    (hk : ∀ (j : Fin 2048) (d : Fin 128), x1 (ix3 0 j d) = kv u b h j d)
    (hv : ∀ (j : Fin 2048) (d : Fin 128), x2 (ix3 0 j d) = vv u b h j d) (r : Fin 256) (e : Fin 128) :
    (out0_3 (F := Ideal) i x0 x1 x2 (ix3 0 r e) : EReal) = att u b h ⟨qi.val * 256 + r.val, by omega⟩ e := by
  rw [out_eq, View.canon_unit_zero hz3]
  refine (body_row i x0 x1 x2 r e _ (score_eq u b h qi i x0 x1 hu hi hq hk r)).trans (Finset.sum_congr rfl fun j _ => ?_)
  rw [hv]

end Block

variable (m : (ℓ : Loc nD τ sig) → Buf (Elt Ideal) ℓ) (ρ : Dev nD → PrngReg)

/-- The projected inputs, as launched. -/
abbrev U (c : Dev nD) : S4x2048x10240.Idx → EReal := m ((c : Thread nD τ).loc main_arg0)
/-- The attention of the arguments. -/
abbrev G (c : Dev nD) : S4x2048x1024.Idx → EReal := moba (U m c)

/-- Which block each window is on at point `t`: the query tile runs fastest, then the head, then the batch. -/
theorem idx_facts : ∀ t : Fin grid0.N, (grid0.coords t 2).val = t.val % 8
    ∧ (win0_0.index t 0 = t.val / 64 ∧ win0_0.index t 1 = t.val % 8 ∧ win0_0.index t 2 = 32 + t.val / 8 % 8)
    ∧ (win0_1.index t 0 = t.val / 64 ∧ win0_1.index t 1 = 0 ∧ win0_1.index t 2 = 40 + t.val / 8 % 8)
    ∧ (win0_2.index t 0 = t.val / 64 ∧ win0_2.index t 1 = 0 ∧ win0_2.index t 2 = 48 + t.val / 8 % 8)
    ∧ (win0_3.index t 0 = t.val / 64 ∧ win0_3.index t 1 = t.val % 8 ∧ win0_3.index t 2 = t.val / 8 % 8) := by decide +kernel

/-- Finite arguments hold real numbers. -/
theorem real_of_pre (hpre : Cert.Pre_MobaIdeal_finite m) (c : Dev nD) (i : S4x2048x10240.Idx) : Real' (U m c i) := by
  have h : BitVec.ofBool (decide (max (U m c i) (-(U m c i)) < Ideal.ofBits .f32 2139095040#32)) = 1#1 := congrFun (hpre c) i
  refine real_of_abs_lt ?_
  by_contra hn
  rw [decide_eq_false hn] at h
  exact absurd h (by decide)

/-- What point `t` writes back is its block of the attention. -/
theorem flushed_eq (hpre : Cert.Pre_MobaIdeal_finite m) (c : Dev nD) (t : Fin cfg0.N) :
    (dats m 0 c).flushed 3 t = (win0_3.blk t).view.read (Elt Ideal) (G m c) := by
  rw [Value.flushed3]
  have hN : cfg0.N = 256 := N_0
  have htl := t.isLt
  obtain ⟨i2, ⟨q0, q1, q2⟩, ⟨k0, k1, k2⟩, ⟨v0, v1, v2⟩, o0, o1, o2⟩ := idx_facts t
  funext w
  obtain ⟨r, a, rfl⟩ : ∃ (r : Fin 256) (a : Fin 128), w = ix3 0 r a :=
    ⟨w 1, w 2, idx_ext3 (by show (w 0).val = 0; have : (w 0).val < 1 := (w 0).isLt; omega) rfl rfl⟩
  have hr := r.isLt
  have ha := a.isLt
  refine (out_apply (U m c) ⟨t.val / 64, by omega⟩ ⟨t.val / 8 % 8, by omega⟩ ⟨t.val % 8, by omega⟩ (grid0.coords t)
    _ _ _ (real_of_pre m hpre c) i2 (fun r a => ?_) (fun j a => ?_) (fun j a => ?_) r a).trans ?_
  · refine Eq.trans (show _ = V m c main_arg0 ((win0_0.rect t).emb (ix3 0 r a)) from rfl) ?_
    rw [V_main_arg0]
    refine congrArg (U m c) (idx_ext3 ?_ ?_ ?_)
    · rw [win0_0.rect_emb_val t _ 0, q0]; show t.val / 64 * 1 + 0 = t.val / 64; omega
    · rw [win0_0.rect_emb_val t _ 1, q1]; rfl
    · rw [win0_0.rect_emb_val t _ 2, q2]; show (32 + t.val / 8 % 8) * 128 + a.val = 4096 + (t.val / 8 % 8 * 128 + a.val); omega
  · refine Eq.trans (show _ = V m c main_arg0 ((win0_1.rect t).emb (ix3 0 j a)) from rfl) ?_
    rw [V_main_arg0]
    refine congrArg (U m c) (idx_ext3 ?_ ?_ ?_)
    · rw [win0_1.rect_emb_val t _ 0, k0]; show t.val / 64 * 1 + 0 = t.val / 64; omega
    · rw [win0_1.rect_emb_val t _ 1, k1]; exact Nat.zero_add _
    · rw [win0_1.rect_emb_val t _ 2, k2]; show (40 + t.val / 8 % 8) * 128 + a.val = 5120 + (t.val / 8 % 8 * 128 + a.val); omega
  · refine Eq.trans (show _ = V m c main_arg0 ((win0_2.rect t).emb (ix3 0 j a)) from rfl) ?_
    rw [V_main_arg0]
    refine congrArg (U m c) (idx_ext3 ?_ ?_ ?_)
    · rw [win0_2.rect_emb_val t _ 0, v0]; show t.val / 64 * 1 + 0 = t.val / 64; omega
    · rw [win0_2.rect_emb_val t _ 1, v1]; exact Nat.zero_add _
    · rw [win0_2.rect_emb_val t _ 2, v2]; show (48 + t.val / 8 % 8) * 128 + a.val = 6144 + (t.val / 8 % 8 * 128 + a.val); omega
  · show _ = G m c ((win0_3.rect t).emb (ix3 0 r a))
    have e0 : ((win0_3.rect t).emb (ix3 0 r a) 0).val = t.val / 64 := by
      rw [win0_3.rect_emb_val t _ 0, o0]; show t.val / 64 * 1 + 0 = t.val / 64; omega
    have e1 : ((win0_3.rect t).emb (ix3 0 r a) 1).val = t.val % 8 * 256 + r.val := by
      rw [win0_3.rect_emb_val t _ 1, o1]; rfl
    have e2 : ((win0_3.rect t).emb (ix3 0 r a) 2).val = t.val / 8 % 8 * 128 + a.val := by
      rw [win0_3.rect_emb_val t _ 2, o2]; rfl
    unfold G moba
    have f0 : (⟨t.val / 64, by omega⟩ : Fin 4) = (win0_3.rect t).emb (ix3 0 r a) 0 := Fin.ext e0.symm
    have f1 : (⟨t.val % 8 * 256 + r.val, by omega⟩ : Fin 2048) = (win0_3.rect t).emb (ix3 0 r a) 1 := Fin.ext e1.symm
    have f2 : (⟨t.val / 8 % 8, by omega⟩ : Fin 8) = ⟨((win0_3.rect t).emb (ix3 0 r a) 2).val / 128, tile_lt (a := 8) ((win0_3.rect t).emb (ix3 0 r a) 2).isLt⟩ :=
      Fin.ext (by show t.val / 8 % 8 = _ / 128; rw [e2]; omega)
    have f3 : a = ⟨((win0_3.rect t).emb (ix3 0 r a) 2).val % 128, Nat.mod_lt _ (by decide)⟩ :=
      Fin.ext (by show a.val = _ % 128; rw [e2]; omega)
    rw [← f0, ← f1, ← f2, ← f3]

/-- Every element of the result is in the block of some point. -/
theorem cover (i : S4x2048x1024.Idx) :
    ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 1024 := (i 2).isLt
  have hN : cfg0.N = 256 := N_0
  have ht : (i 0).val * 64 + (i 2).val / 128 * 8 + (i 1).val / 256 < cfg0.N := by omega
  obtain ⟨_, _, _, _, o0, o1, o2⟩ := idx_facts ⟨_, ht⟩
  refine ⟨⟨_, ht⟩, flush0_3 _, Finset.mem_map.mpr ⟨ix3 0 ⟨(i 1).val % 256, by omega⟩ ⟨(i 2).val % 128, by omega⟩, Finset.mem_univ _, ?_⟩⟩
  refine idx_ext3 ?_ ?_ ?_
  · refine (win0_3.rect_emb_val _ _ 0).trans ?_
    rw [o0]
    show ((i 0).val * 64 + (i 2).val / 128 * 8 + (i 1).val / 256) / 64 * 1 + 0 = (i 0).val
    omega
  · refine (win0_3.rect_emb_val _ _ 1).trans ?_
    rw [o1]
    show ((i 0).val * 64 + (i 2).val / 128 * 8 + (i 1).val / 256) % 8 * 256 + (i 1).val % 256 = (i 1).val
    omega
  · refine (win0_3.rect_emb_val _ _ 2).trans ?_
    rw [o2]
    show ((i 0).val * 64 + (i 2).val / 128 * 8 + (i 1).val / 256) / 8 % 8 * 128 + (i 2).val % 128 = (i 2).val
    omega

/-- So the result array ends holding the attention. -/
theorem final (hpre : Cert.Pre_MobaIdeal_finite m) (c : Dev nD) : (dats m 0 c).arrAt 3 cfg0.N = G m c :=
  (dats m 0 c).arrAt_eq_of_cover 3 (G m c) (fun t _ => flushed_eq m hpre c t) cover

/-- The tiled attention and the reference end with the same result from the same finite arguments. -/
theorem algebraic : Cert.algebraic_MobaIdeal_MobaRefIdeal_pre_finite := fun m ρ m' ρ' hpre hag =>
  ⟨fun c => G m c,
    (θ_run Cert.MobaIdeal.defs _ _).mono (fun _ h c => ⟨(h c).1.trans (final m hpre c), (h c).2⟩)
      (Value.run_blocks (F := Ideal) m ρ),
    (θ_run Cert.MobaRefIdeal.defs _ _).mono (fun _ h c => ⟨(h c).1.trans ((Cert.MobaRefIdeal.Read.val_main_v69_eq m' c).trans
        ((ref_eq _).trans (congrArg moba (hag c)))), (h c).2⟩)
      (Cert.MobaRefIdeal.Value.run (F := Ideal) m' ρ')⟩

/-- The reference runs, leaves its argument as launched, and has no semaphore to leave raised. -/
theorem frame_ref : Cert.quiescent_MobaRefIdeal := fun m ρ _ =>
  (θ_run Cert.MobaRefIdeal.defs _ _).mono (fun r h => ⟨fun c => (h c).2, sem_eq_zero_of_no_sems (by decide) r.2⟩)
    (Cert.MobaRefIdeal.Value.run (F := Ideal) m ρ)

end Cert.MobaValue

end
-- ==== Proof.PeerBody.lean ====
/-
  The dense expert layer's kernel body: what one grid step leaves in its block of the result, written as one tile of gates, one tile of
  activations and their product with the experts' second matrix.
-/
module

public import proofs.«01_k».proof.Proof.Common
public import proofs.«01_k».proof.Proof.Gen.PeerIdeal.Frame
public import Idealize.ShloMosaic.Lib.Pipeline.ValueKit.Tiles
public import Idealize.ShloMosaic.Lib.WholeRead
public import Idealize.ShloMosaic.Lib.VecWindow

@[expose] public section

set_option maxRecDepth 16384

noncomputable section

open Idealize.ShloMosaic Idealize.ShloMosaic.TcCoe Idealize.SL.Sem

namespace Cert.PeerBody

open Cert.PeerIdeal Cert.PeerIdeal.Gen Cert.Common

variable {F : FTy → Type} [FloatOps F]

/-! ## The values -/

/-- The first-key row of the tables that half `al` of the step's experts reads. -/
def keyRow (i : grid0.Coords) (al : Fin 2) : ℕ :=
  (Scalar.indexCast (Scalar.addi (Scalar.muli (BitVec.ofNat 32 (i 1).val) 2#32) (BitVec.ofNat 32 al.val))).toNat

/-- It is twice the expert tile, plus the half. -/
theorem keyRow_eq (i : grid0.Coords) (al : Fin 2) : keyRow i al = 2 * (i 1).val + al.val := by
  have h : ∀ (e : Fin 64) (al : Fin 2),
      (Scalar.indexCast (Scalar.addi (Scalar.muli (BitVec.ofNat 32 e.val) 2#32) (BitVec.ofNat 32 al.val))).toNat = 2 * e.val + al.val := by
    decide +kernel
  exact h (i 1) al

/-- That row lies in the tables. -/
theorem keyRow_inb (i : grid0.Coords) (al c : Fin 2) (h : Fin 8) :
    ∀ a, (![h.val, keyRow i al, 256 * c.val] : Fin 3 → ℕ) a + S1x1x256.size a ≤ S8x128x512.size a := by
  have e : (i 1).val < 64 := (i 1).isLt
  intro a
  fin_cases a
  · show h.val + 1 ≤ 8
    omega
  · show keyRow i al + 1 ≤ 128
    rw [keyRow_eq]
    omega
  · show 256 * c.val + 256 ≤ 512
    omega

/-- A head's 128 second-key rows lie in the tables. -/
theorem head_inb (c : Fin 2) (h : Fin 8) :
    ∀ a, (![h.val, 0, 256 * c.val] : Fin 3 → ℕ) a + S1x128x256.size a ≤ S8x128x512.size a := by
  intro a
  fin_cases a
  · show h.val + 1 ≤ 8
    omega
  · exact le_of_eq (Nat.zero_add _)
  · show 256 * c.val + 256 ≤ 512
    omega

/-- Head `h`'s row for the first key, over half `c` of the tokens. -/
abbrev rowRect (i : grid0.Coords) (al c : Fin 2) (h : Fin 8) : LoadRect S8x128x512 :=
  (Rect.unit (s := S8x128x512) ![h.val, keyRow i al, 256 * c.val] S1x1x256.size (keyRow_inb i al c h)).toLoadRect

/-- Head `h`'s rows for every second key, over half `c` of the tokens. -/
abbrev headRect (c : Fin 2) (h : Fin 8) : LoadRect S8x128x512 :=
  (Rect.unit (s := S8x128x512) ![h.val, 0, 256 * c.val] S1x128x256.size (head_inb c h)).toLoadRect

/-- What a load of a table gives, for each rectangle of it. -/
abbrev Load (F : FTy → Type) : Type := (R : LoadRect S8x128x512) → Vec F R.shape .f32

/-- One head's gates: where the second key's rank is below the first key's count the product of the two exponentials, elsewhere zero. -/
def term (cn e1 : Vec F S1x1x256 .f32) (r2 e2 : Vec F S1x128x256 .f32) : FVec F S128x256 .f32 :=
  select
    (cmpf .olt (shapeCast S128x256 r2 shapeCasts_S1x128x256_S128x256)
      (broadcastTo S128x256 (shapeCast S1x256 cn shapeCasts_S1x1x256_S1x256) broadcasts_S1x256_S128x256))
    (mulf (shapeCast S128x256 e2 shapeCasts_S1x128x256_S128x256)
      (broadcastTo S128x256 (shapeCast S1x256 e1 shapeCasts_S1x1x256_S1x256) broadcasts_S1x256_S128x256))
    (broadcast S128x256 (Scalar.ofBits .f32 0x00000000#32))

/-- Eight heads added up from zero, turned to tokens by experts. -/
def sumHeads (f : Fin 8 → FVec F S128x256 .f32) : FVec F S256x128 .f32 :=
  transpose S256x128 [1, 0]
    (addf (addf (addf (addf (addf (addf (addf (addf (broadcast S128x256 (Scalar.ofBits .f32 0x00000000#32)) (f 0)) (f 1)) (f 2)) (f 3)) (f 4))
      (f 5)) (f 6)) (f 7))
    transposes_S128x256_p1_0_S256x128

/-- The gates of half `al` of the experts for half `c` of the tokens. -/
def quarter (i : grid0.Coords) (l3 l4 l5 l6 : Load F) (al c : Fin 2) : FVec F S256x128 .f32 :=
  sumHeads fun h => term (l3 (rowRect i al c h)) (l4 (rowRect i al c h)) (l5 (headRect c h)) (l6 (headRect c h))

/-- Four quarters side by side. -/
def join (f : Fin 2 → Fin 2 → FVec F S256x128 .f32) : FVec F S512x256 .f32 :=
  concatenate S512x256 1
    [⟨S512x128, concatenate S512x128 0 [⟨S256x128, f 0 0⟩, ⟨S256x128, f 0 1⟩] concatenates_S256x128_S256x128_S512x128_d0⟩,
      ⟨S512x128, concatenate S512x128 0 [⟨S256x128, f 1 0⟩, ⟨S256x128, f 1 1⟩] concatenates_S256x128_S256x128_S512x128_d0⟩]
    concatenates_S512x128_S512x128_S512x256_d1

/-- The activation: half the product times one plus the error function of it over the root of two. -/
def act (h : FVec F S512x256 .f32) : FVec F S512x256 .f32 :=
  mulf (mulf (broadcast S512x256 (Scalar.ofBits .f32 0x3F000000#32)) h)
    (addf (broadcast S512x256 (Scalar.ofBits .f32 0x3F800000#32)) (erf (mulf h (broadcast S512x256 (Scalar.ofBits .f32 0x3F3504F3#32)))))

/-- The tokens' products with the step's experts. -/
def hidden (x : Vec F S512x4096 .bf16) (u : Vec F S256x4096 .bf16) : FVec F S512x256 .f32 :=
  matmul dot_S512x4096_S256x4096_S512x256_1_1_0_0_n_n none x u (constant S512x256 .f32 0x00000000#32)

/-- What the step adds to the block `xo`: gates times activations, times the experts' second matrix. -/
def body (g h : FVec F S512x256 .f32) (v : Vec F S256x4096 .bf16) (xo : Vec F S512x4096 .f32) : FVec F S512x4096 .f32 :=
  addf (shapeCast S512x4096 xo shapeCasts_S512x4096_S512x4096)
    (matmul dot_S512x256_S256x4096_S512x4096_1_0_0_1_n_n none (truncf .bf16 (mulf g (act h)) bitsLt_bf16_f32) v
      (constant S512x4096 .f32 0x00000000#32))

/-- The zeros the first step starts from. -/
def zeros : FVec F S512x4096 .f32 := broadcast S512x4096 (Scalar.ofBits .f32 0x00000000#32)

/-! ## The body's stores -/

section Pieces

variable (c : Dev nD) (i : grid0.Coords) (arg2 : Memref sig .tc .vmem S512x4096 .bf16) (harg2 : arg2.IsWhole)
  (arg3 : Memref sig .tc .vmem S256x4096 .bf16) (harg3 : arg3.IsWhole) (arg4 : Memref sig .tc .vmem S256x4096 .bf16) (harg4 : arg4.IsWhole)
  (arg5 : Memref sig .tc .vmem S8x128x512 .f32) (harg5 : arg5.IsWhole) (arg6 : Memref sig .tc .vmem S8x128x512 .f32) (harg6 : arg6.IsWhole)
  (arg7 : Memref sig .tc .vmem S8x128x512 .f32) (harg7 : arg7.IsWhole) (arg8 : Memref sig .tc .vmem S8x128x512 .f32) (harg8 : arg8.IsWhole)
  (arg9 : Memref sig .tc .vmem S512x4096 .f32) (harg9 : arg9.IsWhole)
  (x0 : Vec F S512x4096 .bf16) (x1 x2 : Vec F S256x4096 .bf16) (x3 x4 x5 x6 : Vec F S8x128x512 .f32) (xo7 : Vec F S512x4096 .f32)

/-- The loads of a whole memref that holds `x`. -/
theorem load_eq (arg : Memref sig .tc .vmem S8x128x512 .f32) (harg : arg.IsWhole) (x : Vec F S8x128x512 .f32) :
    (fun R : LoadRect S8x128x512 => View.readAt (Elt F) arg.view R (harg.unread x)) = fun R j => x (R.idx j) :=
  funext fun R => funext fun j => harg.readAt_unread x R j

/-- A load of all of a whole memref that holds `x` gives `x`. -/
theorem load_whole {s : Shape} {e : EltTy} (arg : Memref sig .tc .vmem s e) (harg : arg.IsWhole) (x : Vec F s e) {off : Fin s.rank → ℕ}
    (inb : ∀ a, off a + s.size a ≤ s.size a) :
    View.readAt (Elt F) arg.view (Rect.unit off s.size inb).toLoadRect (harg.unread x) = x := by
  rw [View.readAt_full, harg.read_unread]

/-- What a step leaves in its block. -/
abbrev left (i : grid0.Coords) (x0 : Vec F S512x4096 .bf16) (x1 x2 : Vec F S256x4096 .bf16) (x3 x4 x5 x6 : Vec F S8x128x512 .f32)
    (xo7 : Vec F S512x4096 .f32) : FVec F S512x4096 .f32 :=
  body (join (quarter i (fun R j => x3 (R.idx j)) (fun R j => x4 (R.idx j)) (fun R j => x5 (R.idx j)) (fun R j => x6 (R.idx j)))) (hidden x0 x1) x2 xo7

/-- A later step's one store, over its loads. -/
theorem pieces_B (hc0 : ¬cond0_0 i) :
    (kernelRun0_B c i arg2 harg2 arg3 harg3 arg4 harg4 arg5 harg5 arg6 harg6 arg7 harg7 arg8 harg8 arg9 harg9 hc0 x0 x1 x2 x3 x4 x5 x6 xo7).1
      = [⟨Rect.unit ![0, 0] S512x4096.size inb_S512x4096_S512x4096_0_0,
        body (join (quarter i (fun R => View.readAt (Elt F) arg5.view R (harg5.unread x3)) (fun R => View.readAt (Elt F) arg6.view R (harg6.unread x4))
            (fun R => View.readAt (Elt F) arg7.view R (harg7.unread x5)) (fun R => View.readAt (Elt F) arg8.view R (harg8.unread x6))))
          (hidden (View.readAt (Elt F) arg2.view (Rect.unit ![0, 0] S512x4096.size inb_S512x4096_S512x4096_0_0).toLoadRect (harg2.unread x0))
            (View.readAt (Elt F) arg3.view (Rect.unit ![0, 0] S256x4096.size inb_S256x4096_S256x4096_0_0).toLoadRect (harg3.unread x1)))
          (View.readAt (Elt F) arg4.view (Rect.unit ![0, 0] S256x4096.size inb_S256x4096_S256x4096_0_0).toLoadRect (harg4.unread x2))
          (View.readAt (Elt F) arg9.view (Rect.unit ![0, 0] S512x4096.size inb_S512x4096_S512x4096_0_0).toLoadRect (harg9.unread xo7))⟩] := by
  rfl

/-- The first step's two stores: zeros, then over them what a later step stores. -/
theorem pieces_A (hc0 : cond0_0 i) :
    (kernelRun0_A c i arg2 harg2 arg3 harg3 arg4 harg4 arg5 harg5 arg6 harg6 arg7 harg7 arg8 harg8 arg9 harg9 hc0 x0 x1 x2 x3 x4 x5 x6).1
      = [⟨Rect.unit ![0, 0] S512x4096.size inb_S512x4096_S512x4096_0_0,
        body (join (quarter i (fun R => View.readAt (Elt F) arg5.view R (harg5.unread x3)) (fun R => View.readAt (Elt F) arg6.view R (harg6.unread x4))
            (fun R => View.readAt (Elt F) arg7.view R (harg7.unread x5)) (fun R => View.readAt (Elt F) arg8.view R (harg8.unread x6))))
          (hidden (View.readAt (Elt F) arg2.view (Rect.unit ![0, 0] S512x4096.size inb_S512x4096_S512x4096_0_0).toLoadRect (harg2.unread x0))
            (View.readAt (Elt F) arg3.view (Rect.unit ![0, 0] S256x4096.size inb_S256x4096_S256x4096_0_0).toLoadRect (harg3.unread x1)))
          (View.readAt (Elt F) arg4.view (Rect.unit ![0, 0] S256x4096.size inb_S256x4096_S256x4096_0_0).toLoadRect (harg4.unread x2))
          (arg9.view.readCov [⟨Rect.unit ![0, 0] S512x4096.size inb_S512x4096_S512x4096_0_0, zeros⟩]
            (Rect.unit ![0, 0] S512x4096.size inb_S512x4096_S512x4096_0_0).toLoadRect)⟩,
        ⟨Rect.unit ![0, 0] S512x4096.size inb_S512x4096_S512x4096_0_0, zeros⟩] := by
  rfl

/-- What a later step leaves, over the block it found. -/
theorem out_B (hc0 : ¬cond0_0 i) :
    out0_B_7 c i arg2 harg2 arg3 harg3 arg4 harg4 arg5 harg5 arg6 harg6 arg7 harg7 arg8 harg8 arg9 harg9 hc0 x0 x1 x2 x3 x4 x5 x6 xo7
      = left i x0 x1 x2 x3 x4 x5 x6 xo7 := by
  unfold out0_B_7
  rw [View.read_writes_junk_eq_canon, pieces_B, View.canon_unit_zero hz2, load_eq, load_eq, load_eq, load_eq, load_whole, load_whole,
    load_whole, load_whole]

/-- What the first step leaves: the same, over zeros. -/
theorem out_A (hc0 : cond0_0 i) :
    out0_A_7 c i arg2 harg2 arg3 harg3 arg4 harg4 arg5 harg5 arg6 harg6 arg7 harg7 arg8 harg8 arg9 harg9 hc0 x0 x1 x2 x3 x4 x5 x6
      = left i x0 x1 x2 x3 x4 x5 x6 zeros := by
  unfold out0_A_7
  rw [View.read_writes_junk_eq_canon, pieces_A, View.canon_cons_unit_zero hz2, load_eq, load_eq, load_eq, load_eq, load_whole, load_whole,
    load_whole, View.readCov_full]

end Pieces

end Cert.PeerBody

end
-- ==== Proof.PeerValue.lean ====
/-
  The dense expert layer: the kernel, which adds up sixty-four tiles of experts for each tile of tokens, leaves the sum over every expert
  of its gate, its activation and its row of the second matrix, and so does the reference.
-/
module

public import proofs.«01_k».proof.Defs
public import proofs.«01_k».proof.Proof.Common
public import proofs.«01_k».proof.Proof.PeerBody
public import proofs.«01_k».proof.Proof.Gen.PeerIdeal.Value
public import proofs.«01_k».proof.Proof.Gen.PeerRefIdeal.Run
public import proofs.«01_k».proof.Proof.Gen.PeerRefIdeal.Read

@[expose] public section

set_option maxRecDepth 16384

noncomputable section

open Idealize.ShloMosaic Idealize.ShloMosaic.TcCoe Idealize.SL.Sem
open Idealize.ShloMosaic.Pipeline (Dat)

namespace Cert.PeerValue

open Cert.PeerIdeal Cert.PeerIdeal.Gen Cert.Common
open Cert.PeerBody (Load rowRect headRect term sumHeads quarter join act body zeros left out_A out_B keyRow_eq)

/-! ## The layer -/

section Layer

variable (x : S8192x4096.Idx → EReal) (u v : S16384x4096.Idx → EReal) (cnt e1 r2 e2 : S8x128x8192.Idx → EReal)

/-- Token `n`'s gate for the expert of first key `a` and second key `b`: over the heads that chose the pair, the exponentials' product. -/
def gate (a b : Fin 128) (n : Fin 8192) : EReal :=
  ∑ h : Fin 8, if r2 (ix3 h b n) < cnt (ix3 h a n) then e1 (ix3 h a n) * e2 (ix3 h b n) else 0

/-- Token `n` times expert `e`'s row of the first matrix. -/
def proj (n : Fin 8192) (e : Fin 16384) : EReal := ∑ k : Fin 4096, x (ix2 n k) * u (ix2 e k)

/-- The activation, with the error function. -/
def gelu (s : EReal) : EReal :=
  Ideal.ofBits .f32 0x3F000000#32 * s * (1 + Ideal.erf (s * Ideal.ofBits .f32 0x3F3504F3#32))

/-- What expert `e` adds to column `q` of token `n`. -/
def part (n : Fin 8192) (q : Fin 4096) (e : Fin 16384) : EReal :=
  gate cnt e1 r2 e2 ⟨e.val / 128, by omega⟩ ⟨e.val % 128, by omega⟩ n * gelu (proj x u n e) * v (ix2 e q)

/-- The layer's result: every expert's part. -/
def layer : S8192x4096.Idx → EReal := fun i => ∑ e : Fin 16384, part x u v cnt e1 r2 e2 (i 0) (i 1) e

/-- The parts of the experts of tile `k`. -/
def tile (n : Fin 8192) (q : Fin 4096) (k : ℕ) : EReal :=
  if hk : k < 64 then ∑ j : Fin 256, part x u v cnt e1 r2 e2 n q ⟨k * 256 + j.val, by omega⟩ else 0

/-- The sixty-four tiles together are every expert. -/
theorem sum_tiles (n : Fin 8192) (q : Fin 4096) :
    ∑ k ∈ Finset.range 64, tile x u v cnt e1 r2 e2 n q k = layer x u v cnt e1 r2 e2 (ix2 n q) := by
  rw [Finset.sum_range]
  have h (k : Fin 64) : tile x u v cnt e1 r2 e2 n q k.val
      = ∑ j : Fin 256, part x u v cnt e1 r2 e2 n q (finProdFinEquiv (m := 64) (n := 256) (k, j)) := by
    unfold tile
    rw [dif_pos k.isLt]
    refine Finset.sum_congr rfl fun j _ => congrArg _ (Fin.ext ?_)
    show k.val * 256 + j.val = j.val + 256 * k.val
    omega
  rw [Finset.sum_congr rfl fun k _ => h k, ← Fintype.sum_prod_type' (f := fun (k : Fin 64) (j : Fin 256) =>
    part x u v cnt e1 r2 e2 n q (finProdFinEquiv (m := 64) (n := 256) (k, j)))]
  exact Equiv.sum_comp (finProdFinEquiv (m := 64) (n := 256)) (part x u v cnt e1 r2 e2 n q)

end Layer

/-! ## The body at an element -/

/-- One head's gates. -/
theorem term_apply (cn e1 : Vec Ideal S1x1x256 .f32) (r2 e2 : Vec Ideal S1x128x256 .f32) (b : Fin 128) (p : Fin 256) :
    (term (F := Ideal) cn e1 r2 e2 (ix2 b p) : EReal) = if r2 (ix3 0 b p) < cn (ix3 0 0 p) then e2 (ix3 0 b p) * e1 (ix3 0 0 p) else 0 := by
  unfold term
  pointwise

/-- The heads' sum. -/
theorem sumHeads_apply (f : Fin 8 → FVec Ideal S128x256 .f32) (p : Fin 256) (b : Fin 128) :
    (sumHeads (F := Ideal) f (ix2 p b) : EReal) = ∑ h : Fin 8, (f h (ix2 b p) : EReal) := by
  rw [Fin.sum_univ_eight]
  unfold sumHeads
  pointwise

/-- The quarter an element of the four joined lies in. -/
theorem join_apply (f : Fin 2 → Fin 2 → FVec Ideal S256x128 .f32) (al c : Fin 2) (p : Fin 256) (b : Fin 128) :
    (join (F := Ideal) f (ix2 ⟨c.val * 256 + p.val, by omega⟩ ⟨al.val * 128 + b.val, by omega⟩) : EReal) = f al c (ix2 p b) := by
  have hp := p.isLt
  have hb := b.isLt
  unfold join
  pointwise
  fin_cases al <;> fin_cases c <;> simp <;> rfl

/-- The activations. -/
theorem act_apply (h : FVec Ideal S512x256 .f32) (r : Fin 512) (j : Fin 256) : (act (F := Ideal) h (ix2 r j) : EReal) = gelu (h (ix2 r j)) := by
  unfold act gelu
  pointwise
  rfl

/-- The products with the experts' rows. -/
theorem hidden_apply (x : Vec Ideal S512x4096 .bf16) (u : Vec Ideal S256x4096 .bf16) (r : Fin 512) (j : Fin 256) :
    (PeerBody.hidden (F := Ideal) x u (ix2 r j) : EReal) = ∑ k : Fin 4096, x (ix2 r k) * u (ix2 j k) := by
  unfold PeerBody.hidden
  pointwise

/-- The block with the step's experts added. -/
theorem body_apply (g h : FVec Ideal S512x256 .f32) (v : Vec Ideal S256x4096 .bf16) (xo : Vec Ideal S512x4096 .f32) (r : Fin 512) (q : Fin 4096) :
    (body (F := Ideal) g h v xo (ix2 r q) : EReal) = xo (ix2 r q) + ∑ j : Fin 256, g (ix2 r j) * gelu (h (ix2 r j)) * v (ix2 j q) := by
  simp only [← act_apply]
  unfold body
  pointwise

/-- The zeros. -/
theorem zeros_apply (r : Fin 512) (q : Fin 4096) : (zeros (F := Ideal) (ix2 r q) : EReal) = 0 := by
  unfold zeros
  pointwise

/-- A quarter of the gates, from the tables. -/
theorem quarter_apply (i : grid0.Coords) (cn e1 r2 e2 : S8x128x512.Idx → EReal) (al c : Fin 2) (p : Fin 256) (b : Fin 128) (a : Fin 128)
    (r : Fin 512) (ha : 2 * (i 1).val + al.val = a.val) (hr : c.val * 256 + p.val = r.val) :
    (quarter (F := Ideal) i (fun R j => cn (R.idx j)) (fun R j => e1 (R.idx j)) (fun R j => r2 (R.idx j)) (fun R j => e2 (R.idx j)) al c (ix2 p b) : EReal)
      = ∑ h : Fin 8, if r2 (ix3 h b r) < cn (ix3 h a r) then e1 (ix3 h a r) * e2 (ix3 h b r) else 0 := by
  have hrow (h : Fin 8) : (rowRect i al c h).idx (ix3 0 0 p) = ix3 h a r := by
    refine idx_ext3 ?_ ?_ ?_
    · show h.val + 1 * 0 = h.val
      omega
    · show PeerBody.keyRow i al + 1 * 0 = a.val
      rw [keyRow_eq]
      omega
    · show 256 * c.val + 1 * p.val = r.val
      omega
  have hhead (h : Fin 8) : (headRect c h).idx (ix3 0 b p) = ix3 h b r := by
    refine idx_ext3 ?_ ?_ ?_
    · show h.val + 1 * 0 = h.val
      omega
    · show 0 + 1 * b.val = b.val
      omega
    · show 256 * c.val + 1 * p.val = r.val
      omega
  unfold quarter
  refine (sumHeads_apply _ p b).trans (Finset.sum_congr rfl fun h _ => (term_apply _ _ _ _ b p).trans ?_)
  beta_reduce
  rw [hrow, hhead, mul_comm]

/-! ## The blocks -/

variable (m : (ℓ : Loc nD τ sig) → Buf (Elt Ideal) ℓ) (ρ : Dev nD → PrngReg)

/-- The tokens, as launched. -/
abbrev X (c : Dev nD) : S8192x4096.Idx → EReal := m ((c : Thread nD τ).loc main_arg0)
/-- The experts' first matrix. -/
abbrev U (c : Dev nD) : S16384x4096.Idx → EReal := m ((c : Thread nD τ).loc main_arg1)
/-- The experts' second matrix. -/
abbrev W (c : Dev nD) : S16384x4096.Idx → EReal := m ((c : Thread nD τ).loc main_arg2)
/-- How many second keys each first key goes with. -/
abbrev Cn (c : Dev nD) : S8x128x8192.Idx → EReal := m ((c : Thread nD τ).loc main_arg3)
/-- The first keys' exponentials. -/
abbrev E1 (c : Dev nD) : S8x128x8192.Idx → EReal := m ((c : Thread nD τ).loc main_arg4)
/-- The second keys' ranks. -/
abbrev R2 (c : Dev nD) : S8x128x8192.Idx → EReal := m ((c : Thread nD τ).loc main_arg5)
/-- The second keys' exponentials. -/
abbrev E2 (c : Dev nD) : S8x128x8192.Idx → EReal := m ((c : Thread nD τ).loc main_arg6)
/-- The layer of the arguments. -/
abbrev G (c : Dev nD) : S8192x4096.Idx → EReal := layer (X m c) (U m c) (W m c) (Cn m c) (E1 m c) (R2 m c) (E2 m c)

/-- Which tile each window is on at point `t`: tokens `t / 64`, experts `t % 64`. -/
theorem idx_facts : ∀ t : Fin grid0.N, (win0_0.index t 0 = t.val / 64 ∧ win0_0.index t 1 = 0)
    ∧ (win0_1.index t 0 = t.val % 64 ∧ win0_1.index t 1 = 0)
    ∧ (win0_2.index t 0 = t.val % 64 ∧ win0_2.index t 1 = 0)
    ∧ (win0_7.index t 0 = t.val / 64 ∧ win0_7.index t 1 = 0)
    ∧ (grid0.coords t 1).val = t.val % 64 := by decide +kernel

/-- The same for the four tables. -/
theorem table_facts : ∀ t : Fin grid0.N, (win0_3.index t 0 = 0 ∧ win0_3.index t 1 = 0 ∧ win0_3.index t 2 = t.val / 64)
    ∧ (win0_4.index t 0 = 0 ∧ win0_4.index t 1 = 0 ∧ win0_4.index t 2 = t.val / 64)
    ∧ (win0_5.index t 0 = 0 ∧ win0_5.index t 1 = 0 ∧ win0_5.index t 2 = t.val / 64)
    ∧ (win0_6.index t 0 = 0 ∧ win0_6.index t 1 = 0 ∧ win0_6.index t 2 = t.val / 64) := by decide +kernel

/-- An index whose tile is the first is its place in the tile. -/
theorem at_zero (n k : ℕ) : 0 * n + k = k := by omega

/-- The token that row `r` of a block is at point `t`. -/
def tok (t : Fin cfg0.N) (r : Fin 512) : Fin 8192 :=
  ⟨t.val / 64 * 512 + r.val, by have hN : cfg0.N = 1024 := N_0; have := t.isLt; have := r.isLt; omega⟩

/-- The expert that row `j` of a block is at point `t`. -/
def expert (t : Fin cfg0.N) (j : Fin 256) : Fin 16384 := ⟨t.val % 64 * 256 + j.val, by have := j.isLt; omega⟩

/-- The tokens' block. -/
theorem blk_x (c : Dev nD) (t : Fin cfg0.N) (r : Fin 512) (k : Fin 4096) :
    (iblk m c 0 t : S512x4096.Idx → EReal) (ix2 r k) = X m c (ix2 (tok t r) k) := by
  have h := idx_facts t
  refine Eq.trans (show _ = V m c main_arg0 ((win0_0.rect t).emb (ix2 r k)) from rfl) ?_
  rw [V_main_arg0]
  exact congrArg (X m c) (emb_at r k (win0_0.rect_emb_val t _ 0) (win0_0.rect_emb_val t _ 1) h.1.1 h.1.2 (tok t r) k rfl (at_zero _ _))

/-- The first matrix's block. -/
theorem blk_u (c : Dev nD) (t : Fin cfg0.N) (j : Fin 256) (k : Fin 4096) :
    (iblk m c 1 t : S256x4096.Idx → EReal) (ix2 j k) = U m c (ix2 (expert t j) k) := by
  have h := idx_facts t
  refine Eq.trans (show _ = V m c main_arg1 ((win0_1.rect t).emb (ix2 j k)) from rfl) ?_
  rw [V_main_arg1]
  exact congrArg (U m c) (emb_at j k (win0_1.rect_emb_val t _ 0) (win0_1.rect_emb_val t _ 1) h.2.1.1 h.2.1.2 (expert t j) k rfl (at_zero _ _))

/-- The second matrix's block. -/
theorem blk_v (c : Dev nD) (t : Fin cfg0.N) (j : Fin 256) (k : Fin 4096) :
    (iblk m c 2 t : S256x4096.Idx → EReal) (ix2 j k) = W m c (ix2 (expert t j) k) := by
  have h := idx_facts t
  refine Eq.trans (show _ = V m c main_arg2 ((win0_2.rect t).emb (ix2 j k)) from rfl) ?_
  rw [V_main_arg2]
  exact congrArg (W m c) (emb_at j k (win0_2.rect_emb_val t _ 0) (win0_2.rect_emb_val t _ 1) h.2.2.1.1 h.2.2.1.2 (expert t j) k rfl (at_zero _ _))

/-- The four tables' blocks. -/
theorem blk_tables (c : Dev nD) (t : Fin cfg0.N) (h : Fin 8) (a : Fin 128) (r : Fin 512) :
    (iblk m c 3 t : S8x128x512.Idx → EReal) (ix3 h a r) = Cn m c (ix3 h a (tok t r))
    ∧ (iblk m c 4 t : S8x128x512.Idx → EReal) (ix3 h a r) = E1 m c (ix3 h a (tok t r))
    ∧ (iblk m c 5 t : S8x128x512.Idx → EReal) (ix3 h a r) = R2 m c (ix3 h a (tok t r))
    ∧ (iblk m c 6 t : S8x128x512.Idx → EReal) (ix3 h a r) = E2 m c (ix3 h a (tok t r)) := by
  obtain ⟨h3, h4, h5, h6⟩ := table_facts t
  refine ⟨?_, ?_, ?_, ?_⟩
  · refine Eq.trans (show _ = V m c main_arg3 ((win0_3.rect t).emb (ix3 h a r)) from rfl) ?_
    rw [V_main_arg3]
    exact congrArg (Cn m c) (emb_at3 h a r (win0_3.rect_emb_val t _ 0) (win0_3.rect_emb_val t _ 1) (win0_3.rect_emb_val t _ 2)
      h3.1 h3.2.1 h3.2.2 h a (tok t r) (at_zero _ _) (at_zero _ _) rfl)
  · refine Eq.trans (show _ = V m c main_arg4 ((win0_4.rect t).emb (ix3 h a r)) from rfl) ?_
    rw [V_main_arg4]
    exact congrArg (E1 m c) (emb_at3 h a r (win0_4.rect_emb_val t _ 0) (win0_4.rect_emb_val t _ 1) (win0_4.rect_emb_val t _ 2)
      h4.1 h4.2.1 h4.2.2 h a (tok t r) (at_zero _ _) (at_zero _ _) rfl)
  · refine Eq.trans (show _ = V m c main_arg5 ((win0_5.rect t).emb (ix3 h a r)) from rfl) ?_
    rw [V_main_arg5]
    exact congrArg (R2 m c) (emb_at3 h a r (win0_5.rect_emb_val t _ 0) (win0_5.rect_emb_val t _ 1) (win0_5.rect_emb_val t _ 2)
      h5.1 h5.2.1 h5.2.2 h a (tok t r) (at_zero _ _) (at_zero _ _) rfl)
  · refine Eq.trans (show _ = V m c main_arg6 ((win0_6.rect t).emb (ix3 h a r)) from rfl) ?_
    rw [V_main_arg6]
    exact congrArg (E2 m c) (emb_at3 h a r (win0_6.rect_emb_val t _ 0) (win0_6.rect_emb_val t _ 1) (win0_6.rect_emb_val t _ 2)
      h6.1 h6.2.1 h6.2.2 h a (tok t r) (at_zero _ _) (at_zero _ _) rfl)

/-- The gates over the blocks of point `t` are the gates of the arrays. -/
theorem gates_eq (c : Dev nD) (t : Fin cfg0.N) (r : Fin 512) (j : Fin 256) :
    (join (F := Ideal) (quarter (grid0.coords t) (fun R z => iblk m c 3 t (R.idx z)) (fun R z => iblk m c 4 t (R.idx z))
        (fun R z => iblk m c 5 t (R.idx z)) (fun R z => iblk m c 6 t (R.idx z))) (ix2 r j) : EReal)
      = gate (Cn m c) (E1 m c) (R2 m c) (E2 m c) ⟨(expert t j).val / 128, by omega⟩ ⟨(expert t j).val % 128, by omega⟩ (tok t r) := by
  have hi : (grid0.coords t 1).val = t.val % 64 := (idx_facts t).2.2.2.2
  have hj := j.isLt
  have hr := r.isLt
  obtain ⟨al, b, hjj⟩ : ∃ (al : Fin 2) (b : Fin 128), j.val = al.val * 128 + b.val :=
    ⟨⟨j.val / 128, by omega⟩, ⟨j.val % 128, by omega⟩, by show j.val = j.val / 128 * 128 + j.val % 128; omega⟩
  obtain ⟨cc, p, hrr⟩ : ∃ (cc : Fin 2) (p : Fin 256), r.val = cc.val * 256 + p.val :=
    ⟨⟨r.val / 256, by omega⟩, ⟨r.val % 256, by omega⟩, by show r.val = r.val / 256 * 256 + r.val % 256; omega⟩
  have hj' : j = ⟨al.val * 128 + b.val, by omega⟩ := Fin.ext hjj
  have hr' : r = ⟨cc.val * 256 + p.val, by omega⟩ := Fin.ext hrr
  have hb : (⟨(expert t j).val % 128, by omega⟩ : Fin 128) = b := Fin.ext (by
    show (t.val % 64 * 256 + j.val) % 128 = b.val
    omega)
  have ha : 2 * (grid0.coords t 1).val + al.val = (expert t j).val / 128 := by
    show _ = (t.val % 64 * 256 + j.val) / 128
    omega
  rw [hb]
  refine Eq.trans (by rw [hj', hr']) ((join_apply _ al cc p b).trans ((quarter_apply (grid0.coords t) (iblk m c 3 t) (iblk m c 4 t) (iblk m c 5 t)
    (iblk m c 6 t) al cc p b ⟨(expert t j).val / 128, by omega⟩ r ha hrr.symm).trans ?_))
  unfold gate
  refine Finset.sum_congr rfl fun h _ => ?_
  rw [(blk_tables m c t h _ r).1, (blk_tables m c t h _ r).2.1, (blk_tables m c t h _ r).2.2.1, (blk_tables m c t h _ r).2.2.2]

/-- The parts of the experts of point `t`, for its tokens. -/
abbrev tileAt (c : Dev nD) (n : Fin 8192) (q : Fin 4096) (k : ℕ) : EReal :=
  tile (X m c) (U m c) (W m c) (Cn m c) (E1 m c) (R2 m c) (E2 m c) n q k

/-- Point `t` adds the parts of its tile of experts to what its block holds. -/
theorem left_apply (c : Dev nD) (t : Fin cfg0.N) (xo : S512x4096.Idx → EReal) (r : Fin 512) (q : Fin 4096) :
    (left (F := Ideal) (grid0.coords t) (iblk m c 0 t) (iblk m c 1 t) (iblk m c 2 t) (iblk m c 3 t) (iblk m c 4 t) (iblk m c 5 t) (iblk m c 6 t) xo
      (ix2 r q) : EReal) = xo (ix2 r q) + tileAt m c (tok t r) q (t.val % 64) := by
  refine (body_apply _ _ _ _ r q).trans (congrArg (xo (ix2 r q) + ·) ?_)
  show _ = tile _ _ _ _ _ _ _ _ _ _
  unfold tile
  rw [dif_pos (Nat.mod_lt _ (by decide))]
  refine Finset.sum_congr rfl fun j _ => ?_
  rw [gates_eq, hidden_apply, blk_v]
  simp only [blk_x, blk_u]
  rfl

/-! ## The accumulation -/

/-- After point `n` its block holds the parts of the tiles of experts met so far for its tokens. -/
theorem acc (c : Dev nD) : ∀ (n : ℕ) (hn : n < cfg0.N) (r : Fin 512) (q : Fin 4096),
    (outsAt0 m c n hn (ix2 r q) : EReal) = ∑ k ∈ Finset.range (n % 64 + 1), tileAt m c (tok ⟨n, hn⟩ r) q k := by
  intro n
  induction n with
  | zero =>
    intro hn r q
    rw [outsAt0_A m c ⟨0, hn⟩ rfl, out_A]
    refine (left_apply m c ⟨0, hn⟩ _ r q).trans ?_
    rw [zeros_apply, zero_add]
    exact (Finset.sum_range_one _).symm
  | succ n ih =>
    intro hn r q
    by_cases h0 : (n + 1) % 64 = 0
    · rw [outsAt0_A m c ⟨n + 1, hn⟩ h0, out_A]
      refine (left_apply m c ⟨n + 1, hn⟩ _ r q).trans ?_
      show _ + tileAt m c _ q ((n + 1) % 64) = _
      rw [zeros_apply, zero_add, h0]
      exact (Finset.sum_range_one _).symm
    · rw [outsAt0_B m c ⟨n + 1, hn⟩ h0, out_B]
      refine (left_apply m c ⟨n + 1, hn⟩ _ r q).trans ?_
      have hm : (n + 1) % 64 = n % 64 + 1 := by omega
      have ht : tok ⟨n, Nat.lt_of_succ_lt hn⟩ r = tok ⟨n + 1, hn⟩ r := Fin.ext (by
        show n / 64 * 512 + r.val = (n + 1) / 64 * 512 + r.val
        have : (n + 1) / 64 = n / 64 := by omega
        rw [this])
      show (outsAt0 m c n _ (ix2 r q) : EReal) + tileAt m c _ q ((n + 1) % 64) = _
      rw [ih (Nat.lt_of_succ_lt hn) r q, ht, hm, Finset.sum_range_succ _ (n % 64 + 1)]

/-- What a tile of tokens writes back, after its last tile of experts, is its tile of the layer. -/
theorem flushed_eq (c : Dev nD) (t : Fin cfg0.N) (hf : (cfg0.win 7).flush t = true) :
    (dats m 0 c).flushed 7 t = (win0_7.blk t).view.read (Elt Ideal) (G m c) := by
  have h63 := (flush0_7 t).mp hf
  have h := idx_facts t
  rw [Value.flushed7]
  funext y
  obtain ⟨r, q, rfl⟩ : ∃ (r : Fin 512) (q : Fin 4096), y = ix2 r q := ⟨y 0, y 1, eq_ix2 y⟩
  have he : (win0_7.rect t).emb (ix2 r q) = ix2 (tok t r) q :=
    emb_at (e := (win0_7.rect t).emb) r q (win0_7.rect_emb_val t _ 0) (win0_7.rect_emb_val t _ 1) h.2.2.2.1.1 h.2.2.2.1.2 (tok t r) q rfl (at_zero _ _)
  have hs : (outsAt0 m c t.val t.isLt (ix2 r q) : EReal) = G m c (ix2 (tok t r) q) := by
    rw [acc m c t.val t.isLt r q, h63]
    exact sum_tiles (X m c) (U m c) (W m c) (Cn m c) (E1 m c) (R2 m c) (E2 m c) (tok t r) q
  have hv (g : S8192x4096.Idx → EReal) : g (ix2 (tok t r) q) = (win0_7.blk t).view.read (Elt Ideal) g (ix2 r q) := congrArg g he.symm
  exact Eq.trans hs (hv (G m c))

/-- The last point of the tile of tokens that holds row `i`. -/
theorem point_lt (i : S8192x4096.Idx) : (i 0).val / 512 * 64 + 63 < cfg0.N := by
  have h0 : (i 0).val < 8192 := (i 0).isLt
  have hN : cfg0.N = 1024 := N_0
  omega

/-- Every element of the result is in a block that some point writes back. -/
theorem cover (i : S8192x4096.Idx) : ∃ t : Fin cfg0.N, (cfg0.win 7).flush t = true ∧ i ∈ ((cfg0.win 7).blk t).view.set := by
  have h := idx_facts ⟨_, point_lt i⟩
  have h1 : (i 1).val < 4096 := (i 1).isLt
  have hd : ((i 0).val / 512 * 64 + 63) / 64 = (i 0).val / 512 := by omega
  refine ⟨⟨_, point_lt i⟩, (flush0_7 _).mpr (by show ((i 0).val / 512 * 64 + 63) % 64 = 63; omega),
    Finset.mem_map.mpr ⟨_, Finset.mem_univ _, tile_emb i (win0_7.rect ⟨_, point_lt i⟩).emb (by decide) (by decide)
    (fun y => (win0_7.rect_emb_val _ y 0).trans (congrArg (· * 512 + (y 0).val) (h.2.2.2.1.1.trans hd)))
    (fun y => (win0_7.rect_emb_val _ y 1).trans (congrArg (· * 4096 + (y 1).val) (h.2.2.2.1.2.trans ?_)))⟩⟩
  exact (Nat.div_eq_of_lt h1).symm

/-! ## The reference -/

open PeerRefIdeal.Read in
/-- The reference's gates. -/
theorem ref_gate (cnt e1 r2 e2 : S8x128x8192.Idx → EReal) (n : Fin 8192) (e : Fin 16384) :
    (val_main_v13 (F := Ideal) cnt e1 r2 e2 (ix2 n e) : EReal) = gate cnt e1 r2 e2 ⟨e.val / 128, by omega⟩ ⟨e.val % 128, by omega⟩ n := by
  have hz : (id (constant PeerRefIdeal.S_ .f32 0#32 : FVec Ideal PeerRefIdeal.S_ .f32) ix0 : EReal) = 0 := by
    show Ideal.ofBits .f32 0#32 = 0
    simp [Ideal.ofBits, Ideal.ieee]
  unfold gate
  rw [← hz]
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_call0_v0, val_main_call0_v1]

open PeerRefIdeal.Read in
/-- The reference's activations, which it writes with the complementary error function of the negated product. -/
theorem ref_act (x : S8192x4096.Idx → EReal) (u : S16384x4096.Idx → EReal) (n : Fin 8192) (e : Fin 16384) :
    (val_main_v24 (F := Ideal) x u (ix2 n e) : EReal) = gelu (proj x u n e) := by
  unfold gelu proj
  rw [← Ideal.erfc_neg, ← EReal.neg_mul]
  pointwise [val_main_v24, val_main_v23, val_main_v22, val_main_v21, val_main_v20, val_main_v19, val_main_v18, val_main_v17,
    val_main_v16, val_main_v15, val_main_v14, val_main_cst_1, val_main_cst_2]

open PeerRefIdeal.Read in
/-- The reference is the layer. -/
theorem ref_eq (x : S8192x4096.Idx → EReal) (u v : S16384x4096.Idx → EReal) (cnt e1 r2 e2 : S8x128x8192.Idx → EReal) :
    val_main_v27 (F := Ideal) x u v cnt e1 r2 e2 = layer x u v cnt e1 r2 e2 := by
  funext i
  obtain ⟨n, q, rfl⟩ : ∃ (n : Fin 8192) (q : Fin 4096), i = ix2 n q := ⟨i 0, i 1, eq_ix2 i⟩
  show _ = ∑ e : Fin 16384, part x u v cnt e1 r2 e2 n q e
  unfold part
  simp only [← ref_gate, ← ref_act]
  pointwise [val_main_v27, val_main_v26, val_main_v25]

/-! ## The claims -/

/-- The tiled layer and the reference end with the same result from the same arguments. -/
theorem algebraic : Cert.algebraic_PeerIdeal_PeerRefIdeal := fun m ρ m' ρ' _ hag =>
  have ref (c : Dev nD) : PeerRefIdeal.Read.val_main_v27 (F := Ideal) (m' ((c : Thread nD τ).loc PeerRefIdeal.main_arg0))
      (m' ((c : Thread nD τ).loc PeerRefIdeal.main_arg1)) (m' ((c : Thread nD τ).loc PeerRefIdeal.main_arg2))
      (m' ((c : Thread nD τ).loc PeerRefIdeal.main_arg3)) (m' ((c : Thread nD τ).loc PeerRefIdeal.main_arg4))
      (m' ((c : Thread nD τ).loc PeerRefIdeal.main_arg5)) (m' ((c : Thread nD τ).loc PeerRefIdeal.main_arg6)) = G m c := by
    obtain ⟨e0, e1, e2, e3, e4, e5, e6⟩ := hag c
    rw [ref_eq, e0, e1, e2, e3, e4, e5, e6]
  ⟨fun c => G m c,
    (θ_run Cert.PeerIdeal.defs _ _).mono (fun _ h c => ⟨(h c).1.trans ((dats m 0 c).arrAt_eq_of_cover 7 (G m c) (flushed_eq m c) cover), (h c).2⟩)
      (Value.run_blocks (F := Ideal) m ρ),
    (θ_run Cert.PeerRefIdeal.defs _ _).mono (fun _ h c => ⟨(h c).1.trans (ref c), (h c).2⟩) (Cert.PeerRefIdeal.Value.run (F := Ideal) m' ρ')⟩

/-- The reference runs, leaves its arguments as launched, and has no semaphore to leave raised. -/
theorem frame_ref : Cert.quiescent_PeerRefIdeal := fun m ρ _ =>
  (θ_run Cert.PeerRefIdeal.defs _ _).mono (fun r h => ⟨fun c => (h c).2, sem_eq_zero_of_no_sems (by decide) r.2⟩)
    (Cert.PeerRefIdeal.Value.run (F := Ideal) m ρ)

end Cert.PeerValue

end
-- ==== Proof.lean ====
/- The claims of the calls, assembled: the frames are the generated ones, except the sample convolution's, which have a module;
   each equation of a kernel and its reference is proved in its own module. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelValue
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.MergeRefIdeal.Read
public import proofs.«01_k».proof.Proof.MergeValue
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjIdeal.Value
public import proofs.«01_k».proof.Proof.Gen.InProjRefIdeal.Run
public import proofs.«01_k».proof.Proof.Gen.InProjRefIdeal.Read
public import proofs.«01_k».proof.Proof.InProjValue
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjRefIdeal
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.OutProjValue
public import proofs.«01_k».proof.Proof.Gen.QueryProj
public import proofs.«01_k».proof.Proof.Gen.QueryProj.Frame
public import proofs.«01_k».proof.Proof.Gen.QueryProjIdeal
public import proofs.«01_k».proof.Proof.Gen.QueryProjIdeal.Frame
public import proofs.«01_k».proof.Proof.Gen.QueryProjRefIdeal
public import proofs.«01_k».proof.Proof.Gen.QueryProjIdeal.Value
public import proofs.«01_k».proof.Proof.Gen.QueryProjRefIdeal.Run
public import proofs.«01_k».proof.Proof.Gen.QueryProjRefIdeal.Read
public import proofs.«01_k».proof.Proof.QueryProjValue
public import proofs.«01_k».proof.Proof.Gen.InProjSample
public import proofs.«01_k».proof.Proof.Gen.InProjSample.Frame
public import proofs.«01_k».proof.Proof.Gen.InProjSampleIdeal
public import proofs.«01_k».proof.Proof.Gen.InProjSampleIdeal.Frame
public import proofs.«01_k».proof.Proof.Gen.InProjSampleRefIdeal
public import proofs.«01_k».proof.Proof.Gen.InProjSampleIdeal.Value
public import proofs.«01_k».proof.Proof.Gen.InProjSampleRefIdeal.Run
public import proofs.«01_k».proof.Proof.Gen.InProjSampleRefIdeal.Read
public import proofs.«01_k».proof.Proof.InProjSampleValue
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.Gen.NormIdeal.Value
public import proofs.«01_k».proof.Proof.Gen.NormRefIdeal.Run
public import proofs.«01_k».proof.Proof.Gen.NormRefIdeal.Read
public import proofs.«01_k».proof.Proof.NormValue
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvRefIdeal
public import proofs.«01_k».proof.Proof.Gen.ConvIdeal.Value
public import proofs.«01_k».proof.Proof.Gen.ConvRefIdeal.Run
public import proofs.«01_k».proof.Proof.Gen.ConvRefIdeal.Read
public import proofs.«01_k».proof.Proof.ConvValue
public import proofs.«01_k».proof.Proof.Gen.ConvSample
public import proofs.«01_k».proof.Proof.Gen.ConvSampleIdeal
public import proofs.«01_k».proof.Proof.Gen.ConvSampleRefIdeal
public import proofs.«01_k».proof.Proof.Gen.ConvSampleRefIdeal.Run
public import proofs.«01_k».proof.Proof.Gen.ConvSampleRefIdeal.Read
public import proofs.«01_k».proof.Proof.ConvSampleValue
public import proofs.«01_k».proof.Proof.Gen.NormSample
public import proofs.«01_k».proof.Proof.Gen.NormSample.Frame
public import proofs.«01_k».proof.Proof.Gen.NormSampleIdeal
public import proofs.«01_k».proof.Proof.Gen.NormSampleIdeal.Frame
public import proofs.«01_k».proof.Proof.Gen.NormSampleRefIdeal
public import proofs.«01_k».proof.Proof.Gen.NormSampleIdeal.Value
public import proofs.«01_k».proof.Proof.Gen.NormSampleRefIdeal.Run
public import proofs.«01_k».proof.Proof.Gen.NormSampleRefIdeal.Read
public import proofs.«01_k».proof.Proof.NormSampleValue
public import proofs.«01_k».proof.Proof.Gen.Moba
public import proofs.«01_k».proof.Proof.Gen.Moba.Frame
public import proofs.«01_k».proof.Proof.Gen.MobaIdeal
public import proofs.«01_k».proof.Proof.Gen.MobaIdeal.Frame
public import proofs.«01_k».proof.Proof.Gen.MobaRefIdeal
public import proofs.«01_k».proof.Proof.Gen.MobaIdeal.Value
public import proofs.«01_k».proof.Proof.Gen.MobaRefIdeal.Run
public import proofs.«01_k».proof.Proof.Gen.MobaRefIdeal.Read
public import proofs.«01_k».proof.Proof.MobaValue
public import proofs.«01_k».proof.Proof.Gen.Peer
public import proofs.«01_k».proof.Proof.Gen.Peer.Frame
public import proofs.«01_k».proof.Proof.Gen.PeerIdeal
public import proofs.«01_k».proof.Proof.Gen.PeerIdeal.Frame
public import proofs.«01_k».proof.Proof.Gen.PeerRefIdeal
public import proofs.«01_k».proof.Proof.Gen.PeerIdeal.Value
public import proofs.«01_k».proof.Proof.Gen.PeerRefIdeal.Run
public import proofs.«01_k».proof.Proof.Gen.PeerRefIdeal.Read
public import proofs.«01_k».proof.Proof.PeerValue
public import proofs.«01_k».proof.Proof.Gen.Pre_finite
public import Idealize.ShloMosaic.Adequacy
public import Idealize.ShloMosaic.Init

@[expose] public section

noncomputable section

namespace Cert.Proof

open Idealize.ShloMosaic Idealize.SL.Sem

/-- Every claim. -/
theorem claim : Cert.Claim :=
  ⟨Cert.Kernel.Gen.facts,
   Cert.KernelIdeal.Gen.facts,
   Cert.ReferenceIdeal.Gen.facts,
   Cert.Merge.Gen.facts,
   Cert.MergeIdeal.Gen.facts,
   Cert.MergeRefIdeal.Gen.facts,
   Cert.InProj.Gen.facts,
   Cert.InProjIdeal.Gen.facts,
   Cert.InProjRefIdeal.Gen.facts,
   Cert.OutProj.Gen.facts,
   Cert.OutProjIdeal.Gen.facts,
   Cert.OutProjRefIdeal.Gen.facts,
   Cert.QueryProj.Gen.facts,
   Cert.QueryProjIdeal.Gen.facts,
   Cert.QueryProjRefIdeal.Gen.facts,
   Cert.InProjSample.Gen.facts,
   Cert.InProjSampleIdeal.Gen.facts,
   Cert.InProjSampleRefIdeal.Gen.facts,
   Cert.Norm.Gen.facts,
   Cert.NormIdeal.Gen.facts,
   Cert.NormRefIdeal.Gen.facts,
   Cert.Conv.Gen.facts,
   Cert.ConvIdeal.Gen.facts,
   Cert.ConvRefIdeal.Gen.facts,
   Cert.ConvSample.Gen.facts,
   Cert.ConvSampleIdeal.Gen.facts,
   Cert.ConvSampleRefIdeal.Gen.facts,
   Cert.NormSample.Gen.facts,
   Cert.NormSampleIdeal.Gen.facts,
   Cert.NormSampleRefIdeal.Gen.facts,
   Cert.Moba.Gen.facts,
   Cert.MobaIdeal.Gen.facts,
   Cert.MobaRefIdeal.Gen.facts,
   Cert.Peer.Gen.facts,
   Cert.PeerIdeal.Gen.facts,
   Cert.PeerRefIdeal.Gen.facts,
   Cert.Pre_finite.Gen.facts,
   fun m ρ _ => Cert.Kernel.Gen.frame m ρ,
   fun m ρ _ => Cert.KernelIdeal.Gen.frame m ρ,
   Cert.KernelValue.frame_ref,
   fun m ρ _ => Cert.Merge.Gen.frame m ρ,
   fun m ρ _ => Cert.MergeIdeal.Gen.frame m ρ,
   Cert.MergeValue.frame_ref,
   fun m ρ _ => Cert.InProj.Gen.frame m ρ,
   fun m ρ _ => Cert.InProjIdeal.Gen.frame m ρ,
   Cert.InProjValue.frame_ref,
   fun m ρ _ => Cert.OutProj.Gen.frame m ρ,
   fun m ρ _ => Cert.OutProjIdeal.Gen.frame m ρ,
   Cert.OutProjValue.frame_ref,
   fun m ρ _ => Cert.QueryProj.Gen.frame m ρ,
   fun m ρ _ => Cert.QueryProjIdeal.Gen.frame m ρ,
   Cert.QueryProjValue.frame_ref,
   fun m ρ _ => Cert.InProjSample.Gen.frame m ρ,
   fun m ρ _ => Cert.InProjSampleIdeal.Gen.frame m ρ,
   Cert.InProjSampleValue.frame_ref,
   fun m ρ _ => Cert.Norm.Gen.frame m ρ,
   fun m ρ _ => Cert.NormIdeal.Gen.frame m ρ,
   Cert.NormValue.frame_ref,
   fun m ρ _ => Cert.Conv.Gen.frame m ρ,
   fun m ρ _ => Cert.ConvIdeal.Gen.frame m ρ,
   Cert.ConvValue.frame_ref,
   Cert.ConvSampleFrame.frame_bits,
   Cert.ConvSampleFrame.frame_ideal,
   Cert.ConvSampleValue.frame_ref,
   fun m ρ _ => Cert.NormSample.Gen.frame m ρ,
   fun m ρ _ => Cert.NormSampleIdeal.Gen.frame m ρ,
   Cert.NormSampleValue.frame_ref,
   fun m ρ _ => Cert.Moba.Gen.frame m ρ,
   fun m ρ _ => Cert.MobaIdeal.Gen.frame m ρ,
   fun m ρ _ => Cert.MobaIdeal.Gen.frame m ρ,
   Cert.MobaValue.frame_ref,
   fun m ρ _ => Cert.MobaValue.frame_ref m ρ trivial,
   fun m ρ _ => Cert.Peer.Gen.frame m ρ,
   fun m ρ _ => Cert.PeerIdeal.Gen.frame m ρ,
   Cert.PeerValue.frame_ref,
   trivial,
   Cert.KernelValue.algebraic,
   trivial,
   Cert.MergeValue.algebraic,
   trivial,
   Cert.InProjValue.algebraic,
   trivial,
   Cert.OutProjValue.algebraic,
   trivial,
   Cert.QueryProjValue.algebraic,
   trivial,
   Cert.InProjSampleValue.algebraic,
   trivial,
   Cert.NormValue.algebraic,
   trivial,
   Cert.ConvValue.algebraic,
   trivial,
   Cert.ConvSampleValue.algebraic,
   trivial,
   Cert.NormSampleValue.algebraic,
   trivial,
   Cert.MobaValue.algebraic,
   trivial,
   Cert.PeerValue.algebraic⟩

end Cert.Proof

end
